-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S256x256 : Shape := ⟨2, ![256, 256]⟩
abbrev S256 : Shape := ⟨1, ![256]⟩
abbrev S32000x512 : Shape := ⟨2, ![32000, 512]⟩
abbrev S10x128 : Shape := ⟨2, ![10, 128]⟩
abbrev S512x2048 : Shape := ⟨2, ![512, 2048]⟩
abbrev S2048 : Shape := ⟨1, ![2048]⟩
abbrev S1024x2048 : Shape := ⟨2, ![1024, 2048]⟩
abbrev S1152x1024 : Shape := ⟨2, ![1152, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S256x256 : S_.BroadcastsInDim S256x256 (![] : Fin 0 → Fin S256x256.rank)
  bcast_S_S256 : S_.BroadcastsInDim S256 (![] : Fin 0 → Fin S256.rank)
  bcast_S_S2048 : S_.BroadcastsInDim S2048 (![] : Fin 0 → Fin S2048.rank)

variable [Facts]

def fn_part1 {F : FTy → Type} [FloatOps F] (main_arg15 : FVec F S2048 .f32) (main_v4 : IVec S256x256 1) (main_v9 : IVec S256 1) (main_v11 : IVec S2048 1) (main_v13 : IVec S2048 1) (main_v15 : IVec S2048 1) (main_cst_5 : FVec F S_ .f32) : IVec S256x256 1 × IVec S256 1 × IVec S2048 1 × IVec S2048 1 × IVec S2048 1 × IVec S2048 1 :=
  let main_v16 : FVec F S2048 .f32 := broadcastInDim S2048 ![] bcast_S_S2048 main_cst_5
  let main_v17 : IVec S2048 1 := cmpf .oeq main_arg15 main_v16
  (main_v4, main_v9, main_v11, main_v13, main_v15, main_v17)

def fn {F : FTy → Type} [FloatOps F] (main_arg0 : IVec S256x256 32) (main_arg1 : IVec S256 32) (main_arg2 : FVec F S32000x512 .f32) (main_arg3 : FVec F S10x128 .f32) (main_arg4 : FVec F S512x2048 .f32) (main_arg5 : FVec F S512x2048 .f32) (main_arg6 : FVec F S2048 .f32) (main_arg7 : FVec F S512x2048 .f32) (main_arg8 : FVec F S512x2048 .f32) (main_arg9 : FVec F S2048 .f32) (main_arg10 : FVec F S1024x2048 .f32) (main_arg11 : FVec F S512x2048 .f32) (main_arg12 : FVec F S2048 .f32) (main_arg13 : FVec F S1024x2048 .f32) (main_arg14 : FVec F S512x2048 .f32) (main_arg15 : FVec F S2048 .f32) (main_arg16 : FVec F S1152x1024 .f32) (main_arg17 : FVec F S1024 .f32) (main_arg18 : FVec F S1024x512 .f32) (main_arg19 : FVec F S512 .f32) (main_arg20 : FVec F S512x1 .f32) (main_arg21 : FVec F S1 .f32) : IVec S256x256 1 × IVec S256 1 × IVec S2048 1 × IVec S2048 1 × IVec S2048 1 × IVec S2048 1 :=
  let main_c : IVec S_ 32 := constantI S_ 32 0#32
  let main_v0 : IVec S256x256 32 := broadcastInDim S256x256 ![] bcast_S_S256x256 main_c
  let main_v1 : IVec S256x256 1 := cmpi .sge main_arg0 main_v0
  let main_c_0 : IVec S_ 32 := constantI S_ 32 32000#32
  let main_v2 : IVec S256x256 32 := broadcastInDim S256x256 ![] bcast_S_S256x256 main_c_0
  let main_v3 : IVec S256x256 1 := cmpi .slt main_arg0 main_v2
  let main_v4 : IVec S256x256 1 := andi main_v1 main_v3
  let main_c_1 : IVec S_ 32 := constantI S_ 32 0#32
  let main_v5 : IVec S256 32 := broadcastInDim S256 ![] bcast_S_S256 main_c_1
  let main_v6 : IVec S256 1 := cmpi .sge main_arg1 main_v5
  let main_c_2 : IVec S_ 32 := constantI S_ 32 10#32
  let main_v7 : IVec S256 32 := broadcastInDim S256 ![] bcast_S_S256 main_c_2
  let main_v8 : IVec S256 1 := cmpi .slt main_arg1 main_v7
  let main_v9 : IVec S256 1 := andi main_v6 main_v8
  let main_cst : FVec F S_ .f32 := constant S_ .f32 0x00000000#32
  let main_v10 : FVec F S2048 .f32 := broadcastInDim S2048 ![] bcast_S_S2048 main_cst
  let main_v11 : IVec S2048 1 := cmpf .oeq main_arg6 main_v10
  let main_cst_3 : FVec F S_ .f32 := constant S_ .f32 0x00000000#32
  let main_v12 : FVec F S2048 .f32 := broadcastInDim S2048 ![] bcast_S_S2048 main_cst_3
  let main_v13 : IVec S2048 1 := cmpf .oeq main_arg9 main_v12
  let main_cst_4 : FVec F S_ .f32 := constant S_ .f32 0x00000000#32
  let main_v14 : FVec F S2048 .f32 := broadcastInDim S2048 ![] bcast_S_S2048 main_cst_4
  let main_v15 : IVec S2048 1 := cmpf .oeq main_arg12 main_v14
  let main_cst_5 : FVec F S_ .f32 := constant S_ .f32 0x00000000#32
  fn_part1 (F := F) main_arg15 main_v4 main_v9 main_v11 main_v13 main_v15 main_cst_5
-- ==== Kernel.lean ====
abbrev S256x256 : Shape := ⟨2, ![256, 256]⟩
abbrev S256 : Shape := ⟨1, ![256]⟩
abbrev S32000x512 : Shape := ⟨2, ![32000, 512]⟩
abbrev S10x128 : Shape := ⟨2, ![10, 128]⟩
abbrev S512x2048 : Shape := ⟨2, ![512, 2048]⟩
abbrev S2048 : Shape := ⟨1, ![2048]⟩
abbrev S1024x2048 : Shape := ⟨2, ![1024, 2048]⟩
abbrev S1152x1024 : Shape := ⟨2, ![1152, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S256x256x1 : Shape := ⟨3, ![256, 256, 1]⟩
abbrev S1x1x1 : Shape := ⟨3, ![1, 1, 1]⟩
abbrev S256x256x512 : Shape := ⟨3, ![256, 256, 512]⟩
abbrev S1x1024x2048 : Shape := ⟨3, ![1, 1024, 2048]⟩
abbrev S2x1024x2048 : Shape := ⟨3, ![2, 1024, 2048]⟩
abbrev S2x1024x512 : Shape := ⟨3, ![2, 1024, 512]⟩
abbrev S1536x2048 : Shape := ⟨2, ![1536, 2048]⟩
abbrev S1x1536x2048 : Shape := ⟨3, ![1, 1536, 2048]⟩
abbrev S2x1536x2048 : Shape := ⟨3, ![2, 1536, 2048]⟩
abbrev S2x1536x512 : Shape := ⟨3, ![2, 1536, 512]⟩
abbrev S4x256x512 : Shape := ⟨3, ![4, 256, 512]⟩
abbrev S4x256x1 : Shape := ⟨3, ![4, 256, 1]⟩
abbrev S256x512 : Shape := ⟨2, ![256, 512]⟩
abbrev S1x256x512 : Shape := ⟨3, ![1, 256, 512]⟩
abbrev S1x256x1 : Shape := ⟨3, ![1, 256, 1]⟩
abbrev S256x1 : Shape := ⟨2, ![256, 1]⟩
abbrev S256x1024 : Shape := ⟨2, ![256, 1024]⟩
abbrev S1024x1024 : Shape := ⟨2, ![1024, 1024]⟩
abbrev S256x1536 : Shape := ⟨2, ![256, 1536]⟩
abbrev S1536x1024 : Shape := ⟨2, ![1536, 1024]⟩
abbrev S16x128 : Shape := ⟨2, ![16, 128]⟩
abbrev S512x128 : Shape := ⟨2, ![512, 128]⟩
abbrev S128x1024 : Shape := ⟨2, ![128, 1024]⟩
abbrev S1x1024 : Shape := ⟨2, ![1, 1024]⟩
abbrev S1x512 : Shape := ⟨2, ![1, 512]⟩
abbrev S1x1 : Shape := ⟨2, ![1, 1]⟩
abbrev S256x16 : Shape := ⟨2, ![256, 16]⟩
abbrev S256x128 : Shape := ⟨2, ![256, 128]⟩

abbrev nBuf : Space → Nat
  | .hbm => 95
  | .vmem => 48
  | .smem => 0
  | _ => 0

abbrev bufTy : (tb : Table) → Fin (tcTables nBuf tb) → BufTy
  | .hbm, ⟨0, _⟩ => ⟨S256x256, .i32⟩
  | .hbm, ⟨1, _⟩ => ⟨S256, .i32⟩
  | .hbm, ⟨2, _⟩ => ⟨S32000x512, .f32⟩
  | .hbm, ⟨3, _⟩ => ⟨S10x128, .f32⟩
  | .hbm, ⟨4, _⟩ => ⟨S512x2048, .f32⟩
  | .hbm, ⟨5, _⟩ => ⟨S512x2048, .f32⟩
  | .hbm, ⟨6, _⟩ => ⟨S2048, .f32⟩
  | .hbm, ⟨7, _⟩ => ⟨S512x2048, .f32⟩
  | .hbm, ⟨8, _⟩ => ⟨S512x2048, .f32⟩
  | .hbm, ⟨9, _⟩ => ⟨S2048, .f32⟩
  | .hbm, ⟨10, _⟩ => ⟨S1024x2048, .f32⟩
  | .hbm, ⟨11, _⟩ => ⟨S512x2048, .f32⟩
  | .hbm, ⟨12, _⟩ => ⟨S2048, .f32⟩
  | .hbm, ⟨13, _⟩ => ⟨S1024x2048, .f32⟩
  | .hbm, ⟨14, _⟩ => ⟨S512x2048, .f32⟩
  | .hbm, ⟨15, _⟩ => ⟨S2048, .f32⟩
  | .hbm, ⟨16, _⟩ => ⟨S1152x1024, .f32⟩
  | .hbm, ⟨17, _⟩ => ⟨S1024, .f32⟩
  | .hbm, ⟨18, _⟩ => ⟨S1024x512, .f32⟩
  | .hbm, ⟨19, _⟩ => ⟨S512, .f32⟩
  | .hbm, ⟨20, _⟩ => ⟨S512x1, .f32⟩
  | .hbm, ⟨21, _⟩ => ⟨S1, .f32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256x1, .i32⟩
  | .hbm, ⟨31, _⟩ => ⟨S1, .i32⟩
  | .hbm, ⟨32, _⟩ => ⟨S_, .i32⟩
  | .hbm, ⟨33, _⟩ => ⟨S256x256x1, .i32⟩
  | .hbm, ⟨34, _⟩ => ⟨S256x256x1, .i1⟩
  | .hbm, ⟨35, _⟩ => ⟨S1x1x1, .i32⟩
  | .hbm, ⟨36, _⟩ => ⟨S256x256x1, .i32⟩
  | .hbm, ⟨37, _⟩ => ⟨S256x256x1, .i1⟩
  | .hbm, ⟨38, _⟩ => ⟨S256x256x1, .i1⟩
  | .hbm, ⟨39, _⟩ => ⟨S_, .i1⟩
  | .hbm, ⟨40, _⟩ => ⟨S256x256, .i1⟩
  | .hbm, ⟨41, _⟩ => ⟨S256x256x512, .f32⟩
  | .hbm, ⟨42, _⟩ => ⟨S256x256x512, .i1⟩
  | .hbm, ⟨43, _⟩ => ⟨S_, .f32⟩
  | .hbm, ⟨44, _⟩ => ⟨S256x256x512, .f32⟩
  | .hbm, ⟨45, _⟩ => ⟨S256x256x512, .f32⟩
  | .hbm, ⟨46, _⟩ => ⟨S256x256x1, .i32⟩
  | .hbm, ⟨47, _⟩ => ⟨S1024x2048, .f32⟩
  | .hbm, ⟨48, _⟩ => ⟨S1024x2048, .f32⟩
  | .hbm, ⟨49, _⟩ => ⟨S1x1024x2048, .f32⟩
  | .hbm, ⟨50, _⟩ => ⟨S1x1024x2048, .f32⟩
  | .hbm, ⟨51, _⟩ => ⟨S2x1024x2048, .f32⟩
  | .hbm, ⟨52, _⟩ => ⟨S2x1024x512, .f32⟩
  | .hbm, ⟨53, _⟩ => ⟨S2x1024x512, .f32⟩
  | .hbm, ⟨54, _⟩ => ⟨S2x1024x512, .f32⟩
  | .hbm, ⟨55, _⟩ => ⟨S2x1024x512, .f32⟩
  | .hbm, ⟨56, _⟩ => ⟨S2x1024x2048, .f32⟩
  | .hbm, ⟨57, _⟩ => ⟨S2x1024x2048, .fp8e4m3⟩
  | .hbm, ⟨58, _⟩ => ⟨S1536x2048, .f32⟩
  | .hbm, ⟨59, _⟩ => ⟨S1536x2048, .f32⟩
  | .hbm, ⟨60, _⟩ => ⟨S1x1536x2048, .f32⟩
  | .hbm, ⟨61, _⟩ => ⟨S1x1536x2048, .f32⟩
  | .hbm, ⟨62, _⟩ => ⟨S2x1536x2048, .f32⟩
  | .hbm, ⟨63, _⟩ => ⟨S2x1536x512, .f32⟩
  | .hbm, ⟨64, _⟩ => ⟨S2x1536x512, .f32⟩
  | .hbm, ⟨65, _⟩ => ⟨S2x1536x512, .f32⟩
  | .hbm, ⟨66, _⟩ => ⟨S2x1536x512, .f32⟩
  | .hbm, ⟨67, _⟩ => ⟨S2x1536x2048, .f32⟩
  | .hbm, ⟨68, _⟩ => ⟨S2x1536x2048, .fp8e4m3⟩
  | .hbm, ⟨69, _⟩ => ⟨S256x256x512, .fp8e4m3⟩
  | .hbm, ⟨70, _⟩ => ⟨S256x256x512, .fp8e4m3⟩
  | .hbm, ⟨71, _⟩ => ⟨S256x512, .bf16⟩
  | .hbm, ⟨72, _⟩ => ⟨S256x512, .bf16⟩
  | .hbm, ⟨73, _⟩ => ⟨S_, .f32⟩
  | .hbm, ⟨74, _⟩ => ⟨S16x128, .f32⟩
  | .hbm, ⟨75, _⟩ => ⟨S_, .i32⟩
  | .hbm, ⟨76, _⟩ => ⟨S1, .i32⟩
  | .hbm, ⟨77, _⟩ => ⟨S16x128, .f32⟩
  | .hbm, ⟨78, _⟩ => ⟨S16x128, .bf16⟩
  | .hbm, ⟨79, _⟩ => ⟨S_, .f32⟩
  | .hbm, ⟨80, _⟩ => ⟨S512x128, .f32⟩
  | .hbm, ⟨81, _⟩ => ⟨S_, .i32⟩
  | .hbm, ⟨82, _⟩ => ⟨S1, .i32⟩
  | .hbm, ⟨83, _⟩ => ⟨S512x128, .f32⟩
  | .hbm, ⟨84, _⟩ => ⟨S512x128, .bf16⟩
  | .hbm, ⟨85, _⟩ => ⟨S256x1, .i32⟩
  | .hbm, ⟨86, _⟩ => ⟨S1024x1024, .f32⟩
  | .hbm, ⟨87, _⟩ => ⟨S1024x1024, .bf16⟩
  | .hbm, ⟨88, _⟩ => ⟨S128x1024, .f32⟩
  | .hbm, ⟨89, _⟩ => ⟨S128x1024, .bf16⟩
  | .hbm, ⟨90, _⟩ => ⟨S1x1024, .f32⟩
  | .hbm, ⟨91, _⟩ => ⟨S1024x512, .bf16⟩
  | .hbm, ⟨92, _⟩ => ⟨S1x512, .f32⟩
  | .hbm, ⟨93, _⟩ => ⟨S1x1, .f32⟩
  | .hbm, ⟨94, _⟩ => ⟨S256x1, .f32⟩
  | .local _ .vmem, ⟨0, _⟩ => ⟨S4x256x512, .f32⟩
  | .local _ .vmem, ⟨1, _⟩ => ⟨S4x256x512, .f32⟩
  | .local _ .vmem, ⟨2, _⟩ => ⟨S4x256x512, .f32⟩
  | .local _ .vmem, ⟨3, _⟩ => ⟨S4x256x512, .f32⟩
  | .local _ .vmem, ⟨4, _⟩ => ⟨S4x256x1, .i32⟩
  | .local _ .vmem, ⟨5, _⟩ => ⟨S4x256x1, .i32⟩
  | .local _ .vmem, ⟨6, _⟩ => ⟨S4x256x1, .i32⟩
  | .local _ .vmem, ⟨7, _⟩ => ⟨S4x256x1, .i32⟩
  | .local _ .vmem, ⟨8, _⟩ => ⟨S2x1024x2048, .fp8e4m3⟩
  | .local _ .vmem, ⟨9, _⟩ => ⟨S4x256x512, .fp8e4m3⟩
  | .local _ .vmem, ⟨10, _⟩ => ⟨S4x256x512, .fp8e4m3⟩
  | .local _ .vmem, ⟨11, _⟩ => ⟨S4x256x512, .fp8e4m3⟩
  | .local _ .vmem, ⟨12, _⟩ => ⟨S4x256x512, .fp8e4m3⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S4x256x512, .fp8e4m3⟩
  | .local _ .vmem, ⟨18, _⟩ => ⟨S4x256x512, .fp8e4m3⟩
  | .local _ .vmem, ⟨19, _⟩ => ⟨S4x256x512, .fp8e4m3⟩
  | .local _ .vmem, ⟨20, _⟩ => ⟨S4x256x512, .fp8e4m3⟩
  | .local _ .vmem, ⟨21, _⟩ => ⟨S4x256x512, .fp8e4m3⟩
  | .local _ .vmem, ⟨22, _⟩ => ⟨S4x256x512, .fp8e4m3⟩
  | .local _ .vmem, ⟨23, _⟩ => ⟨S4x256x512, .fp8e4m3⟩
  | .local _ .vmem, ⟨24, _⟩ => ⟨S4x256x512, .fp8e4m3⟩
  | .local _ .vmem, ⟨25, _⟩ => ⟨S4x256x1, .i32⟩
  | .local _ .vmem, ⟨26, _⟩ => ⟨S4x256x1, .i32⟩
  | .local _ .vmem, ⟨27, _⟩ => ⟨S4x256x1, .i32⟩
  | .local _ .vmem, ⟨28, _⟩ => ⟨S4x256x1, .i32⟩
  | .local _ .vmem, ⟨29, _⟩ => ⟨S2x1536x2048, .fp8e4m3⟩
  | .local _ .vmem, ⟨30, _⟩ => ⟨S256x512, .bf16⟩
  | .local _ .vmem, ⟨31, _⟩ => ⟨S256x512, .bf16⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .bf16⟩
  | .local _ .vmem, ⟨37, _⟩ => ⟨S256x512, .bf16⟩
  | .local _ .vmem, ⟨38, _⟩ => ⟨S256x1, .i32⟩
  | .local _ .vmem, ⟨39, _⟩ => ⟨S16x128, .bf16⟩
  | .local _ .vmem, ⟨40, _⟩ => ⟨S1024x1024, .bf16⟩
  | .local _ .vmem, ⟨41, _⟩ => ⟨S128x1024, .bf16⟩
  | .local _ .vmem, ⟨42, _⟩ => ⟨S1x1024, .f32⟩
  | .local _ .vmem, ⟨43, _⟩ => ⟨S1024x512, .bf16⟩
  | .local _ .vmem, ⟨44, _⟩ => ⟨S1x512, .f32⟩
  | .local _ .vmem, ⟨45, _⟩ => ⟨S512x128, .bf16⟩
  | .local _ .vmem, ⟨46, _⟩ => ⟨S1x1, .f32⟩
  | .local _ .vmem, ⟨47, _⟩ => ⟨S256x1, .f32⟩
  | _, _ => ⟨S256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25_0 : Ref sig .tc := ⟨.hbm, 69, rfl⟩
abbrev main_v25_1 : Ref sig .tc := ⟨.hbm, 70, rfl⟩
abbrev main_v26_0 : Ref sig .tc := ⟨.hbm, 71, rfl⟩
abbrev main_v26_1 : Ref sig .tc := ⟨.hbm, 72, rfl⟩
abbrev main_cst : Ref sig .tc := ⟨.hbm, 73, rfl⟩
abbrev main_v27 : Ref sig .tc := ⟨.hbm, 74, rfl⟩
abbrev main_c : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_0 : Ref sig .tc := ⟨.hbm, 79, rfl⟩
abbrev main_v31 : Ref sig .tc := ⟨.hbm, 80, rfl⟩
abbrev main_c_1 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc1_scratch3 : Ref sig .tc := ⟨.vmem, 35, rfl⟩
abbrev cc2_stg0_0 : Ref sig .tc := ⟨.vmem, 36, rfl⟩
abbrev cc2_stg1_0 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg11_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem8_0 : DmaSem sig := 27
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem11_0 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v443 : BitVec 1 := Scalar.cmpi .eq arg0 c63_i32
  let v444 : BitVec 32 := Scalar.extui v443
  let c0_i32_204 : BitVec 32 := 0#32
  let v445 : BitVec 1 := Scalar.cmpi .ne v444 c0_i32_204
  v445

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x256x512 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x256x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x256x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2x1536x2048 .fp8e4m3 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := .none

abbrev stage2_0 : Fin 1 → Memref sig .tc .vmem S256x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1024x512 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S512x128 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S256x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
-- ==== ReferenceIdeal.lean ====
abbrev S256x256 : Shape := ⟨2, ![256, 256]⟩
abbrev S256 : Shape := ⟨1, ![256]⟩
abbrev S32000x512 : Shape := ⟨2, ![32000, 512]⟩
abbrev S10x128 : Shape := ⟨2, ![10, 128]⟩
abbrev S512x2048 : Shape := ⟨2, ![512, 2048]⟩
abbrev S2048 : Shape := ⟨1, ![2048]⟩
abbrev S1024x2048 : Shape := ⟨2, ![1024, 2048]⟩
abbrev S1152x1024 : Shape := ⟨2, ![1152, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S256x256x1 : Shape := ⟨3, ![256, 256, 1]⟩
abbrev S256x256x512 : Shape := ⟨3, ![256, 256, 512]⟩
abbrev S256x256x2048 : Shape := ⟨3, ![256, 256, 2048]⟩
abbrev S1x1x2048 : Shape := ⟨3, ![1, 1, 2048]⟩
abbrev S256x512 : Shape := ⟨2, ![256, 512]⟩
abbrev S1x256x2048 : Shape := ⟨3, ![1, 256, 2048]⟩
abbrev S256x2048 : Shape := ⟨2, ![256, 2048]⟩
abbrev S1x256 : Shape := ⟨2, ![1, 256]⟩
abbrev S256x1 : Shape := ⟨2, ![256, 1]⟩
abbrev S1x256x512 : Shape := ⟨3, ![1, 256, 512]⟩
abbrev S256x256x1024 : Shape := ⟨3, ![256, 256, 1024]⟩
abbrev S256x1024 : Shape := ⟨2, ![256, 1024]⟩
abbrev S256x128 : Shape := ⟨2, ![256, 128]⟩
abbrev S256x1152 : Shape := ⟨2, ![256, 1152]⟩
abbrev S1x1024 : Shape := ⟨2, ![1, 1024]⟩
abbrev S1x512 : Shape := ⟨2, ![1, 512]⟩
abbrev S1x1 : Shape := ⟨2, ![1, 1]⟩

abbrev nBuf : Space → Nat
  | .hbm => 377
  | .vmem => 0
  | .smem => 0
  | _ => 0

abbrev hbmTy0_0 (i : Nat) : BufTy := match i % 128 with
  | 0 => ⟨S256x256, .i32⟩
  | 1 => ⟨S256, .i32⟩
  | 2 => ⟨S32000x512, .f32⟩
  | 3 => ⟨S10x128, .f32⟩
  | 4 => ⟨S512x2048, .f32⟩
  | 5 => ⟨S512x2048, .f32⟩
  | 6 => ⟨S2048, .f32⟩
  | 7 => ⟨S512x2048, .f32⟩
  | 8 => ⟨S512x2048, .f32⟩
  | 9 => ⟨S2048, .f32⟩
  | 10 => ⟨S1024x2048, .f32⟩
  | 11 => ⟨S512x2048, .f32⟩
  | 12 => ⟨S2048, .f32⟩
  | 13 => ⟨S1024x2048, .f32⟩
  | 14 => ⟨S512x2048, .f32⟩
  | 15 => ⟨S2048, .f32⟩
  | 16 => ⟨S1152x1024, .f32⟩
  | 17 => ⟨S1024, .f32⟩
  | 18 => ⟨S1024x512, .f32⟩
  | 19 => ⟨S512, .f32⟩
  | 20 => ⟨S512x1, .f32⟩
  | 21 => ⟨S1, .f32⟩
  | 22 => ⟨S_, .i32⟩
  | 23 => ⟨S256x256, .i32⟩
  | 24 => ⟨S256x256, .i1⟩
  | 25 => ⟨S_, .i32⟩
  | 26 => ⟨S256x256, .i32⟩
  | 27 => ⟨S256x256, .i1⟩
  | 28 => ⟨S_, .i32⟩
  | 29 => ⟨S256x256, .i32⟩
  | 30 => ⟨S256x256, .i32⟩
  | 31 => ⟨S256x256, .i32⟩
  | 32 => ⟨S256x256x1, .i32⟩
  | 33 => ⟨S256x256x512, .f32⟩
  | 34 => ⟨S256x256x2048, .f32⟩
  | 35 => ⟨S1x1x2048, .f32⟩
  | 36 => ⟨S256x256x2048, .f32⟩
  | 37 => ⟨S256x256x2048, .f32⟩
  | 38 => ⟨S256x256x2048, .f32⟩
  | 39 => ⟨S256x256, .i1⟩
  | 40 => ⟨S_, .f32⟩
  | 41 => ⟨S256x512, .f32⟩
  | 42 => ⟨S_, .f32⟩
  | 43 => ⟨S256x256x512, .f32⟩
  | 44 => ⟨S_, .i32⟩
  | 45 => ⟨S256x256x2048, .f32⟩
  | 46 => ⟨S256x256, .i1⟩
  | 47 => ⟨S512x2048, .f32⟩
  | 48 => ⟨S_, .i32⟩
  | 49 => ⟨S256x512, .f32⟩
  | 50 => ⟨S256x512, .f32⟩
  | 51 => ⟨S256x256x512, .f32⟩
  | 52 => ⟨S_, .i32⟩
  | 53 => ⟨S_, .i1⟩
  | 54 => ⟨S_, .i32⟩
  | 55 => ⟨S_, .i32⟩
  | 56 => ⟨S1x256x2048, .f32⟩
  | 57 => ⟨S256x2048, .f32⟩
  | 58 => ⟨S_, .i32⟩
  | 59 => ⟨S1x256, .i1⟩
  | 60 => ⟨S256, .i1⟩
  | 61 => ⟨S256x2048, .f32⟩
  | 62 => ⟨S256x2048, .f32⟩
  | 63 => ⟨S256x512, .f32⟩
  | 64 => ⟨S256x512, .f32⟩
  | 65 => ⟨S256x512, .f32⟩
  | 66 => ⟨S256x512, .f32⟩
  | 67 => ⟨S256x512, .f32⟩
  | 68 => ⟨S256x512, .f32⟩
  | 69 => ⟨S_, .f32⟩
  | 70 => ⟨S256x512, .f32⟩
  | 71 => ⟨S256x512, .f32⟩
  | 72 => ⟨S_, .f32⟩
  | 73 => ⟨S256x512, .f32⟩
  | 74 => ⟨S256x512, .f32⟩
  | 75 => ⟨S256x512, .f32⟩
  | 76 => ⟨S256x512, .f32⟩
  | 77 => ⟨S256x512, .f32⟩
  | 78 => ⟨S_, .f32⟩
  | 79 => ⟨S256x512, .f32⟩
  | 80 => ⟨S256x512, .f32⟩
  | 81 => ⟨S_, .f32⟩
  | 82 => ⟨S256x512, .f32⟩
  | 83 => ⟨S256x512, .f32⟩
  | 84 => ⟨S256x512, .f32⟩
  | 85 => ⟨S256x512, .f32⟩
  | 86 => ⟨S256x512, .f32⟩
  | 87 => ⟨S256x512, .f32⟩
  | 88 => ⟨S256x512, .f32⟩
  | 89 => ⟨S_, .f32⟩
  | 90 => ⟨S256x512, .f32⟩
  | 91 => ⟨S256x512, .f32⟩
  | 92 => ⟨S_, .f32⟩
  | 93 => ⟨S256x512, .f32⟩
  | 94 => ⟨S256x512, .f32⟩
  | 95 => ⟨S256x512, .f32⟩
  | 96 => ⟨S256x512, .f32⟩
  | 97 => ⟨S256x1, .i1⟩
  | 98 => ⟨S256x512, .i1⟩
  | 99 => ⟨S256x512, .f32⟩
  | 100 => ⟨S256x512, .i1⟩
  | 101 => ⟨S256x512, .f32⟩
  | 102 => ⟨S1x256x512, .f32⟩
  | 103 => ⟨S_, .i32⟩
  | 104 => ⟨S_, .i32⟩
  | 105 => ⟨S256x256x512, .f32⟩
  | 106 => ⟨S_, .i32⟩
  | 107 => ⟨S_, .i32⟩
  | 108 => ⟨S256x256x512, .f32⟩
  | 109 => ⟨S256x256x512, .f32⟩
  | 110 => ⟨S256x256, .i1⟩
  | 111 => ⟨S256x256x2048, .f32⟩
  | 112 => ⟨S1x1x2048, .f32⟩
  | 113 => ⟨S256x256x2048, .f32⟩
  | 114 => ⟨S256x256x2048, .f32⟩
  | 115 => ⟨S256x256x2048, .f32⟩
  | 116 => ⟨S256x256, .i1⟩
  | 117 => ⟨S_, .f32⟩
  | 118 => ⟨S256x512, .f32⟩
  | 119 => ⟨S_, .f32⟩
  | 120 => ⟨S256x256x512, .f32⟩
  | 121 => ⟨S_, .i32⟩
  | 122 => ⟨S256x256x2048, .f32⟩
  | 123 => ⟨S256x256, .i1⟩
  | 124 => ⟨S512x2048, .f32⟩
  | 125 => ⟨S_, .i32⟩
  | 126 => ⟨S256x512, .f32⟩
  | 127 => ⟨S256x512, .f32⟩
  | _ => ⟨S256x256, .i32⟩

abbrev hbmTy0_1 (i : Nat) : BufTy := match i % 128 with
  | 0 => ⟨S256x256x512, .f32⟩
  | 1 => ⟨S_, .i32⟩
  | 2 => ⟨S_, .i1⟩
  | 3 => ⟨S_, .i32⟩
  | 4 => ⟨S_, .i32⟩
  | 5 => ⟨S1x256x2048, .f32⟩
  | 6 => ⟨S256x2048, .f32⟩
  | 7 => ⟨S_, .i32⟩
  | 8 => ⟨S1x256, .i1⟩
  | 9 => ⟨S256, .i1⟩
  | 10 => ⟨S256x2048, .f32⟩
  | 11 => ⟨S256x2048, .f32⟩
  | 12 => ⟨S256x512, .f32⟩
  | 13 => ⟨S256x512, .f32⟩
  | 14 => ⟨S256x512, .f32⟩
  | 15 => ⟨S256x512, .f32⟩
  | 16 => ⟨S256x512, .f32⟩
  | 17 => ⟨S256x512, .f32⟩
  | 18 => ⟨S_, .f32⟩
  | 19 => ⟨S256x512, .f32⟩
  | 20 => ⟨S256x512, .f32⟩
  | 21 => ⟨S_, .f32⟩
  | 22 => ⟨S256x512, .f32⟩
  | 23 => ⟨S256x512, .f32⟩
  | 24 => ⟨S256x512, .f32⟩
  | 25 => ⟨S256x512, .f32⟩
  | 26 => ⟨S256x512, .f32⟩
  | 27 => ⟨S_, .f32⟩
  | 28 => ⟨S256x512, .f32⟩
  | 29 => ⟨S256x512, .f32⟩
  | 30 => ⟨S_, .f32⟩
  | 31 => ⟨S256x512, .f32⟩
  | 32 => ⟨S256x512, .f32⟩
  | 33 => ⟨S256x512, .f32⟩
  | 34 => ⟨S256x512, .f32⟩
  | 35 => ⟨S256x512, .f32⟩
  | 36 => ⟨S256x512, .f32⟩
  | 37 => ⟨S256x512, .f32⟩
  | 38 => ⟨S_, .f32⟩
  | 39 => ⟨S256x512, .f32⟩
  | 40 => ⟨S256x512, .f32⟩
  | 41 => ⟨S_, .f32⟩
  | 42 => ⟨S256x512, .f32⟩
  | 43 => ⟨S256x512, .f32⟩
  | 44 => ⟨S256x512, .f32⟩
  | 45 => ⟨S256x512, .f32⟩
  | 46 => ⟨S256x1, .i1⟩
  | 47 => ⟨S256x512, .i1⟩
  | 48 => ⟨S256x512, .f32⟩
  | 49 => ⟨S256x512, .i1⟩
  | 50 => ⟨S256x512, .f32⟩
  | 51 => ⟨S1x256x512, .f32⟩
  | 52 => ⟨S_, .i32⟩
  | 53 => ⟨S_, .i32⟩
  | 54 => ⟨S256x256x512, .f32⟩
  | 55 => ⟨S_, .i32⟩
  | 56 => ⟨S_, .i32⟩
  | 57 => ⟨S256x256x512, .f32⟩
  | 58 => ⟨S256x256x512, .f32⟩
  | 59 => ⟨S256x256x1024, .f32⟩
  | 60 => ⟨S256x256x2048, .f32⟩
  | 61 => ⟨S1x1x2048, .f32⟩
  | 62 => ⟨S256x256x2048, .f32⟩
  | 63 => ⟨S256x256x2048, .f32⟩
  | 64 => ⟨S256x256x2048, .f32⟩
  | 65 => ⟨S256x256, .i1⟩
  | 66 => ⟨S_, .f32⟩
  | 67 => ⟨S256x512, .f32⟩
  | 68 => ⟨S_, .f32⟩
  | 69 => ⟨S256x256x512, .f32⟩
  | 70 => ⟨S_, .i32⟩
  | 71 => ⟨S256x256x2048, .f32⟩
  | 72 => ⟨S256x256, .i1⟩
  | 73 => ⟨S512x2048, .f32⟩
  | 74 => ⟨S_, .i32⟩
  | 75 => ⟨S256x512, .f32⟩
  | 76 => ⟨S256x512, .f32⟩
  | 77 => ⟨S256x256x512, .f32⟩
  | 78 => ⟨S_, .i32⟩
  | 79 => ⟨S_, .i1⟩
  | 80 => ⟨S_, .i32⟩
  | 81 => ⟨S_, .i32⟩
  | 82 => ⟨S1x256x2048, .f32⟩
  | 83 => ⟨S256x2048, .f32⟩
  | 84 => ⟨S_, .i32⟩
  | 85 => ⟨S1x256, .i1⟩
  | 86 => ⟨S256, .i1⟩
  | 87 => ⟨S256x2048, .f32⟩
  | 88 => ⟨S256x2048, .f32⟩
  | 89 => ⟨S256x512, .f32⟩
  | 90 => ⟨S256x512, .f32⟩
  | 91 => ⟨S256x512, .f32⟩
  | 92 => ⟨S256x512, .f32⟩
  | 93 => ⟨S256x512, .f32⟩
  | 94 => ⟨S256x512, .f32⟩
  | 95 => ⟨S_, .f32⟩
  | 96 => ⟨S256x512, .f32⟩
  | 97 => ⟨S256x512, .f32⟩
  | 98 => ⟨S_, .f32⟩
  | 99 => ⟨S256x512, .f32⟩
  | 100 => ⟨S256x512, .f32⟩
  | 101 => ⟨S256x512, .f32⟩
  | 102 => ⟨S256x512, .f32⟩
  | 103 => ⟨S256x512, .f32⟩
  | 104 => ⟨S_, .f32⟩
  | 105 => ⟨S256x512, .f32⟩
  | 106 => ⟨S256x512, .f32⟩
  | 107 => ⟨S_, .f32⟩
  | 108 => ⟨S256x512, .f32⟩
  | 109 => ⟨S256x512, .f32⟩
  | 110 => ⟨S256x512, .f32⟩
  | 111 => ⟨S256x512, .f32⟩
  | 112 => ⟨S256x512, .f32⟩
  | 113 => ⟨S256x512, .f32⟩
  | 114 => ⟨S256x512, .f32⟩
  | 115 => ⟨S_, .f32⟩
  | 116 => ⟨S256x512, .f32⟩
  | 117 => ⟨S256x512, .f32⟩
  | 118 => ⟨S_, .f32⟩
  | 119 => ⟨S256x512, .f32⟩
  | 120 => ⟨S256x512, .f32⟩
  | 121 => ⟨S256x512, .f32⟩
  | 122 => ⟨S256x512, .f32⟩
  | 123 => ⟨S256x1, .i1⟩
  | 124 => ⟨S256x512, .i1⟩
  | 125 => ⟨S256x512, .f32⟩
  | 126 => ⟨S256x512, .i1⟩
  | 127 => ⟨S256x512, .f32⟩
  | _ => ⟨S256x256, .i32⟩

abbrev hbmTy0_2 (i : Nat) : BufTy := match i % 128 with
  | 0 => ⟨S1x256x512, .f32⟩
  | 1 => ⟨S_, .i32⟩
  | 2 => ⟨S_, .i32⟩
  | 3 => ⟨S256x256x512, .f32⟩
  | 4 => ⟨S_, .i32⟩
  | 5 => ⟨S_, .i32⟩
  | 6 => ⟨S256x256x512, .f32⟩
  | 7 => ⟨S256x256x1024, .f32⟩
  | 8 => ⟨S256x256, .i1⟩
  | 9 => ⟨S256x256x2048, .f32⟩
  | 10 => ⟨S1x1x2048, .f32⟩
  | 11 => ⟨S256x256x2048, .f32⟩
  | 12 => ⟨S256x256x2048, .f32⟩
  | 13 => ⟨S256x256x2048, .f32⟩
  | 14 => ⟨S256x256, .i1⟩
  | 15 => ⟨S_, .f32⟩
  | 16 => ⟨S256x512, .f32⟩
  | 17 => ⟨S_, .f32⟩
  | 18 => ⟨S256x256x512, .f32⟩
  | 19 => ⟨S_, .i32⟩
  | 20 => ⟨S256x256x2048, .f32⟩
  | 21 => ⟨S256x256, .i1⟩
  | 22 => ⟨S512x2048, .f32⟩
  | 23 => ⟨S_, .i32⟩
  | 24 => ⟨S256x512, .f32⟩
  | 25 => ⟨S256x512, .f32⟩
  | 26 => ⟨S256x256x512, .f32⟩
  | 27 => ⟨S_, .i32⟩
  | 28 => ⟨S_, .i1⟩
  | 29 => ⟨S_, .i32⟩
  | 30 => ⟨S_, .i32⟩
  | 31 => ⟨S1x256x2048, .f32⟩
  | 32 => ⟨S256x2048, .f32⟩
  | 33 => ⟨S_, .i32⟩
  | 34 => ⟨S1x256, .i1⟩
  | 35 => ⟨S256, .i1⟩
  | 36 => ⟨S256x2048, .f32⟩
  | 37 => ⟨S256x2048, .f32⟩
  | 38 => ⟨S256x512, .f32⟩
  | 39 => ⟨S256x512, .f32⟩
  | 40 => ⟨S256x512, .f32⟩
  | 41 => ⟨S256x512, .f32⟩
  | 42 => ⟨S256x512, .f32⟩
  | 43 => ⟨S256x512, .f32⟩
  | 44 => ⟨S_, .f32⟩
  | 45 => ⟨S256x512, .f32⟩
  | 46 => ⟨S256x512, .f32⟩
  | 47 => ⟨S_, .f32⟩
  | 48 => ⟨S256x512, .f32⟩
  | 49 => ⟨S256x512, .f32⟩
  | 50 => ⟨S256x512, .f32⟩
  | 51 => ⟨S256x512, .f32⟩
  | 52 => ⟨S256x512, .f32⟩
  | 53 => ⟨S_, .f32⟩
  | 54 => ⟨S256x512, .f32⟩
  | 55 => ⟨S256x512, .f32⟩
  | 56 => ⟨S_, .f32⟩
  | 57 => ⟨S256x512, .f32⟩
  | 58 => ⟨S256x512, .f32⟩
  | 59 => ⟨S256x512, .f32⟩
  | 60 => ⟨S256x512, .f32⟩
  | 61 => ⟨S256x512, .f32⟩
  | 62 => ⟨S256x512, .f32⟩
  | 63 => ⟨S256x512, .f32⟩
  | 64 => ⟨S_, .f32⟩
  | 65 => ⟨S256x512, .f32⟩
  | 66 => ⟨S256x512, .f32⟩
  | 67 => ⟨S_, .f32⟩
  | 68 => ⟨S256x512, .f32⟩
  | 69 => ⟨S256x512, .f32⟩
  | 70 => ⟨S256x512, .f32⟩
  | 71 => ⟨S256x512, .f32⟩
  | 72 => ⟨S256x1, .i1⟩
  | 73 => ⟨S256x512, .i1⟩
  | 74 => ⟨S256x512, .f32⟩
  | 75 => ⟨S256x512, .i1⟩
  | 76 => ⟨S256x512, .f32⟩
  | 77 => ⟨S1x256x512, .f32⟩
  | 78 => ⟨S_, .i32⟩
  | 79 => ⟨S_, .i32⟩
  | 80 => ⟨S256x256x512, .f32⟩
  | 81 => ⟨S_, .i32⟩
  | 82 => ⟨S_, .i32⟩
  | 83 => ⟨S256x256x512, .f32⟩
  | 84 => ⟨S256x1024, .f32⟩
  | 85 => ⟨S_, .i32⟩
  | 86 => ⟨S256, .i32⟩
  | 87 => ⟨S256, .i1⟩
  | 88 => ⟨S_, .i32⟩
  | 89 => ⟨S256, .i32⟩
  | 90 => ⟨S256, .i32⟩
  | 91 => ⟨S256, .i32⟩
  | 92 => ⟨S256x1, .i32⟩
  | 93 => ⟨S256x128, .f32⟩
  | 94 => ⟨S256x1152, .f32⟩
  | 95 => ⟨S256x1024, .f32⟩
  | 96 => ⟨S1x1024, .f32⟩
  | 97 => ⟨S256x1024, .f32⟩
  | 98 => ⟨S256x1024, .f32⟩
  | 99 => ⟨S_, .f32⟩
  | 100 => ⟨S256x1024, .f32⟩
  | 101 => ⟨S256x1024, .f32⟩
  | 102 => ⟨S256x512, .f32⟩
  | 103 => ⟨S1x512, .f32⟩
  | 104 => ⟨S256x512, .f32⟩
  | 105 => ⟨S256x512, .f32⟩
  | 106 => ⟨S_, .f32⟩
  | 107 => ⟨S256x512, .f32⟩
  | 108 => ⟨S256x512, .f32⟩
  | 109 => ⟨S256x1, .f32⟩
  | 110 => ⟨S1x1, .f32⟩
  | 111 => ⟨S256x1, .f32⟩
  | 112 => ⟨S256x1, .f32⟩
  | 113 => ⟨S256x1, .f32⟩
  | 114 => ⟨S256x1, .f32⟩
  | 115 => ⟨S_, .f32⟩
  | 116 => ⟨S256x1, .f32⟩
  | 117 => ⟨S256x1, .f32⟩
  | 118 => ⟨S_, .f32⟩
  | 119 => ⟨S256x1, .f32⟩
  | 120 => ⟨S256x1, .f32⟩
  | _ => ⟨S256x256, .i32⟩

abbrev hbmTy (i : Nat) : BufTy := match i / 128 with
  | 0 => hbmTy0_0 i
  | 1 => hbmTy0_1 i
  | 2 => hbmTy0_2 i
  | _ => ⟨S256x256, .i32⟩

abbrev bufTy : (tb : Table) → Fin (tcTables nBuf tb) → BufTy
  | .hbm, ⟨i, _⟩ => hbmTy i
  | _, _ => ⟨S256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_c_3 : Ref sig .tc := ⟨.hbm, 44, rfl⟩
abbrev main_v17_0 : Ref sig .tc := ⟨.hbm, 45, rfl⟩
abbrev main_v17_1 : Ref sig .tc := ⟨.hbm, 46, rfl⟩
abbrev main_v17_2 : Ref sig .tc := ⟨.hbm, 47, rfl⟩
abbrev main_v17_3 : Ref sig .tc := ⟨.hbm, 48, rfl⟩
abbrev main_v17_4 : Ref sig .tc := ⟨.hbm, 49, rfl⟩
abbrev main_v17_5 : Ref sig .tc := ⟨.hbm, 50, rfl⟩
abbrev main_v17_6 : Ref sig .tc := ⟨.hbm, 51, rfl⟩
abbrev main_while0c_c_23 : Ref sig .tc := ⟨.hbm, 52, rfl⟩
abbrev main_while0c_v84 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_v0 : Ref sig .tc := ⟨.hbm, 56, rfl⟩
abbrev main_while0b_v84 : Ref sig .tc := ⟨.hbm, 57, rfl⟩
abbrev main_while0b_call1_c : Ref sig .tc := ⟨.hbm, 58, rfl⟩
abbrev main_while0b_call1_v0 : Ref sig .tc := ⟨.hbm, 59, rfl⟩
abbrev main_while0b_v85 : Ref sig .tc := ⟨.hbm, 60, rfl⟩
abbrev main_while0b_v86 : Ref sig .tc := ⟨.hbm, 61, rfl⟩
abbrev main_while0b_v87 : Ref sig .tc := ⟨.hbm, 62, rfl⟩
abbrev main_while0b_v88 : Ref sig .tc := ⟨.hbm, 63, rfl⟩
abbrev main_while0b_v89 : Ref sig .tc := ⟨.hbm, 64, rfl⟩
abbrev main_while0b_v90 : Ref sig .tc := ⟨.hbm, 65, rfl⟩
abbrev main_while0b_v91 : Ref sig .tc := ⟨.hbm, 66, rfl⟩
abbrev main_while0b_v92 : Ref sig .tc := ⟨.hbm, 67, rfl⟩
abbrev main_while0b_v93 : Ref sig .tc := ⟨.hbm, 68, rfl⟩
abbrev main_while0b_cst_23 : Ref sig .tc := ⟨.hbm, 69, rfl⟩
abbrev main_while0b_v94 : Ref sig .tc := ⟨.hbm, 70, rfl⟩
abbrev main_while0b_v95 : Ref sig .tc := ⟨.hbm, 71, rfl⟩
abbrev main_while0b_cst_24 : Ref sig .tc := ⟨.hbm, 72, rfl⟩
abbrev main_while0b_v96 : Ref sig .tc := ⟨.hbm, 73, rfl⟩
abbrev main_while0b_v97 : Ref sig .tc := ⟨.hbm, 74, rfl⟩
abbrev main_while0b_v98 : Ref sig .tc := ⟨.hbm, 75, rfl⟩
abbrev main_while0b_v99 : Ref sig .tc := ⟨.hbm, 76, rfl⟩
abbrev main_while0b_v100 : Ref sig .tc := ⟨.hbm, 77, rfl⟩
abbrev main_while0b_cst_25 : Ref sig .tc := ⟨.hbm, 78, rfl⟩
abbrev main_while0b_v101 : Ref sig .tc := ⟨.hbm, 79, rfl⟩
abbrev main_while0b_v102 : Ref sig .tc := ⟨.hbm, 80, rfl⟩
abbrev main_while0b_cst_26 : Ref sig .tc := ⟨.hbm, 81, rfl⟩
abbrev main_while0b_v103 : Ref sig .tc := ⟨.hbm, 82, rfl⟩
abbrev main_while0b_v104 : Ref sig .tc := ⟨.hbm, 83, rfl⟩
abbrev main_while0b_v105 : Ref sig .tc := ⟨.hbm, 84, rfl⟩
abbrev main_while0b_v106 : Ref sig .tc := ⟨.hbm, 85, rfl⟩
abbrev main_while0b_v107 : Ref sig .tc := ⟨.hbm, 86, rfl⟩
abbrev main_while0b_v108 : Ref sig .tc := ⟨.hbm, 87, rfl⟩
abbrev main_while0b_v109 : Ref sig .tc := ⟨.hbm, 88, rfl⟩
abbrev main_while0b_cst_27 : Ref sig .tc := ⟨.hbm, 89, rfl⟩
abbrev main_while0b_v110 : Ref sig .tc := ⟨.hbm, 90, rfl⟩
abbrev main_while0b_v111 : Ref sig .tc := ⟨.hbm, 91, rfl⟩
abbrev main_while0b_cst_28 : Ref sig .tc := ⟨.hbm, 92, rfl⟩
abbrev main_while0b_v112 : Ref sig .tc := ⟨.hbm, 93, rfl⟩
abbrev main_while0b_v113 : Ref sig .tc := ⟨.hbm, 94, rfl⟩
abbrev main_while0b_v114 : Ref sig .tc := ⟨.hbm, 95, rfl⟩
abbrev main_while0b_v115 : Ref sig .tc := ⟨.hbm, 96, rfl⟩
abbrev main_while0b_v116 : Ref sig .tc := ⟨.hbm, 97, rfl⟩
abbrev main_while0b_call2_v0 : Ref sig .tc := ⟨.hbm, 98, rfl⟩
abbrev main_while0b_v117 : Ref sig .tc := ⟨.hbm, 99, rfl⟩
abbrev main_while0b_call3_v0 : Ref sig .tc := ⟨.hbm, 100, rfl⟩
abbrev main_while0b_v118 : Ref sig .tc := ⟨.hbm, 101, rfl⟩
abbrev main_while0b_call4_v0 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_v119 : Ref sig .tc := ⟨.hbm, 105, rfl⟩
abbrev main_while0b_c_29 : Ref sig .tc := ⟨.hbm, 106, rfl⟩
abbrev main_while0b_v120 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_cst_4 : Ref sig .tc := ⟨.hbm, 117, rfl⟩
abbrev main_v27 : Ref sig .tc := ⟨.hbm, 118, rfl⟩
abbrev main_cst_5 : Ref sig .tc := ⟨.hbm, 119, rfl⟩
abbrev main_v28 : Ref sig .tc := ⟨.hbm, 120, rfl⟩
abbrev main_c_6 : Ref sig .tc := ⟨.hbm, 121, rfl⟩
abbrev main_v29_0 : Ref sig .tc := ⟨.hbm, 122, rfl⟩
abbrev main_v29_1 : Ref sig .tc := ⟨.hbm, 123, rfl⟩
abbrev main_v29_2 : Ref sig .tc := ⟨.hbm, 124, rfl⟩
abbrev main_v29_3 : Ref sig .tc := ⟨.hbm, 125, rfl⟩
abbrev main_v29_4 : Ref sig .tc := ⟨.hbm, 126, rfl⟩
abbrev main_v29_5 : Ref sig .tc := ⟨.hbm, 127, rfl⟩
abbrev main_v29_6 : Ref sig .tc := ⟨.hbm, 128, rfl⟩
abbrev main_while1c_c_23 : Ref sig .tc := ⟨.hbm, 129, rfl⟩
abbrev main_while1c_v84 : Ref sig .tc := ⟨.hbm, 130, rfl⟩
abbrev main_while1b_call5_c : Ref sig .tc := ⟨.hbm, 131, rfl⟩
abbrev main_while1b_call5_c_0 : Ref sig .tc := ⟨.hbm, 132, rfl⟩
abbrev main_while1b_call5_v0 : Ref sig .tc := ⟨.hbm, 133, rfl⟩
abbrev main_while1b_v84 : Ref sig .tc := ⟨.hbm, 134, rfl⟩
abbrev main_while1b_call6_c : Ref sig .tc := ⟨.hbm, 135, rfl⟩
abbrev main_while1b_call6_v0 : Ref sig .tc := ⟨.hbm, 136, rfl⟩
abbrev main_while1b_v85 : Ref sig .tc := ⟨.hbm, 137, rfl⟩
abbrev main_while1b_v86 : Ref sig .tc := ⟨.hbm, 138, rfl⟩
abbrev main_while1b_v87 : Ref sig .tc := ⟨.hbm, 139, rfl⟩
abbrev main_while1b_v88 : Ref sig .tc := ⟨.hbm, 140, rfl⟩
abbrev main_while1b_v89 : Ref sig .tc := ⟨.hbm, 141, rfl⟩
abbrev main_while1b_v90 : Ref sig .tc := ⟨.hbm, 142, rfl⟩
abbrev main_while1b_v91 : Ref sig .tc := ⟨.hbm, 143, rfl⟩
abbrev main_while1b_v92 : Ref sig .tc := ⟨.hbm, 144, rfl⟩
abbrev main_while1b_v93 : Ref sig .tc := ⟨.hbm, 145, rfl⟩
abbrev main_while1b_cst_23 : Ref sig .tc := ⟨.hbm, 146, rfl⟩
abbrev main_while1b_v94 : Ref sig .tc := ⟨.hbm, 147, rfl⟩
abbrev main_while1b_v95 : Ref sig .tc := ⟨.hbm, 148, rfl⟩
abbrev main_while1b_cst_24 : Ref sig .tc := ⟨.hbm, 149, rfl⟩
abbrev main_while1b_v96 : Ref sig .tc := ⟨.hbm, 150, rfl⟩
abbrev main_while1b_v97 : Ref sig .tc := ⟨.hbm, 151, rfl⟩
abbrev main_while1b_v98 : Ref sig .tc := ⟨.hbm, 152, rfl⟩
abbrev main_while1b_v99 : Ref sig .tc := ⟨.hbm, 153, rfl⟩
abbrev main_while1b_v100 : Ref sig .tc := ⟨.hbm, 154, rfl⟩
abbrev main_while1b_cst_25 : Ref sig .tc := ⟨.hbm, 155, rfl⟩
abbrev main_while1b_v101 : Ref sig .tc := ⟨.hbm, 156, rfl⟩
abbrev main_while1b_v102 : Ref sig .tc := ⟨.hbm, 157, rfl⟩
abbrev main_while1b_cst_26 : Ref sig .tc := ⟨.hbm, 158, rfl⟩
abbrev main_while1b_v103 : Ref sig .tc := ⟨.hbm, 159, rfl⟩
abbrev main_while1b_v104 : Ref sig .tc := ⟨.hbm, 160, rfl⟩
abbrev main_while1b_v105 : Ref sig .tc := ⟨.hbm, 161, rfl⟩
abbrev main_while1b_v106 : Ref sig .tc := ⟨.hbm, 162, rfl⟩
abbrev main_while1b_v107 : Ref sig .tc := ⟨.hbm, 163, rfl⟩
abbrev main_while1b_v108 : Ref sig .tc := ⟨.hbm, 164, rfl⟩
abbrev main_while1b_v109 : Ref sig .tc := ⟨.hbm, 165, rfl⟩
abbrev main_while1b_cst_27 : Ref sig .tc := ⟨.hbm, 166, rfl⟩
abbrev main_while1b_v110 : Ref sig .tc := ⟨.hbm, 167, rfl⟩
abbrev main_while1b_v111 : Ref sig .tc := ⟨.hbm, 168, rfl⟩
abbrev main_while1b_cst_28 : Ref sig .tc := ⟨.hbm, 169, rfl⟩
abbrev main_while1b_v112 : Ref sig .tc := ⟨.hbm, 170, rfl⟩
abbrev main_while1b_v113 : Ref sig .tc := ⟨.hbm, 171, rfl⟩
abbrev main_while1b_v114 : Ref sig .tc := ⟨.hbm, 172, rfl⟩
abbrev main_while1b_v115 : Ref sig .tc := ⟨.hbm, 173, rfl⟩
abbrev main_while1b_v116 : Ref sig .tc := ⟨.hbm, 174, rfl⟩
abbrev main_while1b_call7_v0 : Ref sig .tc := ⟨.hbm, 175, rfl⟩
abbrev main_while1b_v117 : Ref sig .tc := ⟨.hbm, 176, rfl⟩
abbrev main_while1b_call8_v0 : Ref sig .tc := ⟨.hbm, 177, rfl⟩
abbrev main_while1b_v118 : Ref sig .tc := ⟨.hbm, 178, rfl⟩
abbrev main_while1b_call9_v0 : Ref sig .tc := ⟨.hbm, 179, rfl⟩
abbrev main_while1b_call9_c : Ref sig .tc := ⟨.hbm, 180, rfl⟩
abbrev main_while1b_call9_c_0 : Ref sig .tc := ⟨.hbm, 181, rfl⟩
abbrev main_while1b_v119 : Ref sig .tc := ⟨.hbm, 182, rfl⟩
abbrev main_while1b_c_29 : Ref sig .tc := ⟨.hbm, 183, rfl⟩
abbrev main_while1b_v120 : Ref sig .tc := ⟨.hbm, 184, rfl⟩
abbrev main_v30 : Ref sig .tc := ⟨.hbm, 185, rfl⟩
abbrev main_v31 : Ref sig .tc := ⟨.hbm, 186, rfl⟩
abbrev main_v32 : Ref sig .tc := ⟨.hbm, 187, rfl⟩
abbrev main_v33 : Ref sig .tc := ⟨.hbm, 188, rfl⟩
abbrev main_v34 : Ref sig .tc := ⟨.hbm, 189, rfl⟩
abbrev main_v35 : Ref sig .tc := ⟨.hbm, 190, rfl⟩
abbrev main_v36 : Ref sig .tc := ⟨.hbm, 191, rfl⟩
abbrev main_v37 : Ref sig .tc := ⟨.hbm, 192, rfl⟩
abbrev main_v38 : Ref sig .tc := ⟨.hbm, 193, rfl⟩
abbrev main_cst_7 : Ref sig .tc := ⟨.hbm, 194, rfl⟩
abbrev main_v39 : Ref sig .tc := ⟨.hbm, 195, rfl⟩
abbrev main_cst_8 : Ref sig .tc := ⟨.hbm, 196, rfl⟩
abbrev main_v40 : Ref sig .tc := ⟨.hbm, 197, rfl⟩
abbrev main_c_9 : Ref sig .tc := ⟨.hbm, 198, rfl⟩
abbrev main_v41_0 : Ref sig .tc := ⟨.hbm, 199, rfl⟩
abbrev main_v41_1 : Ref sig .tc := ⟨.hbm, 200, rfl⟩
abbrev main_v41_2 : Ref sig .tc := ⟨.hbm, 201, rfl⟩
abbrev main_v41_3 : Ref sig .tc := ⟨.hbm, 202, rfl⟩
abbrev main_v41_4 : Ref sig .tc := ⟨.hbm, 203, rfl⟩
abbrev main_v41_5 : Ref sig .tc := ⟨.hbm, 204, rfl⟩
abbrev main_v41_6 : Ref sig .tc := ⟨.hbm, 205, rfl⟩
abbrev main_while2c_c_23 : Ref sig .tc := ⟨.hbm, 206, rfl⟩
abbrev main_while2c_v84 : Ref sig .tc := ⟨.hbm, 207, rfl⟩
abbrev main_while2b_call10_c : Ref sig .tc := ⟨.hbm, 208, rfl⟩
abbrev main_while2b_call10_c_0 : Ref sig .tc := ⟨.hbm, 209, rfl⟩
abbrev main_while2b_call10_v0 : Ref sig .tc := ⟨.hbm, 210, rfl⟩
abbrev main_while2b_v84 : Ref sig .tc := ⟨.hbm, 211, rfl⟩
abbrev main_while2b_call11_c : Ref sig .tc := ⟨.hbm, 212, rfl⟩
abbrev main_while2b_call11_v0 : Ref sig .tc := ⟨.hbm, 213, rfl⟩
abbrev main_while2b_v85 : Ref sig .tc := ⟨.hbm, 214, rfl⟩
abbrev main_while2b_v86 : Ref sig .tc := ⟨.hbm, 215, rfl⟩
abbrev main_while2b_v87 : Ref sig .tc := ⟨.hbm, 216, rfl⟩
abbrev main_while2b_v88 : Ref sig .tc := ⟨.hbm, 217, rfl⟩
abbrev main_while2b_v89 : Ref sig .tc := ⟨.hbm, 218, rfl⟩
abbrev main_while2b_v90 : Ref sig .tc := ⟨.hbm, 219, rfl⟩
abbrev main_while2b_v91 : Ref sig .tc := ⟨.hbm, 220, rfl⟩
abbrev main_while2b_v92 : Ref sig .tc := ⟨.hbm, 221, rfl⟩
abbrev main_while2b_v93 : Ref sig .tc := ⟨.hbm, 222, rfl⟩
abbrev main_while2b_cst_23 : Ref sig .tc := ⟨.hbm, 223, rfl⟩
abbrev main_while2b_v94 : Ref sig .tc := ⟨.hbm, 224, rfl⟩
abbrev main_while2b_v95 : Ref sig .tc := ⟨.hbm, 225, rfl⟩
abbrev main_while2b_cst_24 : Ref sig .tc := ⟨.hbm, 226, rfl⟩
abbrev main_while2b_v96 : Ref sig .tc := ⟨.hbm, 227, rfl⟩
abbrev main_while2b_v97 : Ref sig .tc := ⟨.hbm, 228, rfl⟩
abbrev main_while2b_v98 : Ref sig .tc := ⟨.hbm, 229, rfl⟩
abbrev main_while2b_v99 : Ref sig .tc := ⟨.hbm, 230, rfl⟩
abbrev main_while2b_v100 : Ref sig .tc := ⟨.hbm, 231, rfl⟩
abbrev main_while2b_cst_25 : Ref sig .tc := ⟨.hbm, 232, rfl⟩
abbrev main_while2b_v101 : Ref sig .tc := ⟨.hbm, 233, rfl⟩
abbrev main_while2b_v102 : Ref sig .tc := ⟨.hbm, 234, rfl⟩
abbrev main_while2b_cst_26 : Ref sig .tc := ⟨.hbm, 235, rfl⟩
abbrev main_while2b_v103 : Ref sig .tc := ⟨.hbm, 236, rfl⟩
abbrev main_while2b_v104 : Ref sig .tc := ⟨.hbm, 237, rfl⟩
abbrev main_while2b_v105 : Ref sig .tc := ⟨.hbm, 238, rfl⟩
abbrev main_while2b_v106 : Ref sig .tc := ⟨.hbm, 239, rfl⟩
abbrev main_while2b_v107 : Ref sig .tc := ⟨.hbm, 240, rfl⟩
abbrev main_while2b_v108 : Ref sig .tc := ⟨.hbm, 241, rfl⟩
abbrev main_while2b_v109 : Ref sig .tc := ⟨.hbm, 242, rfl⟩
abbrev main_while2b_cst_27 : Ref sig .tc := ⟨.hbm, 243, rfl⟩
abbrev main_while2b_v110 : Ref sig .tc := ⟨.hbm, 244, rfl⟩
abbrev main_while2b_v111 : Ref sig .tc := ⟨.hbm, 245, rfl⟩
abbrev main_while2b_cst_28 : Ref sig .tc := ⟨.hbm, 246, rfl⟩
abbrev main_while2b_v112 : Ref sig .tc := ⟨.hbm, 247, rfl⟩
abbrev main_while2b_v113 : Ref sig .tc := ⟨.hbm, 248, rfl⟩
abbrev main_while2b_v114 : Ref sig .tc := ⟨.hbm, 249, rfl⟩
abbrev main_while2b_v115 : Ref sig .tc := ⟨.hbm, 250, rfl⟩
abbrev main_while2b_v116 : Ref sig .tc := ⟨.hbm, 251, rfl⟩
abbrev main_while2b_call12_v0 : Ref sig .tc := ⟨.hbm, 252, rfl⟩
abbrev main_while2b_v117 : Ref sig .tc := ⟨.hbm, 253, rfl⟩
abbrev main_while2b_call13_v0 : Ref sig .tc := ⟨.hbm, 254, rfl⟩
abbrev main_while2b_v118 : Ref sig .tc := ⟨.hbm, 255, rfl⟩
abbrev main_while2b_call14_v0 : Ref sig .tc := ⟨.hbm, 256, rfl⟩
abbrev main_while2b_call14_c : Ref sig .tc := ⟨.hbm, 257, rfl⟩
abbrev main_while2b_call14_c_0 : Ref sig .tc := ⟨.hbm, 258, rfl⟩
abbrev main_while2b_v119 : Ref sig .tc := ⟨.hbm, 259, rfl⟩
abbrev main_while2b_c_29 : Ref sig .tc := ⟨.hbm, 260, rfl⟩
abbrev main_while2b_v120 : Ref sig .tc := ⟨.hbm, 261, rfl⟩
abbrev main_v42 : Ref sig .tc := ⟨.hbm, 262, rfl⟩
abbrev main_v43 : Ref sig .tc := ⟨.hbm, 263, rfl⟩
abbrev main_v44 : Ref sig .tc := ⟨.hbm, 264, rfl⟩
abbrev main_v45 : Ref sig .tc := ⟨.hbm, 265, rfl⟩
abbrev main_v46 : Ref sig .tc := ⟨.hbm, 266, rfl⟩
abbrev main_v47 : Ref sig .tc := ⟨.hbm, 267, rfl⟩
abbrev main_v48 : Ref sig .tc := ⟨.hbm, 268, rfl⟩
abbrev main_v49 : Ref sig .tc := ⟨.hbm, 269, rfl⟩
abbrev main_v50 : Ref sig .tc := ⟨.hbm, 270, rfl⟩
abbrev main_cst_10 : Ref sig .tc := ⟨.hbm, 271, rfl⟩
abbrev main_v51 : Ref sig .tc := ⟨.hbm, 272, rfl⟩
abbrev main_cst_11 : Ref sig .tc := ⟨.hbm, 273, rfl⟩
abbrev main_v52 : Ref sig .tc := ⟨.hbm, 274, rfl⟩
abbrev main_c_12 : Ref sig .tc := ⟨.hbm, 275, rfl⟩
abbrev main_v53_0 : Ref sig .tc := ⟨.hbm, 276, rfl⟩
abbrev main_v53_1 : Ref sig .tc := ⟨.hbm, 277, rfl⟩
abbrev main_v53_2 : Ref sig .tc := ⟨.hbm, 278, rfl⟩
abbrev main_v53_3 : Ref sig .tc := ⟨.hbm, 279, rfl⟩
abbrev main_v53_4 : Ref sig .tc := ⟨.hbm, 280, rfl⟩
abbrev main_v53_5 : Ref sig .tc := ⟨.hbm, 281, rfl⟩
abbrev main_v53_6 : Ref sig .tc := ⟨.hbm, 282, rfl⟩
abbrev main_while3c_c_23 : Ref sig .tc := ⟨.hbm, 283, rfl⟩
abbrev main_while3c_v84 : Ref sig .tc := ⟨.hbm, 284, rfl⟩
abbrev main_while3b_call15_c : Ref sig .tc := ⟨.hbm, 285, rfl⟩
abbrev main_while3b_call15_c_0 : Ref sig .tc := ⟨.hbm, 286, rfl⟩
abbrev main_while3b_call15_v0 : Ref sig .tc := ⟨.hbm, 287, rfl⟩
abbrev main_while3b_v84 : Ref sig .tc := ⟨.hbm, 288, rfl⟩
abbrev main_while3b_call16_c : Ref sig .tc := ⟨.hbm, 289, rfl⟩
abbrev main_while3b_call16_v0 : Ref sig .tc := ⟨.hbm, 290, rfl⟩
abbrev main_while3b_v85 : Ref sig .tc := ⟨.hbm, 291, rfl⟩
abbrev main_while3b_v86 : Ref sig .tc := ⟨.hbm, 292, rfl⟩
abbrev main_while3b_v87 : Ref sig .tc := ⟨.hbm, 293, rfl⟩
abbrev main_while3b_v88 : Ref sig .tc := ⟨.hbm, 294, rfl⟩
abbrev main_while3b_v89 : Ref sig .tc := ⟨.hbm, 295, rfl⟩
abbrev main_while3b_v90 : Ref sig .tc := ⟨.hbm, 296, rfl⟩
abbrev main_while3b_v91 : Ref sig .tc := ⟨.hbm, 297, rfl⟩
abbrev main_while3b_v92 : Ref sig .tc := ⟨.hbm, 298, rfl⟩
abbrev main_while3b_v93 : Ref sig .tc := ⟨.hbm, 299, rfl⟩
abbrev main_while3b_cst_23 : Ref sig .tc := ⟨.hbm, 300, rfl⟩
abbrev main_while3b_v94 : Ref sig .tc := ⟨.hbm, 301, rfl⟩
abbrev main_while3b_v95 : Ref sig .tc := ⟨.hbm, 302, rfl⟩
abbrev main_while3b_cst_24 : Ref sig .tc := ⟨.hbm, 303, rfl⟩
abbrev main_while3b_v96 : Ref sig .tc := ⟨.hbm, 304, rfl⟩
abbrev main_while3b_v97 : Ref sig .tc := ⟨.hbm, 305, rfl⟩
abbrev main_while3b_v98 : Ref sig .tc := ⟨.hbm, 306, rfl⟩
abbrev main_while3b_v99 : Ref sig .tc := ⟨.hbm, 307, rfl⟩
abbrev main_while3b_v100 : Ref sig .tc := ⟨.hbm, 308, rfl⟩
abbrev main_while3b_cst_25 : Ref sig .tc := ⟨.hbm, 309, rfl⟩
abbrev main_while3b_v101 : Ref sig .tc := ⟨.hbm, 310, rfl⟩
abbrev main_while3b_v102 : Ref sig .tc := ⟨.hbm, 311, rfl⟩
abbrev main_while3b_cst_26 : Ref sig .tc := ⟨.hbm, 312, rfl⟩
abbrev main_while3b_v103 : Ref sig .tc := ⟨.hbm, 313, rfl⟩
abbrev main_while3b_v104 : Ref sig .tc := ⟨.hbm, 314, rfl⟩
abbrev main_while3b_v105 : Ref sig .tc := ⟨.hbm, 315, rfl⟩
abbrev main_while3b_v106 : Ref sig .tc := ⟨.hbm, 316, rfl⟩
abbrev main_while3b_v107 : Ref sig .tc := ⟨.hbm, 317, rfl⟩
abbrev main_while3b_v108 : Ref sig .tc := ⟨.hbm, 318, rfl⟩
abbrev main_while3b_v109 : Ref sig .tc := ⟨.hbm, 319, rfl⟩
abbrev main_while3b_cst_27 : Ref sig .tc := ⟨.hbm, 320, rfl⟩
abbrev main_while3b_v110 : Ref sig .tc := ⟨.hbm, 321, rfl⟩
abbrev main_while3b_v111 : Ref sig .tc := ⟨.hbm, 322, rfl⟩
abbrev main_while3b_cst_28 : Ref sig .tc := ⟨.hbm, 323, rfl⟩
abbrev main_while3b_v112 : Ref sig .tc := ⟨.hbm, 324, rfl⟩
abbrev main_while3b_v113 : Ref sig .tc := ⟨.hbm, 325, rfl⟩
abbrev main_while3b_v114 : Ref sig .tc := ⟨.hbm, 326, rfl⟩
abbrev main_while3b_v115 : Ref sig .tc := ⟨.hbm, 327, rfl⟩
abbrev main_while3b_v116 : Ref sig .tc := ⟨.hbm, 328, rfl⟩
abbrev main_while3b_call17_v0 : Ref sig .tc := ⟨.hbm, 329, rfl⟩
abbrev main_while3b_v117 : Ref sig .tc := ⟨.hbm, 330, rfl⟩
abbrev main_while3b_call18_v0 : Ref sig .tc := ⟨.hbm, 331, rfl⟩
abbrev main_while3b_v118 : Ref sig .tc := ⟨.hbm, 332, rfl⟩
abbrev main_while3b_call19_v0 : Ref sig .tc := ⟨.hbm, 333, rfl⟩
abbrev main_while3b_call19_c : Ref sig .tc := ⟨.hbm, 334, rfl⟩
abbrev main_while3b_call19_c_0 : Ref sig .tc := ⟨.hbm, 335, rfl⟩
abbrev main_while3b_v119 : Ref sig .tc := ⟨.hbm, 336, rfl⟩
abbrev main_while3b_c_29 : Ref sig .tc := ⟨.hbm, 337, rfl⟩
abbrev main_while3b_v120 : Ref sig .tc := ⟨.hbm, 338, rfl⟩
abbrev main_v54 : Ref sig .tc := ⟨.hbm, 339, rfl⟩
abbrev main_v55 : Ref sig .tc := ⟨.hbm, 340, rfl⟩
abbrev main_c_13 : Ref sig .tc := ⟨.hbm, 341, rfl⟩
abbrev main_v56 : Ref sig .tc := ⟨.hbm, 342, rfl⟩
abbrev main_v57 : Ref sig .tc := ⟨.hbm, 343, rfl⟩
abbrev main_c_14 : Ref sig .tc := ⟨.hbm, 344, rfl⟩
abbrev main_v58 : Ref sig .tc := ⟨.hbm, 345, rfl⟩
abbrev main_v59 : Ref sig .tc := ⟨.hbm, 346, rfl⟩
abbrev main_v60 : Ref sig .tc := ⟨.hbm, 347, rfl⟩
abbrev main_v61 : Ref sig .tc := ⟨.hbm, 348, rfl⟩
abbrev main_v62 : Ref sig .tc := ⟨.hbm, 349, rfl⟩
abbrev main_v63 : Ref sig .tc := ⟨.hbm, 350, rfl⟩
abbrev main_v64 : Ref sig .tc := ⟨.hbm, 351, rfl⟩
abbrev main_v65 : Ref sig .tc := ⟨.hbm, 352, rfl⟩
abbrev main_v66 : Ref sig .tc := ⟨.hbm, 353, rfl⟩
abbrev main_v67 : Ref sig .tc := ⟨.hbm, 354, rfl⟩
abbrev main_call20_cst : Ref sig .tc := ⟨.hbm, 355, rfl⟩
abbrev main_call20_v0 : Ref sig .tc := ⟨.hbm, 356, rfl⟩
abbrev main_v68 : Ref sig .tc := ⟨.hbm, 357, rfl⟩
abbrev main_v69 : Ref sig .tc := ⟨.hbm, 358, rfl⟩
abbrev main_v70 : Ref sig .tc := ⟨.hbm, 359, rfl⟩
abbrev main_v71 : Ref sig .tc := ⟨.hbm, 360, rfl⟩
abbrev main_v72 : Ref sig .tc := ⟨.hbm, 361, rfl⟩
abbrev main_call21_cst : Ref sig .tc := ⟨.hbm, 362, rfl⟩
abbrev main_call21_v0 : Ref sig .tc := ⟨.hbm, 363, rfl⟩
abbrev main_v73 : Ref sig .tc := ⟨.hbm, 364, rfl⟩
abbrev main_v74 : Ref sig .tc := ⟨.hbm, 365, rfl⟩
abbrev main_v75 : Ref sig .tc := ⟨.hbm, 366, rfl⟩
abbrev main_v76 : Ref sig .tc := ⟨.hbm, 367, rfl⟩
abbrev main_v77 : Ref sig .tc := ⟨.hbm, 368, rfl⟩
abbrev main_v78 : Ref sig .tc := ⟨.hbm, 369, rfl⟩
abbrev main_v79 : Ref sig .tc := ⟨.hbm, 370, rfl⟩
abbrev main_cst_15 : Ref sig .tc := ⟨.hbm, 371, rfl⟩
abbrev main_v80 : Ref sig .tc := ⟨.hbm, 372, rfl⟩
abbrev main_v81 : Ref sig .tc := ⟨.hbm, 373, rfl⟩
abbrev main_cst_16 : Ref sig .tc := ⟨.hbm, 374, rfl⟩
abbrev main_v82 : Ref sig .tc := ⟨.hbm, 375, rfl⟩
abbrev main_v83 : Ref sig .tc := ⟨.hbm, 376, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩

abbrev main_while2_count : Scf.Loop 32 := ⟨0#32, 256#32, 1#32⟩

abbrev main_while3_count : Scf.Loop 32 := ⟨0#32, 256#32, 1#32⟩
-- ==== Proof.Cell.lean ====
/-
  One step of the kernel's LSTM cells, as pure functions of the vectors a grid point reads.

  Both scan kernels unroll four steps per grid point and run a forward and a backward cell in each step. All
  sixteen printed steps are the same function of an input row, a mask, a weight block and the carried pair
  (hidden, cell): `stepOne` for the first layer (the input row is an embedding, the gate product has 512 + 512
  rows) and `stepTwo` for the second (the input row is the pair of first-layer outputs, 512 + 512 + 512 rows).
  Everything here is stated at any float values, so that the same run serves the hardware's and the ideal ones.
-/
module

public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- What a cell carries: the hidden and the cell state, batch by feature. -/
abbrev HC (F : FTy → Type) : Type := FVec F S256x512 .f32 × FVec F S256x512 .f32

/-- The kernel's logistic function, `0.5 * tanh (0.5 * v) + 0.5`. -/
def sg (v : FVec F S256x512 .f32) : FVec F S256x512 .f32 :=
  addf (mulf (broadcast S256x512 (Scalar.ofBits .f32 0x3F000000#32)) (tanh (mulf (broadcast S256x512 (Scalar.ofBits .f32 0x3F000000#32)) v)))
    (broadcast S256x512 (Scalar.ofBits .f32 0x3F000000#32))

/-- The cell state before masking, from the gate products `za` (input gate, candidate) and `zb` (forget gate, output gate). -/
def newC (za zb : FVec F S256x1024 .f32) (c : FVec F S256x512 .f32) : FVec F S256x512 .f32 :=
  addf (mulf (sg (extractStridedSlice S256x512 ![0, 0] zb slices_S256x1024_o0_0_S256x512)) c)
    (mulf (sg (extractStridedSlice S256x512 ![0, 0] za slices_S256x1024_o0_0_S256x512)) (tanh (extractStridedSlice S256x512 ![0, 512] za slices_S256x1024_o0_512_S256x512)))

/-- A padding mask spread over the features. -/
def spread (k : IVec S256x1 1) : IVec S256x512 1 :=
  broadcastTo S256x512 (shapeCast S256x1 k shapeCasts_S256x1_S256x1) broadcasts_S256x1_S256x512

/-- A row of tokens is masked where the token is the padding token 0. -/
def live (k : Vec F S1x256x1 .i32) : IVec S256x1 1 :=
  cmpi .ne (shapeCast S256x1 k shapeCasts_S1x256x1_S256x1) (broadcast S256x1 0#32)

/-- The masked update: where the mask is 0 the carried pair stays. -/
def gates (za zb : FVec F S256x1024 .f32) (k : IVec S256x1 1) (s : HC F) : HC F :=
  (select (spread k) (mulf (sg (extractStridedSlice S256x512 ![0, 512] zb slices_S256x1024_o0_512_S256x512)) (tanh (newC za zb s.2))) s.1,
    select (spread k) (newC za zb s.2) s.2)

/-- The first layer's product input: the step's embedding row beside the hidden state, both rounded. -/
def inOne (x : Vec F S1x256x512 .f32) (h : FVec F S256x512 .f32) : FVec F S256x1024 .fp8e4m3 :=
  concatenate S256x1024 1 [⟨S256x512, truncf .fp8e4m3 (shapeCast S256x512 x shapeCasts_S1x256x512_S256x512) bitsLt_fp8e4m3_f32⟩,
    ⟨S256x512, truncf .fp8e4m3 h bitsLt_fp8e4m3_f32⟩] concatenates_S256x512_S256x512_S256x1024_d1

/-- One step of a first-layer cell. -/
def stepOne (w : Vec F S1x1024x2048 .fp8e4m3) (x : Vec F S1x256x512 .f32) (k : Vec F S1x256x1 .i32) (s : HC F) : HC F :=
  gates
    (matmul dot_S256x1024_S1024x1024_S256x1024_1_0_0_1_n_n none (inOne x s.1)
      (extractStridedSlice S1024x1024 ![0, 0] (shapeCast S1024x2048 w shapeCasts_S1x1024x2048_S1024x2048) slices_S1024x2048_o0_0_S1024x1024) (constant S256x1024 .f32 0x00000000#32))
    (matmul dot_S256x1024_S1024x1024_S256x1024_1_0_0_1_n_n none (inOne x s.1)
      (extractStridedSlice S1024x1024 ![0, 1024] (shapeCast S1024x2048 w shapeCasts_S1x1024x2048_S1024x2048) slices_S1024x2048_o0_1024_S1024x1024) (constant S256x1024 .f32 0x00000000#32))
    (live k) s

/-- The second layer's product input: the step's forward and backward first-layer outputs beside the rounded hidden state. -/
def inTwo (a b : Vec F S1x256x512 .fp8e4m3) (h : FVec F S256x512 .f32) : FVec F S256x1536 .fp8e4m3 :=
  concatenate S256x1536 1 [⟨S256x512, (shapeCast S256x512 a shapeCasts_S1x256x512_S256x512 : FVec F S256x512 .fp8e4m3)⟩,
    ⟨S256x512, (shapeCast S256x512 b shapeCasts_S1x256x512_S256x512 : FVec F S256x512 .fp8e4m3)⟩,
    ⟨S256x512, truncf .fp8e4m3 h bitsLt_fp8e4m3_f32⟩] concatenates_S256x512_S256x512_S256x512_S256x1536_d1

/-- One step of a second-layer cell. -/
def stepTwo (w : Vec F S1x1536x2048 .fp8e4m3) (a b : Vec F S1x256x512 .fp8e4m3) (k : Vec F S1x256x1 .i32) (s : HC F) : HC F :=
  gates
    (matmul dot_S256x1536_S1536x1024_S256x1024_1_0_0_1_n_n none (inTwo a b s.1)
      (extractStridedSlice S1536x1024 ![0, 0] (shapeCast S1536x2048 w shapeCasts_S1x1536x2048_S1536x2048) slices_S1536x2048_o0_0_S1536x1024) (constant S256x1024 .f32 0x00000000#32))
    (matmul dot_S256x1536_S1536x1024_S256x1024_1_0_0_1_n_n none (inTwo a b s.1)
      (extractStridedSlice S1536x1024 ![0, 1024] (shapeCast S1536x2048 w shapeCasts_S1x1536x2048_S1536x2048) slices_S1536x2048_o0_1024_S1536x1024) (constant S256x1024 .f32 0x00000000#32))
    (live k) s

/-- A hidden state rounded and shaped as the row a first-layer kernel stores. -/
def outRow (h : FVec F S256x512 .f32) : FVec F S1x256x512 .fp8e4m3 :=
  shapeCast S1x256x512 (truncf .fp8e4m3 h bitsLt_fp8e4m3_f32) shapeCasts_S256x512_S1x256x512

/-- The state a scan starts from. -/
def zeroHC : HC F :=
  (shapeCast S256x512 (broadcast S256x512 (Scalar.ofBits .f32 0x00000000#32)) shapeCasts_S256x512_S256x512,
    shapeCast S256x512 (broadcast S256x512 (Scalar.ofBits .f32 0x00000000#32)) shapeCasts_S256x512_S256x512)

/-- The state as the kernel keeps it between points (a reshaping to the same shape). -/
def keep (s : HC F) : HC F := (shapeCast S256x512 s.1 shapeCasts_S256x512_S256x512, shapeCast S256x512 s.2 shapeCasts_S256x512_S256x512)

end Cert.Proof
end
-- ==== Proof.ScanOneRun.lean ====
/-
  The first-layer kernel's body at one grid point: four forward and four backward steps.
-/
module

public import proofs.«01_k».proof.Proof.Cell
public import proofs.«01_k».proof.Proof.Gen.KernelIdeal.Launch
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Row `j` of a four-row block, as the kernel loads it. -/
abbrev xrow (x : Vec F S4x256x512 .f32) (j : ℕ) (h : ∀ a, (![j, 0, 0] : Fin 3 → ℕ) a + S1x256x512.size a ≤ S4x256x512.size a) : Vec F S1x256x512 .f32 :=
  View.ld x (Rect.unit (s := S4x256x512) ![j, 0, 0] S1x256x512.size h)
/-- Row `j` of a four-row block of token columns. -/
abbrev krow (x : Vec F S4x256x1 .i32) (j : ℕ) (h : ∀ a, (![j, 0, 0] : Fin 3 → ℕ) a + S1x256x1.size a ≤ S4x256x1.size a) : Vec F S1x256x1 .i32 :=
  View.ld x (Rect.unit (s := S4x256x1) ![j, 0, 0] S1x256x1.size h)
/-- Direction `d`'s weights. -/
abbrev wrow (x : Vec F S2x1024x2048 .fp8e4m3) (d : ℕ) (h : ∀ a, (![d, 0, 0] : Fin 3 → ℕ) a + S1x1024x2048.size a ≤ S2x1024x2048.size a) : Vec F S1x1024x2048 .fp8e4m3 :=
  View.ld x (Rect.unit (s := S2x1024x2048) ![d, 0, 0] S1x1024x2048.size h)

section
variable (x : Vec F S4x256x512 .f32) (k : Vec F S4x256x1 .i32) (w : Vec F S2x1024x2048 .fp8e4m3) (s : HC F)

/-- The forward states after one, two, three and four steps of a block. -/
def fw1 : HC F := stepOne (wrow w 0 inb_S2x1024x2048_S1x1024x2048_0_0_0) (xrow x 0 inb_S4x256x512_S1x256x512_0_0_0) (krow k 0 inb_S4x256x1_S1x256x1_0_0_0) s
@[inherit_doc fw1] def fw2 : HC F := stepOne (wrow w 0 inb_S2x1024x2048_S1x1024x2048_0_0_0) (xrow x 1 inb_S4x256x512_S1x256x512_1_0_0) (krow k 1 inb_S4x256x1_S1x256x1_1_0_0) (fw1 x k w s)
@[inherit_doc fw1] def fw3 : HC F := stepOne (wrow w 0 inb_S2x1024x2048_S1x1024x2048_0_0_0) (xrow x 2 inb_S4x256x512_S1x256x512_2_0_0) (krow k 2 inb_S4x256x1_S1x256x1_2_0_0) (fw2 x k w s)
@[inherit_doc fw1] def fw4 : HC F := stepOne (wrow w 0 inb_S2x1024x2048_S1x1024x2048_0_0_0) (xrow x 3 inb_S4x256x512_S1x256x512_3_0_0) (krow k 3 inb_S4x256x1_S1x256x1_3_0_0) (fw3 x k w s)
/-- The backward states after one, two, three and four steps: the rows are taken from the last to the first. -/
def bw1 : HC F := stepOne (wrow w 1 inb_S2x1024x2048_S1x1024x2048_1_0_0) (xrow x 3 inb_S4x256x512_S1x256x512_3_0_0) (krow k 3 inb_S4x256x1_S1x256x1_3_0_0) s
@[inherit_doc bw1] def bw2 : HC F := stepOne (wrow w 1 inb_S2x1024x2048_S1x1024x2048_1_0_0) (xrow x 2 inb_S4x256x512_S1x256x512_2_0_0) (krow k 2 inb_S4x256x1_S1x256x1_2_0_0) (bw1 x k w s)
@[inherit_doc bw1] def bw3 : HC F := stepOne (wrow w 1 inb_S2x1024x2048_S1x1024x2048_1_0_0) (xrow x 1 inb_S4x256x512_S1x256x512_1_0_0) (krow k 1 inb_S4x256x1_S1x256x1_1_0_0) (bw2 x k w s)
@[inherit_doc bw1] def bw4 : HC F := stepOne (wrow w 1 inb_S2x1024x2048_S1x1024x2048_1_0_0) (xrow x 0 inb_S4x256x512_S1x256x512_0_0_0) (krow k 0 inb_S4x256x1_S1x256x1_0_0_0) (bw3 x k w s)

/-- The rows a point stores for the forward direction, last first. -/
def fwL : List (View.Piece (Elt F) S4x256x512 .fp8e4m3) :=
  [⟨Rect.unit (s := S4x256x512) ![3, 0, 0] S1x256x512.size inb_S4x256x512_S1x256x512_3_0_0, outRow (fw4 x k w s).1⟩,
   ⟨Rect.unit (s := S4x256x512) ![2, 0, 0] S1x256x512.size inb_S4x256x512_S1x256x512_2_0_0, outRow (fw3 x k w s).1⟩,
   ⟨Rect.unit (s := S4x256x512) ![1, 0, 0] S1x256x512.size inb_S4x256x512_S1x256x512_1_0_0, outRow (fw2 x k w s).1⟩,
   ⟨Rect.unit (s := S4x256x512) ![0, 0, 0] S1x256x512.size inb_S4x256x512_S1x256x512_0_0_0, outRow (fw1 x k w s).1⟩]
/-- The rows a point stores for the backward direction, last first. -/
def bwL : List (View.Piece (Elt F) S4x256x512 .fp8e4m3) :=
  [⟨Rect.unit (s := S4x256x512) ![0, 0, 0] S1x256x512.size inb_S4x256x512_S1x256x512_0_0_0, outRow (bw4 x k w s).1⟩,
   ⟨Rect.unit (s := S4x256x512) ![1, 0, 0] S1x256x512.size inb_S4x256x512_S1x256x512_1_0_0, outRow (bw3 x k w s).1⟩,
   ⟨Rect.unit (s := S4x256x512) ![2, 0, 0] S1x256x512.size inb_S4x256x512_S1x256x512_2_0_0, outRow (bw2 x k w s).1⟩,
   ⟨Rect.unit (s := S4x256x512) ![3, 0, 0] S1x256x512.size inb_S4x256x512_S1x256x512_3_0_0, outRow (bw1 x k w s).1⟩]
end

/-- The whole-shape rectangle of a carried buffer. -/
abbrev scR : Rect S256x512 := Rect.unit (s := S256x512) ![0, 0] S256x512.size inb_S256x512_S256x512_0_0

/-- The kernel's test for the first grid point. -/
abbrev first0 (i : grid0.Coords) : Prop := Scalar.cmpi .ne (Scalar.extui (Scalar.cmpi .eq (BitVec.ofNat 32 (i 0).val) 0#32)) 0#32 = 1#1

/-- The body runs from the eleven buffers at `f1` … `f11` to the inputs unchanged and the stores `L6` … `L11` made. -/
def RunsOne (c : Dev nD) (i : grid0.Coords)
  (arg1 : Memref sig .tc .vmem S4x256x512 .f32) (harg1 : arg1.IsWhole)
  (arg2 : Memref sig .tc .vmem S4x256x512 .f32) (harg2 : arg2.IsWhole)
  (arg3 : Memref sig .tc .vmem S4x256x1 .i32) (harg3 : arg3.IsWhole)
  (arg4 : Memref sig .tc .vmem S4x256x1 .i32) (harg4 : arg4.IsWhole)
  (arg5 : Memref sig .tc .vmem S2x1024x2048 .fp8e4m3) (harg5 : arg5.IsWhole)
  (arg6 : Memref sig .tc .vmem S4x256x512 .fp8e4m3) (harg6 : arg6.IsWhole)
  (arg7 : Memref sig .tc .vmem S4x256x512 .fp8e4m3) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (L6 : List (View.Piece (Elt F) S4x256x512 .fp8e4m3)) (L7 : List (View.Piece (Elt F) S4x256x512 .fp8e4m3)) (L8 : List (View.Piece (Elt F) S256x512 .f32)) (L9 : List (View.Piece (Elt F) S256x512 .f32)) (L10 : List (View.Piece (Elt F) S256x512 .f32)) (L11 : List (View.Piece (Elt F) S256x512 .f32))
    (E : Set ℕ) (K : PUnit.{1} → sProp 𝕄) : Prop :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
        ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
    ⊢ wp frame (wpE (defs₀ (F := F)) Variants.none c none) E (cc0__scan1_kernel i arg1 harg1 arg2 harg2 arg3 harg3 arg4 harg4 arg5 harg5 arg6 harg6 arg7 harg7 arg8 harg8 arg9 harg9 arg10 harg10 arg11 harg11) K

set_option maxHeartbeats 1600000 in
/-- At the first point the states are zeroed before the steps. -/
theorem runOne_first (c : Dev nD) (i : grid0.Coords)
  (arg1 : Memref sig .tc .vmem S4x256x512 .f32) (harg1 : arg1.IsWhole)
  (arg2 : Memref sig .tc .vmem S4x256x512 .f32) (harg2 : arg2.IsWhole)
  (arg3 : Memref sig .tc .vmem S4x256x1 .i32) (harg3 : arg3.IsWhole)
  (arg4 : Memref sig .tc .vmem S4x256x1 .i32) (harg4 : arg4.IsWhole)
  (arg5 : Memref sig .tc .vmem S2x1024x2048 .fp8e4m3) (harg5 : arg5.IsWhole)
  (arg6 : Memref sig .tc .vmem S4x256x512 .fp8e4m3) (harg6 : arg6.IsWhole)
  (arg7 : Memref sig .tc .vmem S4x256x512 .fp8e4m3) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (hc0 : first0 i) (E : Set ℕ) (K : PUnit.{1} → sProp 𝕄) :
    ∃ L6 L7 L8 L9 L10 L11, RunsOne c i arg1 harg1 arg2 harg2 arg3 harg3 arg4 harg4 arg5 harg5 arg6 harg6 arg7 harg7 arg8 harg8 arg9 harg9 arg10 harg10 arg11 harg11 f1 f2 f3 f4 f5 f6 f7 f8 f9 f10 f11 L6 L7 L8 L9 L10 L11 E K
      ∧ (let sf : HC F := (arg8.view.readCov (Val := Elt F) [⟨scR, zeroHC.1⟩] scR.toLoadRect, arg9.view.readCov (Val := Elt F) [⟨scR, zeroHC.2⟩] scR.toLoadRect)
         let sb : HC F := (arg10.view.readCov (Val := Elt F) [⟨scR, zeroHC.1⟩] scR.toLoadRect, arg11.view.readCov (Val := Elt F) [⟨scR, zeroHC.2⟩] scR.toLoadRect)
         (L6 = fwL (arg1.view.read (Elt F) f1) (arg3.view.read (Elt F) f3) (arg5.view.read (Elt F) f5) sf ∧ L7 = bwL (arg2.view.read (Elt F) f2) (arg4.view.read (Elt F) f4) (arg5.view.read (Elt F) f5) sb)
         ∧ (L8 = ⟨scR, (keep (fw4 (arg1.view.read (Elt F) f1) (arg3.view.read (Elt F) f3) (arg5.view.read (Elt F) f5) sf)).1⟩ :: [⟨scR, zeroHC.1⟩] ∧ L9 = ⟨scR, (keep (fw4 (arg1.view.read (Elt F) f1) (arg3.view.read (Elt F) f3) (arg5.view.read (Elt F) f5) sf)).2⟩ :: [⟨scR, zeroHC.2⟩])
         ∧ (L10 = ⟨scR, (keep (bw4 (arg2.view.read (Elt F) f2) (arg4.view.read (Elt F) f4) (arg5.view.read (Elt F) f5) sb)).1⟩ :: [⟨scR, zeroHC.1⟩] ∧ L11 = ⟨scR, (keep (bw4 (arg2.view.read (Elt F) f2) (arg4.view.read (Elt F) f4) (arg5.view.read (Elt F) f5) sb)).2⟩ :: [⟨scR, zeroHC.2⟩])) := by
  refine ⟨?_, ?_, ?_, ?_, ?_, ?_, ?run, ⟨?e6, ?e7⟩, ⟨?e8, ?e9⟩, ⟨?e10, ?e11⟩⟩
  case run =>
    unfold RunsOne
    simp only [cc0__scan1_kernel_eq_skeleton]; unfold cc0__scan1_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨H1, H2, H3, H4, H5, H6, H7, H8, H9, H10, H11, Hk⟩
    sl_exec (disch := first | sl_exact hc0)
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  all_goals sl_kernel_rfl

set_option maxHeartbeats 1600000 in
/-- At a later point the carried states are read. -/
theorem runOne_later (c : Dev nD) (i : grid0.Coords)
  (arg1 : Memref sig .tc .vmem S4x256x512 .f32) (harg1 : arg1.IsWhole)
  (arg2 : Memref sig .tc .vmem S4x256x512 .f32) (harg2 : arg2.IsWhole)
  (arg3 : Memref sig .tc .vmem S4x256x1 .i32) (harg3 : arg3.IsWhole)
  (arg4 : Memref sig .tc .vmem S4x256x1 .i32) (harg4 : arg4.IsWhole)
  (arg5 : Memref sig .tc .vmem S2x1024x2048 .fp8e4m3) (harg5 : arg5.IsWhole)
  (arg6 : Memref sig .tc .vmem S4x256x512 .fp8e4m3) (harg6 : arg6.IsWhole)
  (arg7 : Memref sig .tc .vmem S4x256x512 .fp8e4m3) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (hc0 : ¬ first0 i) (E : Set ℕ) (K : PUnit.{1} → sProp 𝕄) :
    ∃ L6 L7 L8 L9 L10 L11, RunsOne c i arg1 harg1 arg2 harg2 arg3 harg3 arg4 harg4 arg5 harg5 arg6 harg6 arg7 harg7 arg8 harg8 arg9 harg9 arg10 harg10 arg11 harg11 f1 f2 f3 f4 f5 f6 f7 f8 f9 f10 f11 L6 L7 L8 L9 L10 L11 E K
      ∧ (let sf : HC F := (View.ld (arg8.view.read (Elt F) f8) scR, View.ld (arg9.view.read (Elt F) f9) scR)
         let sb : HC F := (View.ld (arg10.view.read (Elt F) f10) scR, View.ld (arg11.view.read (Elt F) f11) scR)
         (L6 = fwL (arg1.view.read (Elt F) f1) (arg3.view.read (Elt F) f3) (arg5.view.read (Elt F) f5) sf ∧ L7 = bwL (arg2.view.read (Elt F) f2) (arg4.view.read (Elt F) f4) (arg5.view.read (Elt F) f5) sb)
         ∧ (L8 = ⟨scR, (keep (fw4 (arg1.view.read (Elt F) f1) (arg3.view.read (Elt F) f3) (arg5.view.read (Elt F) f5) sf)).1⟩ :: [] ∧ L9 = ⟨scR, (keep (fw4 (arg1.view.read (Elt F) f1) (arg3.view.read (Elt F) f3) (arg5.view.read (Elt F) f5) sf)).2⟩ :: [])
         ∧ (L10 = ⟨scR, (keep (bw4 (arg2.view.read (Elt F) f2) (arg4.view.read (Elt F) f4) (arg5.view.read (Elt F) f5) sb)).1⟩ :: [] ∧ L11 = ⟨scR, (keep (bw4 (arg2.view.read (Elt F) f2) (arg4.view.read (Elt F) f4) (arg5.view.read (Elt F) f5) sb)).2⟩ :: [])) := by
  refine ⟨?_, ?_, ?_, ?_, ?_, ?_, ?run, ⟨?e6, ?e7⟩, ⟨?e8, ?e9⟩, ⟨?e10, ?e11⟩⟩
  case run =>
    unfold RunsOne
    simp only [cc0__scan1_kernel_eq_skeleton]; unfold cc0__scan1_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨H1, H2, H3, H4, H5, H6, H7, H8, H9, H10, H11, Hk⟩
    sl_exec (disch := first | sl_exact hc0)
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  all_goals sl_kernel_rfl

end Cert.Proof
end
-- ==== Proof.ScanOneBody.lean ====
/-
  The first-layer kernel's body at one grid point, as a triple over the contents of its buffers: what it leaves in
  the output blocks and in the carried buffers are the functions of `ScanOneRun`.
-/
module

public import proofs.«01_k».proof.Proof.ScanOneRun
public import Idealize.ShloMosaic.Lib.Ring

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loading the whole of a carried buffer reads it. -/
theorem ld_scR {e : EltTy} (x : S256x512.Idx → Elt F e) : View.ld x scR = x := by
  funext y
  refine congrArg x (funext fun a => Fin.ext ?_)
  show (![0, 0] : Fin 2 → ℕ) a + 1 * (y a).val = (y a).val
  fin_cases a <;> simp

/-- The four rows stored for the forward direction fill its block. -/
theorem fwL_cover (x : Vec F S4x256x512 .f32) (k : Vec F S4x256x1 .i32) (w : Vec F S2x1024x2048 .fp8e4m3) (s : HC F) :
    ∀ y, ∃ p ∈ fwL x k w s, y ∈ p.1.set :=
  View.cover_of_tiledL (fwL x k w s) S1x256x512.size (by sl_kernel_rfl)
/-- The four rows stored for the backward direction fill its block. -/
theorem bwL_cover (x : Vec F S4x256x512 .f32) (k : Vec F S4x256x1 .i32) (w : Vec F S2x1024x2048 .fp8e4m3) (s : HC F) :
    ∀ y, ∃ p ∈ bwL x k w s, y ∈ p.1.set :=
  View.cover_of_tiledL (bwL x k w s) S1x256x512.size (by sl_kernel_rfl)

/-- The forward output block a point leaves. -/
def fwOut (x : Vec F S4x256x512 .f32) (k : Vec F S4x256x1 .i32) (w : Vec F S2x1024x2048 .fp8e4m3) (s : HC F) : Vec F S4x256x512 .fp8e4m3 :=
  View.canon (Val := Elt F) (fwL x k w s)
/-- The backward output block a point leaves. -/
def bwOut (x : Vec F S4x256x512 .f32) (k : Vec F S4x256x1 .i32) (w : Vec F S2x1024x2048 .fp8e4m3) (s : HC F) : Vec F S4x256x512 .fp8e4m3 :=
  View.canon (Val := Elt F) (bwL x k w s)

/-- The states the steps of a point start from: zero at the first point, else what was carried. -/
def startOne (i : grid0.Coords) (s : HC F) : HC F := open Classical in if first0 i then zeroHC else s

/-- The stores of a body whose reads are known, wherever it starts. -/
theorem storesOne (c : Dev nD) (i : grid0.Coords)
  (arg1 : Memref sig .tc .vmem S4x256x512 .f32) (harg1 : arg1.IsWhole)
  (arg2 : Memref sig .tc .vmem S4x256x512 .f32) (harg2 : arg2.IsWhole)
  (arg3 : Memref sig .tc .vmem S4x256x1 .i32) (harg3 : arg3.IsWhole)
  (arg4 : Memref sig .tc .vmem S4x256x1 .i32) (harg4 : arg4.IsWhole)
  (arg5 : Memref sig .tc .vmem S2x1024x2048 .fp8e4m3) (harg5 : arg5.IsWhole)
  (arg6 : Memref sig .tc .vmem S4x256x512 .fp8e4m3) (harg6 : arg6.IsWhole)
  (arg7 : Memref sig .tc .vmem S4x256x512 .fp8e4m3) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F))
    (E : Set ℕ) (K : PUnit.{1} → sProp 𝕄) :
    ∃ L6 L7 L8 L9 L10 L11, RunsOne c i arg1 harg1 arg2 harg2 arg3 harg3 arg4 harg4 arg5 harg5 arg6 harg6 arg7 harg7 arg8 harg8 arg9 harg9 arg10 harg10 arg11 harg11 f1 f2 f3 f4 f5 f6 f7 f8 f9 f10 f11 L6 L7 L8 L9 L10 L11 E K
      ∧ (let sf : HC F := startOne i (arg8.view.read (Elt F) f8, arg9.view.read (Elt F) f9)
         let sb : HC F := startOne i (arg10.view.read (Elt F) f10, arg11.view.read (Elt F) f11)
         let y : HC F := keep (fw4 (arg1.view.read (Elt F) f1) (arg3.view.read (Elt F) f3) (arg5.view.read (Elt F) f5) sf)
         let z : HC F := keep (bw4 (arg2.view.read (Elt F) f2) (arg4.view.read (Elt F) f4) (arg5.view.read (Elt F) f5) sb)
         (∀ f, arg6.view.read (Elt F) (arg6.view.writes (Elt F) f L6) = fwOut (arg1.view.read (Elt F) f1) (arg3.view.read (Elt F) f3) (arg5.view.read (Elt F) f5) sf)
         ∧ (∀ f, arg7.view.read (Elt F) (arg7.view.writes (Elt F) f L7) = bwOut (arg2.view.read (Elt F) f2) (arg4.view.read (Elt F) f4) (arg5.view.read (Elt F) f5) sb)
         ∧ (∀ f, arg8.view.read (Elt F) (arg8.view.writes (Elt F) f L8) = y.1) ∧ (∀ f, arg9.view.read (Elt F) (arg9.view.writes (Elt F) f L9) = y.2)
         ∧ (∀ f, arg10.view.read (Elt F) (arg10.view.writes (Elt F) f L10) = z.1) ∧ (∀ f, arg11.view.read (Elt F) (arg11.view.writes (Elt F) f L11) = z.2)) := by
  by_cases hc : first0 i
  · obtain ⟨L6, L7, L8, L9, L10, L11, h, ⟨rfl, rfl⟩, ⟨rfl, rfl⟩, ⟨rfl, rfl⟩⟩ := runOne_first c i arg1 harg1 arg2 harg2 arg3 harg3 arg4 harg4 arg5 harg5 arg6 harg6 arg7 harg7 arg8 harg8 arg9 harg9 arg10 harg10 arg11 harg11 f1 f2 f3 f4 f5 f6 f7 f8 f9 f10 f11 hc E K
    refine ⟨_, _, _, _, _, _, h, ?_⟩
    simp only [startOne, if_pos hc, View.readCov_full]
    exact ⟨fun f => View.read_writes_eq_canon _ f _ (fwL_cover _ _ _ _), fun f => View.read_writes_eq_canon _ f _ (bwL_cover _ _ _ _),
      fun f => View.read_writes_full _ f _ _ _, fun f => View.read_writes_full _ f _ _ _, fun f => View.read_writes_full _ f _ _ _, fun f => View.read_writes_full _ f _ _ _⟩
  · obtain ⟨L6, L7, L8, L9, L10, L11, h, ⟨rfl, rfl⟩, ⟨rfl, rfl⟩, ⟨rfl, rfl⟩⟩ := runOne_later c i arg1 harg1 arg2 harg2 arg3 harg3 arg4 harg4 arg5 harg5 arg6 harg6 arg7 harg7 arg8 harg8 arg9 harg9 arg10 harg10 arg11 harg11 f1 f2 f3 f4 f5 f6 f7 f8 f9 f10 f11 hc E K
    refine ⟨_, _, _, _, _, _, h, ?_⟩
    simp only [startOne, if_neg hc, ld_scR]
    exact ⟨fun f => View.read_writes_eq_canon _ f _ (fwL_cover _ _ _ _), fun f => View.read_writes_eq_canon _ f _ (bwL_cover _ _ _ _),
      fun f => View.read_writes_full _ f _ _ _, fun f => View.read_writes_full _ f _ _ _, fun f => View.read_writes_full _ f _ _ _, fun f => View.read_writes_full _ f _ _ _⟩

set_option maxHeartbeats 1600000 in
/-- The body's triple at any point: the inputs are unchanged, the two output blocks and the four carried buffers hold
    the four steps' results. -/
theorem bodyOne (c : Dev nD) (i : grid0.Coords)
  (arg1 : Memref sig .tc .vmem S4x256x512 .f32) (harg1 : arg1.IsWhole)
  (arg2 : Memref sig .tc .vmem S4x256x512 .f32) (harg2 : arg2.IsWhole)
  (arg3 : Memref sig .tc .vmem S4x256x1 .i32) (harg3 : arg3.IsWhole)
  (arg4 : Memref sig .tc .vmem S4x256x1 .i32) (harg4 : arg4.IsWhole)
  (arg5 : Memref sig .tc .vmem S2x1024x2048 .fp8e4m3) (harg5 : arg5.IsWhole)
  (arg6 : Memref sig .tc .vmem S4x256x512 .fp8e4m3) (harg6 : arg6.IsWhole)
  (arg7 : Memref sig .tc .vmem S4x256x512 .fp8e4m3) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
    (x1 : Vec F S4x256x512 .f32) (x2 : Vec F S4x256x512 .f32) (x3 : Vec F S4x256x1 .i32) (x4 : Vec F S4x256x1 .i32) (x5 : Vec F S2x1024x2048 .fp8e4m3)
    (s t : HC F) (E : Set ℕ) (K : PUnit.{1} → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ owns (c : Thread nD τ) arg8 fullShare s.1 ∗ owns (c : Thread nD τ) arg9 fullShare s.2 ∗ owns (c : Thread nD τ) arg10 fullShare t.1 ∗ owns (c : Thread nD τ) arg11 fullShare t.2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
          ∗ owns (c : Thread nD τ) arg6 fullShare (fwOut x1 x3 x5 (startOne i s)) ∗ owns (c : Thread nD τ) arg7 fullShare (bwOut x2 x4 x5 (startOne i t))
          ∗ owns (c : Thread nD τ) arg8 fullShare (keep (fw4 x1 x3 x5 (startOne i s))).1 ∗ owns (c : Thread nD τ) arg9 fullShare (keep (fw4 x1 x3 x5 (startOne i s))).2
          ∗ owns (c : Thread nD τ) arg10 fullShare (keep (bw4 x2 x4 x5 (startOne i t))).1 ∗ owns (c : Thread nD τ) arg11 fullShare (keep (bw4 x2 x4 x5 (startOne i t))).2) -∗ K ⟨⟩))
      ⊢ wp frame (wpE (defs₀ (F := F)) Variants.none c none) E (cc0__scan1_kernel i arg1 harg1 arg2 harg2 arg3 harg3 arg4 harg4 arg5 harg5 arg6 harg6 arg7 harg7 arg8 harg8 arg9 harg9 arg10 harg10 arg11 harg11) K := by
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%f8, %e8, H8⟩, ⟨%f9, %e9, H9⟩, ⟨%f10, %e10, H10⟩, ⟨%f11, %e11, H11⟩, Hk⟩
  obtain ⟨L6, L7, L8, L9, L10, L11, h, r6, r7, r8, r9, r10, r11⟩ := storesOne c i arg1 harg1 arg2 harg2 arg3 harg3 arg4 harg4 arg5 harg5 arg6 harg6 arg7 harg7 arg8 harg8 arg9 harg9 arg10 harg10 arg11 harg11 f1 f2 f3 f4 f5 f6 f7 f8 f9 f10 f11 E K
  rw [e1, e3, e5, e8, e9] at r6 r8 r9
  rw [e2, e4, e5, e10, e11] at r7 r10 r11
  unfold RunsOne at h
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, ⟨%g6, H6⟩, ⟨%g7, H7⟩, ⟨%g8, H8⟩, ⟨%g9, H9⟩, ⟨%g10, H10⟩, ⟨%g11, H11⟩⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists (arg6.view.writes (Elt F) g6 L6); isplitr; (· ipureintro; exact r6 g6); iexact H6
  isplitl [H7]; · iexists (arg7.view.writes (Elt F) g7 L7); isplitr; (· ipureintro; exact r7 g7); iexact H7
  isplitl [H8]; · iexists (arg8.view.writes (Elt F) g8 L8); isplitr; (· ipureintro; exact r8 g8); iexact H8
  isplitl [H9]; · iexists (arg9.view.writes (Elt F) g9 L9); isplitr; (· ipureintro; exact r9 g9); iexact H9
  isplitl [H10]; · iexists (arg10.view.writes (Elt F) g10 L10); isplitr; (· ipureintro; exact r10 g10); iexact H10
  iexists (arg11.view.writes (Elt F) g11 L11); isplitr; (· ipureintro; exact r11 g11); iexact H11

end Cert.Proof
end
-- ==== Proof.RegionOne.lean ====
/-
  The first-layer scan over its 64 points: the carried states, what each window holds, and the body obligation.
-/
module

public import proofs.«01_k».proof.Proof.Gen.KernelIdeal.Launch
public import proofs.«01_k».proof.Proof.Gen.KernelIdeal.Points
public import proofs.«01_k».proof.Proof.ScanOneBody
public import Idealize.ShloMosaic.Lib.Pipeline.FrameBody
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the window is on. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The forward states carried into point `n`. -/
def fwSt0 (c : Dev nD) : ℕ → HC F
  | 0 => zeroHC
  | n + 1 => if h : n < cfg0.N then keep (fw4 (blk0 V c 0 ⟨n, h⟩) (blk0 V c 2 ⟨n, h⟩) (blk0 V c 4 ⟨n, h⟩) (fwSt0 c n)) else zeroHC
/-- The backward states carried into point `n`. -/
def bwSt0 (c : Dev nD) : ℕ → HC F
  | 0 => zeroHC
  | n + 1 => if h : n < cfg0.N then keep (bw4 (blk0 V c 1 ⟨n, h⟩) (blk0 V c 3 ⟨n, h⟩) (blk0 V c 4 ⟨n, h⟩) (bwSt0 c n)) else zeroHC

theorem fwSt0_succ (c : Dev nD) (t : Fin cfg0.N) : fwSt0 V c (t.val + 1) = keep (fw4 (blk0 V c 0 t) (blk0 V c 2 t) (blk0 V c 4 t) (fwSt0 V c t.val)) := dif_pos t.isLt
theorem bwSt0_succ (c : Dev nD) (t : Fin cfg0.N) : bwSt0 V c (t.val + 1) = keep (bw4 (blk0 V c 1 t) (blk0 V c 3 t) (blk0 V c 4 t) (bwSt0 V c t.val)) := dif_pos t.isLt

/-- The kernel's test holds at point 0 only. -/
theorem first0_iff : ∀ t : Fin cfg0.N, first0 (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    rw [show t.val = 0 ↔ t.val % 64 = 0 by omega]
    simp only [first0, e0]
    word_cmp
   : ∀ t : Fin grid0.N, first0 (grid0.coords t) ↔ t.val = 0)

abbrev scM0_0 : Memref sig .tc .vmem S256x512 .f32 := Memref.whole cc0_scratch0
abbrev scM0_1 : Memref sig .tc .vmem S256x512 .f32 := Memref.whole cc0_scratch1
abbrev scM0_2 : Memref sig .tc .vmem S256x512 .f32 := Memref.whole cc0_scratch2
abbrev scM0_3 : Memref sig .tc .vmem S256x512 .f32 := Memref.whole cc0_scratch3

/-- The region's invariant before point `n`: the four carried buffers at some states, which after the first point are
    the scans' states, beside the other scoped buffers. -/
def Phi0 (c : Dev nD) (n : ℕ) : sProp 𝕄 :=
  iprop(∃ s t : HC F, ⌜n ≠ 0 → s = fwSt0 V c n ∧ t = bwSt0 V c n⌝ ∗ (owns (c : Thread nD τ) scM0_0 fullShare s.1 ∗ owns (c : Thread nD τ) scM0_1 fullShare s.2 ∗ owns (c : Thread nD τ) scM0_2 fullShare t.1 ∗ owns (c : Thread nD τ) scM0_3 fullShare t.2)
    ∗ Pipeline.scopedRestBut (Ix := Unit) (Name := ℕ) (U := UR sig nD τ) (Lvl := ℕ) (Val := Elt F) spec0 c [cc0_scratch0, cc0_scratch1, cc0_scratch2, cc0_scratch3])

/-- The region's proof data from the buffers `V`: what each window's buffer holds after the body at each point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => fwOut (blk0 V c 0 t) (blk0 V c 2 t) (blk0 V c 4 t) (fwSt0 V c t.val)
    | ⟨6, _⟩ => bwOut (blk0 V c 1 t) (blk0 V c 3 t) (blk0 V c 4 t) (bwSt0 V c t.val)
  Φ t := Phi0 V c t.val
  q w := Pipeline.shareOf spec0 w
  owed _ := 0

/-- Input 0's buffer holds its block at every point. -/
theorem before0_0 (c : Dev nD) (t : Fin cfg0.N) (d) : (dat0 V c).before 0 t d = blk0 V c 0 t :=
  Dat.before_in_eq_fetched (dat0 V c) 0 rfl (fun _ => rfl) (fun _ _ _ => rfl) (fun _ => rfl) t d
/-- Input 1's buffer holds its block at every point. -/
theorem before0_1 (c : Dev nD) (t : Fin cfg0.N) (d) : (dat0 V c).before 1 t d = blk0 V c 1 t :=
  Dat.before_in_eq_fetched (dat0 V c) 1 rfl (fun _ => rfl) (fun _ _ _ => rfl) (fun _ => rfl) t d
/-- Input 2's buffer holds its block at every point. -/
theorem before0_2 (c : Dev nD) (t : Fin cfg0.N) (d) : (dat0 V c).before 2 t d = blk0 V c 2 t :=
  Dat.before_in_eq_fetched (dat0 V c) 2 rfl (fun _ => rfl) (fun _ _ _ => rfl) (fun _ => rfl) t d
/-- Input 3's buffer holds its block at every point. -/
theorem before0_3 (c : Dev nD) (t : Fin cfg0.N) (d) : (dat0 V c).before 3 t d = blk0 V c 3 t :=
  Dat.before_in_eq_fetched (dat0 V c) 3 rfl (fun _ => rfl) (fun _ _ _ => rfl) (fun _ => rfl) t d
/-- Input 4's buffer holds its block at every point. -/
theorem before0_4 (c : Dev nD) (t : Fin cfg0.N) (d) : (dat0 V c).before 4 t d = blk0 V c 4 t :=
  Dat.before_in_eq_fetched (dat0 V c) 4 rfl (fun _ => rfl) (fun _ _ _ => rfl) (fun _ => rfl) t d

theorem row0 (t : Fin cfg0.N) : defs₀ (F := F) .tc cfg0.body (cfg0.bodyArgs t (cfg0.slots t)) = bodyAt0 t := by
  unfold defs₀; rw [Defs.onTc_tc]

set_option maxHeartbeats 3200000 in
/-- The body at any point, over the region's invariant. -/
theorem sound0 (c : Dev nD) (t : Fin cfg0.N) :
    iprop(Phi0 V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))
    ⊢ wp frame (wpE (defs₀ (F := F)) Variants.none c none) Set.univ (bodyAt0 t) (fun _ => iprop(Phi0 V c (t.val + 1) ∗ (dat0 V c).owesAt () t.castSucc
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))) := by
  simp only [before0_0 V c, before0_1 V c, before0_2 V c, before0_3 V c, before0_4 V c]
  dsimp only [dat0]
  unfold bodyAt0 Phi0
  iintro ⟨⟨%s, %u, %hs, ⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩⟩
  have es : startOne (grid0.coords t) s = fwSt0 V c t.val := by
    unfold startOne
    split
    · next h => rw [(first0_iff t).mp h]; rfl
    · next h => exact (hs fun h0 => h ((first0_iff t).mpr h0)).1
  have eu : startOne (grid0.coords t) u = bwSt0 V c t.val := by
    unfold startOne
    split
    · next h => rw [(first0_iff t).mp h]; rfl
    · next h => exact (hs fun h0 => h ((first0_iff t).mpr h0)).2
  iapply (bodyOne c (grid0.coords t) _ _ _ _ _ _ _ _ _ _ _ _ _ _ _ _ _ _ _ _ _ _ (blk0 V c 0 t) (blk0 V c 1 t) (blk0 V c 2 t) (blk0 V c 3 t) (blk0 V c 4 t) s u Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  rw [es, eu]
  isplitl [S0 S1 S2 S3 Hr]
  · iexists (keep (fw4 (blk0 V c 0 t) (blk0 V c 2 t) (blk0 V c 4 t) (fwSt0 V c t.val))), (keep (bw4 (blk0 V c 1 t) (blk0 V c 3 t) (blk0 V c 4 t) (bwSt0 V c t.val)))
    isplitr; · ipureintro; exact fun _ => ⟨(fwSt0_succ V c t).symm, (bwSt0_succ V c t).symm⟩
    isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation. -/
theorem obligation0 (c : Dev nD) : BodyObligation (dat0 V c) (defs₀ (F := F)) Variants.none () Set.univ := fun t => by
  rw [bigSep_W0, bigSep_W0, row0]
  exact triple_restated (sound0 V c t) rfl .rfl fun _ => .rfl

end Cert.Proof
end
-- ==== Proof.ScanTwoRun.lean ====
/-
  The second-layer kernel's body at one grid point: four forward and four backward steps.
-/
module

public import proofs.«01_k».proof.Proof.ScanOneBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Row `j` of a four-row block of first-layer outputs. -/
abbrev yrow (x : Vec F S4x256x512 .fp8e4m3) (j : ℕ) (h : ∀ a, (![j, 0, 0] : Fin 3 → ℕ) a + S1x256x512.size a ≤ S4x256x512.size a) : Vec F S1x256x512 .fp8e4m3 :=
  View.ld x (Rect.unit (s := S4x256x512) ![j, 0, 0] S1x256x512.size h)
/-- Direction `d`'s second-layer weights. -/
abbrev wrow2 (x : Vec F S2x1536x2048 .fp8e4m3) (d : ℕ) (h : ∀ a, (![d, 0, 0] : Fin 3 → ℕ) a + S1x1536x2048.size a ≤ S2x1536x2048.size a) : Vec F S1x1536x2048 .fp8e4m3 :=
  View.ld x (Rect.unit (s := S2x1536x2048) ![d, 0, 0] S1x1536x2048.size h)

section
variable (a b : Vec F S4x256x512 .fp8e4m3) (k : Vec F S4x256x1 .i32) (w : Vec F S2x1536x2048 .fp8e4m3) (s : HC F)

/-- The forward second-layer states after one, two, three and four steps of a block. -/
def fu1 : HC F := stepTwo (wrow2 w 0 inb_S2x1536x2048_S1x1536x2048_0_0_0) (yrow a 0 inb_S4x256x512_S1x256x512_0_0_0) (yrow b 0 inb_S4x256x512_S1x256x512_0_0_0) (krow k 0 inb_S4x256x1_S1x256x1_0_0_0) s
@[inherit_doc fu1] def fu2 : HC F := stepTwo (wrow2 w 0 inb_S2x1536x2048_S1x1536x2048_0_0_0) (yrow a 1 inb_S4x256x512_S1x256x512_1_0_0) (yrow b 1 inb_S4x256x512_S1x256x512_1_0_0) (krow k 1 inb_S4x256x1_S1x256x1_1_0_0) (fu1 a b k w s)
@[inherit_doc fu1] def fu3 : HC F := stepTwo (wrow2 w 0 inb_S2x1536x2048_S1x1536x2048_0_0_0) (yrow a 2 inb_S4x256x512_S1x256x512_2_0_0) (yrow b 2 inb_S4x256x512_S1x256x512_2_0_0) (krow k 2 inb_S4x256x1_S1x256x1_2_0_0) (fu2 a b k w s)
@[inherit_doc fu1] def fu4 : HC F := stepTwo (wrow2 w 0 inb_S2x1536x2048_S1x1536x2048_0_0_0) (yrow a 3 inb_S4x256x512_S1x256x512_3_0_0) (yrow b 3 inb_S4x256x512_S1x256x512_3_0_0) (krow k 3 inb_S4x256x1_S1x256x1_3_0_0) (fu3 a b k w s)
/-- The backward second-layer states after one, two, three and four steps of a block. -/
def bu1 : HC F := stepTwo (wrow2 w 1 inb_S2x1536x2048_S1x1536x2048_1_0_0) (yrow a 3 inb_S4x256x512_S1x256x512_3_0_0) (yrow b 3 inb_S4x256x512_S1x256x512_3_0_0) (krow k 3 inb_S4x256x1_S1x256x1_3_0_0) s
@[inherit_doc bu1] def bu2 : HC F := stepTwo (wrow2 w 1 inb_S2x1536x2048_S1x1536x2048_1_0_0) (yrow a 2 inb_S4x256x512_S1x256x512_2_0_0) (yrow b 2 inb_S4x256x512_S1x256x512_2_0_0) (krow k 2 inb_S4x256x1_S1x256x1_2_0_0) (bu1 a b k w s)
@[inherit_doc bu1] def bu3 : HC F := stepTwo (wrow2 w 1 inb_S2x1536x2048_S1x1536x2048_1_0_0) (yrow a 1 inb_S4x256x512_S1x256x512_1_0_0) (yrow b 1 inb_S4x256x512_S1x256x512_1_0_0) (krow k 1 inb_S4x256x1_S1x256x1_1_0_0) (bu2 a b k w s)
@[inherit_doc bu1] def bu4 : HC F := stepTwo (wrow2 w 1 inb_S2x1536x2048_S1x1536x2048_1_0_0) (yrow a 0 inb_S4x256x512_S1x256x512_0_0_0) (yrow b 0 inb_S4x256x512_S1x256x512_0_0_0) (krow k 0 inb_S4x256x1_S1x256x1_0_0_0) (bu3 a b k w s)
end

/-- A final hidden state as the kernel stores it. -/
def half (h : FVec F S256x512 .f32) : FVec F S256x512 .bf16 := truncf .bf16 h bitsLt_bf16_f32

/-- The kernel's test for the first grid point. -/
abbrev first1 (i : grid1.Coords) : Prop := Scalar.cmpi .ne (Scalar.extui (Scalar.cmpi .eq (BitVec.ofNat 32 (i 0).val) 0#32)) 0#32 = 1#1
/-- The kernel's test for the last grid point. -/
abbrev last1 (i : grid1.Coords) : Prop := k1_cond2 i = 1#1

/-- The body runs from the thirteen buffers at `f1` … `f13` to the inputs unchanged, the outputs at `g8`, `g9` and the
    stores `L10` … `L13` made. -/
def RunsTwo (c : Dev nD) (i : grid1.Coords)
  (arg1 : Memref sig .tc .vmem S4x256x512 .fp8e4m3) (harg1 : arg1.IsWhole)
  (arg2 : Memref sig .tc .vmem S4x256x512 .fp8e4m3) (harg2 : arg2.IsWhole)
  (arg3 : Memref sig .tc .vmem S4x256x512 .fp8e4m3) (harg3 : arg3.IsWhole)
  (arg4 : Memref sig .tc .vmem S4x256x512 .fp8e4m3) (harg4 : arg4.IsWhole)
  (arg5 : Memref sig .tc .vmem S4x256x1 .i32) (harg5 : arg5.IsWhole)
  (arg6 : Memref sig .tc .vmem S4x256x1 .i32) (harg6 : arg6.IsWhole)
  (arg7 : Memref sig .tc .vmem S2x1536x2048 .fp8e4m3) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S256x512 .f32) (harg13 : arg13.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (f12 : arg12.view.ty.Contents (Elt F))
    (f13 : arg13.view.ty.Contents (Elt F))
    (g8 : arg8.view.ty.Contents (Elt F)) (g9 : arg9.view.ty.Contents (Elt F)) (L10 L11 L12 L13 : List (View.Piece (Elt F) S256x512 .f32))
    (E : Set ℕ) (K : PUnit.{1} → sProp 𝕄) : Prop :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
      ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} g8) ∗ (arg9.view.loc (c : Thread nD τ) ↦[arg9.view.set]{fullShare} g9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
    ⊢ wp frame (wpE (defs₀ (F := F)) Variants.none c none) E (cc1__scan2_kernel i arg1 harg1 arg2 harg2 arg3 harg3 arg4 harg4 arg5 harg5 arg6 harg6 arg7 harg7 arg8 harg8 arg9 harg9 arg10 harg10 arg11 harg11 arg12 harg12 arg13 harg13) K

set_option maxHeartbeats 1600000 in
/-- At the first point the states are zeroed before the steps. -/
theorem runTwo_first (c : Dev nD) (i : grid1.Coords)
  (arg1 : Memref sig .tc .vmem S4x256x512 .fp8e4m3) (harg1 : arg1.IsWhole)
  (arg2 : Memref sig .tc .vmem S4x256x512 .fp8e4m3) (harg2 : arg2.IsWhole)
  (arg3 : Memref sig .tc .vmem S4x256x512 .fp8e4m3) (harg3 : arg3.IsWhole)
  (arg4 : Memref sig .tc .vmem S4x256x512 .fp8e4m3) (harg4 : arg4.IsWhole)
  (arg5 : Memref sig .tc .vmem S4x256x1 .i32) (harg5 : arg5.IsWhole)
  (arg6 : Memref sig .tc .vmem S4x256x1 .i32) (harg6 : arg6.IsWhole)
  (arg7 : Memref sig .tc .vmem S2x1536x2048 .fp8e4m3) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S256x512 .f32) (harg13 : arg13.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (f12 : arg12.view.ty.Contents (Elt F))
    (f13 : arg13.view.ty.Contents (Elt F))
    (hc0 : first1 i) (hc1 : ¬ last1 i) (E : Set ℕ) (K : PUnit.{1} → sProp 𝕄) :
    ∃ g8 g9 L10 L11 L12 L13, RunsTwo c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 g8 g9 L10 L11 L12 L13 E K
      ∧ (let sf : HC F := (arg10.view.readCov (Val := Elt F) [⟨scR, zeroHC.1⟩] scR.toLoadRect, arg11.view.readCov (Val := Elt F) [⟨scR, zeroHC.2⟩] scR.toLoadRect)
         let sb : HC F := (arg12.view.readCov (Val := Elt F) [⟨scR, zeroHC.1⟩] scR.toLoadRect, arg13.view.readCov (Val := Elt F) [⟨scR, zeroHC.2⟩] scR.toLoadRect)
         (g8 = f8 ∧ g9 = f9)
         ∧ (L10 = ⟨scR, (keep (fu4 (arg1.view.read (Elt F) f1) (arg2.view.read (Elt F) f2) (arg5.view.read (Elt F) f5) (arg7.view.read (Elt F) f7) sf)).1⟩ :: [⟨scR, zeroHC.1⟩] ∧ L11 = ⟨scR, (keep (fu4 (arg1.view.read (Elt F) f1) (arg2.view.read (Elt F) f2) (arg5.view.read (Elt F) f5) (arg7.view.read (Elt F) f7) sf)).2⟩ :: [⟨scR, zeroHC.2⟩])
         ∧ (L12 = ⟨scR, (keep (bu4 (arg3.view.read (Elt F) f3) (arg4.view.read (Elt F) f4) (arg6.view.read (Elt F) f6) (arg7.view.read (Elt F) f7) sb)).1⟩ :: [⟨scR, zeroHC.1⟩] ∧ L13 = ⟨scR, (keep (bu4 (arg3.view.read (Elt F) f3) (arg4.view.read (Elt F) f4) (arg6.view.read (Elt F) f6) (arg7.view.read (Elt F) f7) sb)).2⟩ :: [⟨scR, zeroHC.2⟩])) := by
  refine ⟨?_, ?_, ?_, ?_, ?_, ?_, ?run, ⟨?e8, ?e9⟩, ⟨?e10, ?e11⟩, ⟨?e12, ?e13⟩⟩
  case run =>
    unfold RunsTwo
    simp only [cc1__scan2_kernel_eq_skeleton]; unfold cc1__scan2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    iintro ⟨H1, H2, H3, H4, H5, H6, H7, H8, H9, H10, H11, H12, H13, Hk⟩
    sl_exec (disch := first | sl_exact hc0 | sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iexists _; iexact H13
  all_goals sl_kernel_rfl

set_option maxHeartbeats 1600000 in
/-- At a point in between the carried states are read. -/
theorem runTwo_mid (c : Dev nD) (i : grid1.Coords)
  (arg1 : Memref sig .tc .vmem S4x256x512 .fp8e4m3) (harg1 : arg1.IsWhole)
  (arg2 : Memref sig .tc .vmem S4x256x512 .fp8e4m3) (harg2 : arg2.IsWhole)
  (arg3 : Memref sig .tc .vmem S4x256x512 .fp8e4m3) (harg3 : arg3.IsWhole)
  (arg4 : Memref sig .tc .vmem S4x256x512 .fp8e4m3) (harg4 : arg4.IsWhole)
  (arg5 : Memref sig .tc .vmem S4x256x1 .i32) (harg5 : arg5.IsWhole)
  (arg6 : Memref sig .tc .vmem S4x256x1 .i32) (harg6 : arg6.IsWhole)
  (arg7 : Memref sig .tc .vmem S2x1536x2048 .fp8e4m3) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S256x512 .f32) (harg13 : arg13.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (f12 : arg12.view.ty.Contents (Elt F))
    (f13 : arg13.view.ty.Contents (Elt F))
    (hc0 : ¬ first1 i) (hc1 : ¬ last1 i) (E : Set ℕ) (K : PUnit.{1} → sProp 𝕄) :
    ∃ g8 g9 L10 L11 L12 L13, RunsTwo c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 g8 g9 L10 L11 L12 L13 E K
      ∧ (let sf : HC F := (View.ld (arg10.view.read (Elt F) f10) scR, View.ld (arg11.view.read (Elt F) f11) scR)
         let sb : HC F := (View.ld (arg12.view.read (Elt F) f12) scR, View.ld (arg13.view.read (Elt F) f13) scR)
         (g8 = f8 ∧ g9 = f9)
         ∧ (L10 = ⟨scR, (keep (fu4 (arg1.view.read (Elt F) f1) (arg2.view.read (Elt F) f2) (arg5.view.read (Elt F) f5) (arg7.view.read (Elt F) f7) sf)).1⟩ :: [] ∧ L11 = ⟨scR, (keep (fu4 (arg1.view.read (Elt F) f1) (arg2.view.read (Elt F) f2) (arg5.view.read (Elt F) f5) (arg7.view.read (Elt F) f7) sf)).2⟩ :: [])
         ∧ (L12 = ⟨scR, (keep (bu4 (arg3.view.read (Elt F) f3) (arg4.view.read (Elt F) f4) (arg6.view.read (Elt F) f6) (arg7.view.read (Elt F) f7) sb)).1⟩ :: [] ∧ L13 = ⟨scR, (keep (bu4 (arg3.view.read (Elt F) f3) (arg4.view.read (Elt F) f4) (arg6.view.read (Elt F) f6) (arg7.view.read (Elt F) f7) sb)).2⟩ :: [])) := by
  refine ⟨?_, ?_, ?_, ?_, ?_, ?_, ?run, ⟨?e8, ?e9⟩, ⟨?e10, ?e11⟩, ⟨?e12, ?e13⟩⟩
  case run =>
    unfold RunsTwo
    simp only [cc1__scan2_kernel_eq_skeleton]; unfold cc1__scan2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    iintro ⟨H1, H2, H3, H4, H5, H6, H7, H8, H9, H10, H11, H12, H13, Hk⟩
    sl_exec (disch := first | sl_exact hc0 | sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iexists _; iexact H13
  all_goals sl_kernel_rfl

set_option maxHeartbeats 1600000 in
/-- At the last point the final hidden states are stored too. -/
theorem runTwo_last (c : Dev nD) (i : grid1.Coords)
  (arg1 : Memref sig .tc .vmem S4x256x512 .fp8e4m3) (harg1 : arg1.IsWhole)
  (arg2 : Memref sig .tc .vmem S4x256x512 .fp8e4m3) (harg2 : arg2.IsWhole)
  (arg3 : Memref sig .tc .vmem S4x256x512 .fp8e4m3) (harg3 : arg3.IsWhole)
  (arg4 : Memref sig .tc .vmem S4x256x512 .fp8e4m3) (harg4 : arg4.IsWhole)
  (arg5 : Memref sig .tc .vmem S4x256x1 .i32) (harg5 : arg5.IsWhole)
  (arg6 : Memref sig .tc .vmem S4x256x1 .i32) (harg6 : arg6.IsWhole)
  (arg7 : Memref sig .tc .vmem S2x1536x2048 .fp8e4m3) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S256x512 .f32) (harg13 : arg13.IsWhole)
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F))
    (f12 : arg12.view.ty.Contents (Elt F))
    (f13 : arg13.view.ty.Contents (Elt F))
    (hc0 : ¬ first1 i) (hc1 : last1 i) (E : Set ℕ) (K : PUnit.{1} → sProp 𝕄) :
    ∃ g8 g9 L10 L11 L12 L13, RunsTwo c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 g8 g9 L10 L11 L12 L13 E K
      ∧ (let sf : HC F := (View.ld (arg10.view.read (Elt F) f10) scR, View.ld (arg11.view.read (Elt F) f11) scR)
         let sb : HC F := (View.ld (arg12.view.read (Elt F) f12) scR, View.ld (arg13.view.read (Elt F) f13) scR)
         (g8 = arg8.view.writes (Elt F) f8 [⟨scR, half (fu4 (arg1.view.read (Elt F) f1) (arg2.view.read (Elt F) f2) (arg5.view.read (Elt F) f5) (arg7.view.read (Elt F) f7) sf).1⟩] ∧ g9 = arg9.view.writes (Elt F) f9 [⟨scR, half (bu4 (arg3.view.read (Elt F) f3) (arg4.view.read (Elt F) f4) (arg6.view.read (Elt F) f6) (arg7.view.read (Elt F) f7) sb).1⟩])
         ∧ (L10 = ⟨scR, (keep (fu4 (arg1.view.read (Elt F) f1) (arg2.view.read (Elt F) f2) (arg5.view.read (Elt F) f5) (arg7.view.read (Elt F) f7) sf)).1⟩ :: [] ∧ L11 = ⟨scR, (keep (fu4 (arg1.view.read (Elt F) f1) (arg2.view.read (Elt F) f2) (arg5.view.read (Elt F) f5) (arg7.view.read (Elt F) f7) sf)).2⟩ :: [])
         ∧ (L12 = ⟨scR, (keep (bu4 (arg3.view.read (Elt F) f3) (arg4.view.read (Elt F) f4) (arg6.view.read (Elt F) f6) (arg7.view.read (Elt F) f7) sb)).1⟩ :: [] ∧ L13 = ⟨scR, (keep (bu4 (arg3.view.read (Elt F) f3) (arg4.view.read (Elt F) f4) (arg6.view.read (Elt F) f6) (arg7.view.read (Elt F) f7) sb)).2⟩ :: [])) := by
  refine ⟨?_, ?_, ?_, ?_, ?_, ?_, ?run, ⟨?e8, ?e9⟩, ⟨?e10, ?e11⟩, ⟨?e12, ?e13⟩⟩
  case run =>
    unfold RunsTwo
    simp only [cc1__scan2_kernel_eq_skeleton]; unfold cc1__scan2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    iintro ⟨H1, H2, H3, H4, H5, H6, H7, H8, H9, H10, H11, H12, H13, Hk⟩
    sl_exec (disch := first | sl_exact hc0 | sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iexists _; iexact H13
  all_goals sl_kernel_rfl

end Cert.Proof
end
-- ==== Proof.ScanTwoBody.lean ====
/-
  The second-layer kernel's body at one grid point, as a triple over the contents of its buffers: the carried buffers
  hold the functions of `ScanTwoRun`, and the two output buffers keep what they held until the last point fills them.
-/
module

public import proofs.«01_k».proof.Proof.ScanTwoRun

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The states the steps of a point start from: zero at the first point, else what was carried. -/
def startTwo (i : grid1.Coords) (s : HC F) : HC F := open Classical in if first1 i then zeroHC else s

/-- What an output buffer holds after a point: the final hidden state at the last point, else what it held. -/
def lastOr (i : grid1.Coords) (d : FVec F S256x512 .bf16) (h : FVec F S256x512 .f32) : FVec F S256x512 .bf16 := open Classical in if last1 i then half h else d

/-- The stores of a body whose reads are known, wherever it starts; the first point is not the last. -/
theorem storesTwo (c : Dev nD) (i : grid1.Coords)
  (arg1 : Memref sig .tc .vmem S4x256x512 .fp8e4m3) (harg1 : arg1.IsWhole)
  (arg2 : Memref sig .tc .vmem S4x256x512 .fp8e4m3) (harg2 : arg2.IsWhole)
  (arg3 : Memref sig .tc .vmem S4x256x512 .fp8e4m3) (harg3 : arg3.IsWhole)
  (arg4 : Memref sig .tc .vmem S4x256x512 .fp8e4m3) (harg4 : arg4.IsWhole)
  (arg5 : Memref sig .tc .vmem S4x256x1 .i32) (harg5 : arg5.IsWhole)
  (arg6 : Memref sig .tc .vmem S4x256x1 .i32) (harg6 : arg6.IsWhole)
  (arg7 : Memref sig .tc .vmem S2x1536x2048 .fp8e4m3) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S256x512 .f32) (harg13 : arg13.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F))
    (hfl : first1 i → ¬ last1 i) (E : Set ℕ) (K : PUnit.{1} → sProp 𝕄) :
    ∃ g8 g9 L10 L11 L12 L13, RunsTwo c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 g8 g9 L10 L11 L12 L13 E K
      ∧ (let y : HC F := fu4 (arg1.view.read (Elt F) f1) (arg2.view.read (Elt F) f2) (arg5.view.read (Elt F) f5) (arg7.view.read (Elt F) f7) (startTwo i ((arg10.view.read (Elt F) f10), (arg11.view.read (Elt F) f11)))
         let z : HC F := bu4 (arg3.view.read (Elt F) f3) (arg4.view.read (Elt F) f4) (arg6.view.read (Elt F) f6) (arg7.view.read (Elt F) f7) (startTwo i ((arg12.view.read (Elt F) f12), (arg13.view.read (Elt F) f13)))
         arg8.view.read (Elt F) g8 = lastOr i (arg8.view.read (Elt F) f8) y.1 ∧ arg9.view.read (Elt F) g9 = lastOr i (arg9.view.read (Elt F) f9) z.1
         ∧ (∀ f, arg10.view.read (Elt F) (arg10.view.writes (Elt F) f L10) = (keep y).1) ∧ (∀ f, arg11.view.read (Elt F) (arg11.view.writes (Elt F) f L11) = (keep y).2)
         ∧ (∀ f, arg12.view.read (Elt F) (arg12.view.writes (Elt F) f L12) = (keep z).1) ∧ (∀ f, arg13.view.read (Elt F) (arg13.view.writes (Elt F) f L13) = (keep z).2)) := by
  by_cases hc : first1 i
  · obtain ⟨g8, g9, L10, L11, L12, L13, h, ⟨rfl, rfl⟩, ⟨rfl, rfl⟩, ⟨rfl, rfl⟩⟩ := runTwo_first c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 hc (hfl hc) E K
    refine ⟨_, _, _, _, _, _, h, ?_⟩
    simp only [startTwo, lastOr, if_pos hc, if_neg (hfl hc), View.readCov_full]
    exact ⟨trivial, trivial, fun f => View.read_writes_full _ f _ _ _, fun f => View.read_writes_full _ f _ _ _, fun f => View.read_writes_full _ f _ _ _, fun f => View.read_writes_full _ f _ _ _⟩
  by_cases hl : last1 i
  · obtain ⟨g8, g9, L10, L11, L12, L13, h, ⟨rfl, rfl⟩, ⟨rfl, rfl⟩, ⟨rfl, rfl⟩⟩ := runTwo_last c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 hc hl E K
    refine ⟨_, _, _, _, _, _, h, ?_⟩
    simp only [startTwo, lastOr, if_neg hc, if_pos hl, ld_scR]
    exact ⟨View.read_writes_full _ _ _ _ _, View.read_writes_full _ _ _ _ _, fun f => View.read_writes_full _ f _ _ _, fun f => View.read_writes_full _ f _ _ _, fun f => View.read_writes_full _ f _ _ _, fun f => View.read_writes_full _ f _ _ _⟩
  · obtain ⟨g8, g9, L10, L11, L12, L13, h, ⟨rfl, rfl⟩, ⟨rfl, rfl⟩, ⟨rfl, rfl⟩⟩ := runTwo_mid c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 hc hl E K
    refine ⟨_, _, _, _, _, _, h, ?_⟩
    simp only [startTwo, lastOr, if_neg hc, if_neg hl, ld_scR]
    exact ⟨trivial, trivial, fun f => View.read_writes_full _ f _ _ _, fun f => View.read_writes_full _ f _ _ _, fun f => View.read_writes_full _ f _ _ _, fun f => View.read_writes_full _ f _ _ _⟩

set_option maxHeartbeats 1600000 in
/-- The body's triple at any point. -/
theorem bodyTwo (c : Dev nD) (i : grid1.Coords)
  (arg1 : Memref sig .tc .vmem S4x256x512 .fp8e4m3) (harg1 : arg1.IsWhole)
  (arg2 : Memref sig .tc .vmem S4x256x512 .fp8e4m3) (harg2 : arg2.IsWhole)
  (arg3 : Memref sig .tc .vmem S4x256x512 .fp8e4m3) (harg3 : arg3.IsWhole)
  (arg4 : Memref sig .tc .vmem S4x256x512 .fp8e4m3) (harg4 : arg4.IsWhole)
  (arg5 : Memref sig .tc .vmem S4x256x1 .i32) (harg5 : arg5.IsWhole)
  (arg6 : Memref sig .tc .vmem S4x256x1 .i32) (harg6 : arg6.IsWhole)
  (arg7 : Memref sig .tc .vmem S2x1536x2048 .fp8e4m3) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S256x512 .f32) (harg13 : arg13.IsWhole)
    (x1 : Vec F S4x256x512 .fp8e4m3) (x2 : Vec F S4x256x512 .fp8e4m3) (x3 : Vec F S4x256x512 .fp8e4m3) (x4 : Vec F S4x256x512 .fp8e4m3) (x5 : Vec F S4x256x1 .i32) (x6 : Vec F S4x256x1 .i32) (x7 : Vec F S2x1536x2048 .fp8e4m3) (x8 x9 : Vec F S256x512 .bf16)
    (s t : HC F) (hfl : first1 i → ¬ last1 i) (E : Set ℕ) (K : PUnit.{1} → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare s.1 ∗ owns (c : Thread nD τ) arg11 fullShare s.2 ∗ owns (c : Thread nD τ) arg12 fullShare t.1 ∗ owns (c : Thread nD τ) arg13 fullShare t.2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare (lastOr i x8 (fu4 x1 x2 x5 x7 (startTwo i s)).1) ∗ owns (c : Thread nD τ) arg9 fullShare (lastOr i x9 (bu4 x3 x4 x6 x7 (startTwo i t)).1)
          ∗ owns (c : Thread nD τ) arg10 fullShare (keep (fu4 x1 x2 x5 x7 (startTwo i s))).1 ∗ owns (c : Thread nD τ) arg11 fullShare (keep (fu4 x1 x2 x5 x7 (startTwo i s))).2
          ∗ owns (c : Thread nD τ) arg12 fullShare (keep (bu4 x3 x4 x6 x7 (startTwo i t))).1 ∗ owns (c : Thread nD τ) arg13 fullShare (keep (bu4 x3 x4 x6 x7 (startTwo i t))).2) -∗ K ⟨⟩))
      ⊢ wp frame (wpE (defs₀ (F := F)) Variants.none c none) E (cc1__scan2_kernel i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, Hk⟩
  obtain ⟨g8, g9, L10, L11, L12, L13, h, r8, r9, r10, r11, r12, r13⟩ := storesTwo c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 hfl E K
  rw [e1, e2, e5, e7, e10, e11] at r8 r10 r11
  rw [e3, e4, e6, e7, e12, e13] at r9 r12 r13
  rw [e8] at r8
  rw [e9] at r9
  unfold RunsTwo at h
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, ⟨%g10, H10⟩, ⟨%g11, H11⟩, ⟨%g12, H12⟩, ⟨%g13, H13⟩⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists g8; isplitr; (· ipureintro; exact r8); iexact H8
  isplitl [H9]; · iexists g9; isplitr; (· ipureintro; exact r9); iexact H9
  isplitl [H10]; · iexists (arg10.view.writes (Elt F) g10 L10); isplitr; (· ipureintro; exact r10 g10); iexact H10
  isplitl [H11]; · iexists (arg11.view.writes (Elt F) g11 L11); isplitr; (· ipureintro; exact r11 g11); iexact H11
  isplitl [H12]; · iexists (arg12.view.writes (Elt F) g12 L12); isplitr; (· ipureintro; exact r12 g12); iexact H12
  iexists (arg13.view.writes (Elt F) g13 L13); isplitr; (· ipureintro; exact r13 g13); iexact H13

end Cert.Proof
end
-- ==== Proof.RegionTwo.lean ====
/-
  The second-layer scan over its 64 points: the carried states, what each window holds, and the body obligation.
-/
module

public import proofs.«01_k».proof.Proof.RegionOne
public import proofs.«01_k».proof.Proof.ScanTwoBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the window is on. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The forward states carried into point `n`. -/
def fwSt1 (c : Dev nD) : ℕ → HC F
  | 0 => zeroHC
  | n + 1 => if h : n < cfg1.N then keep (fu4 (blk1 V c 0 ⟨n, h⟩) (blk1 V c 1 ⟨n, h⟩) (blk1 V c 4 ⟨n, h⟩) (blk1 V c 6 ⟨n, h⟩) (fwSt1 c n)) else zeroHC
/-- The backward states carried into point `n`. -/
def bwSt1 (c : Dev nD) : ℕ → HC F
  | 0 => zeroHC
  | n + 1 => if h : n < cfg1.N then keep (bu4 (blk1 V c 2 ⟨n, h⟩) (blk1 V c 3 ⟨n, h⟩) (blk1 V c 5 ⟨n, h⟩) (blk1 V c 6 ⟨n, h⟩) (bwSt1 c n)) else zeroHC

theorem fwSt1_succ (c : Dev nD) (t : Fin cfg1.N) : fwSt1 V c (t.val + 1) = keep (fu4 (blk1 V c 0 t) (blk1 V c 1 t) (blk1 V c 4 t) (blk1 V c 6 t) (fwSt1 V c t.val)) := dif_pos t.isLt
theorem bwSt1_succ (c : Dev nD) (t : Fin cfg1.N) : bwSt1 V c (t.val + 1) = keep (bu4 (blk1 V c 2 t) (blk1 V c 3 t) (blk1 V c 5 t) (blk1 V c 6 t) (bwSt1 V c t.val)) := dif_pos t.isLt

/-- The kernel's test holds at point 0 only. -/
theorem first1_iff : ∀ t : Fin cfg1.N, first1 (grid1.coords t) ↔ t.val = 0 :=
  (fun t => by
    have ht : t.val < 64 := Nat.lt_of_lt_of_eq t.isLt N_1
    have e0 : (grid1.coords t 0).val = t.val / 1 % 64 := Pipeline.Grid.coords_val t 0 (by decide) rfl
    rw [show t.val = 0 ↔ t.val % 64 = 0 by omega]
    simp only [first1, e0]
    word_cmp
   : ∀ t : Fin grid1.N, first1 (grid1.coords t) ↔ t.val = 0)

/-- The kernel's test for the last point. -/
theorem last1_iff : ∀ t : Fin cfg1.N, last1 (grid1.coords t) ↔ t.val = 63 :=
  (fun t => by
    have ht : t.val < 64 := Nat.lt_of_lt_of_eq t.isLt N_1
    have e0 : (grid1.coords t 0).val = t.val / 1 % 64 := Pipeline.Grid.coords_val t 0 (by decide) rfl
    rw [show t.val = 63 ↔ t.val % 64 = 63 by omega]
    simp only [last1, k1_cond2, e0]
    word_cmp
   : ∀ t : Fin grid1.N, last1 (grid1.coords t) ↔ t.val = 63)

abbrev scM1_0 : Memref sig .tc .vmem S256x512 .f32 := Memref.whole cc1_scratch0
abbrev scM1_1 : Memref sig .tc .vmem S256x512 .f32 := Memref.whole cc1_scratch1
abbrev scM1_2 : Memref sig .tc .vmem S256x512 .f32 := Memref.whole cc1_scratch2
abbrev scM1_3 : Memref sig .tc .vmem S256x512 .f32 := Memref.whole cc1_scratch3

/-- The region's invariant before point `n`: the four carried buffers at some states, which after the first point are
    the scans' states, beside the other scoped buffers. -/
def Phi1 (c : Dev nD) (n : ℕ) : sProp 𝕄 :=
  iprop(∃ s t : HC F, ⌜n ≠ 0 → s = fwSt1 V c n ∧ t = bwSt1 V c n⌝ ∗ (owns (c : Thread nD τ) scM1_0 fullShare s.1 ∗ owns (c : Thread nD τ) scM1_1 fullShare s.2 ∗ owns (c : Thread nD τ) scM1_2 fullShare t.1 ∗ owns (c : Thread nD τ) scM1_3 fullShare t.2)
    ∗ Pipeline.scopedRestBut (Ix := Unit) (Name := ℕ) (U := UR sig nD τ) (Lvl := ℕ) (Val := Elt F) spec1 c [cc1_scratch0, cc1_scratch1, cc1_scratch2, cc1_scratch3])

/-- The region's proof data from the buffers `V`: what each window's buffer holds after the body at each point. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => half (fu4 (blk1 V c 0 t) (blk1 V c 1 t) (blk1 V c 4 t) (blk1 V c 6 t) (fwSt1 V c t.val)).1
    | ⟨8, _⟩ => half (bu4 (blk1 V c 2 t) (blk1 V c 3 t) (blk1 V c 5 t) (blk1 V c 6 t) (bwSt1 V c t.val)).1
  Φ t := Phi1 V c t.val
  q w := Pipeline.shareOf spec1 w
  owed _ := 0

/-- Input 0's buffer holds its block at every point. -/
theorem before1_0 (c : Dev nD) (t : Fin cfg1.N) (d) : (dat1 V c).before 0 t d = blk1 V c 0 t :=
  Dat.before_in_eq_fetched (dat1 V c) 0 rfl (fun _ => rfl) (fun _ _ _ => rfl) (fun _ => rfl) t d
/-- Input 1's buffer holds its block at every point. -/
theorem before1_1 (c : Dev nD) (t : Fin cfg1.N) (d) : (dat1 V c).before 1 t d = blk1 V c 1 t :=
  Dat.before_in_eq_fetched (dat1 V c) 1 rfl (fun _ => rfl) (fun _ _ _ => rfl) (fun _ => rfl) t d
/-- Input 2's buffer holds its block at every point. -/
theorem before1_2 (c : Dev nD) (t : Fin cfg1.N) (d) : (dat1 V c).before 2 t d = blk1 V c 2 t :=
  Dat.before_in_eq_fetched (dat1 V c) 2 rfl (fun _ => rfl) (fun _ _ _ => rfl) (fun _ => rfl) t d
/-- Input 3's buffer holds its block at every point. -/
theorem before1_3 (c : Dev nD) (t : Fin cfg1.N) (d) : (dat1 V c).before 3 t d = blk1 V c 3 t :=
  Dat.before_in_eq_fetched (dat1 V c) 3 rfl (fun _ => rfl) (fun _ _ _ => rfl) (fun _ => rfl) t d
/-- Input 4's buffer holds its block at every point. -/
theorem before1_4 (c : Dev nD) (t : Fin cfg1.N) (d) : (dat1 V c).before 4 t d = blk1 V c 4 t :=
  Dat.before_in_eq_fetched (dat1 V c) 4 rfl (fun _ => rfl) (fun _ _ _ => rfl) (fun _ => rfl) t d
/-- Input 5's buffer holds its block at every point. -/
theorem before1_5 (c : Dev nD) (t : Fin cfg1.N) (d) : (dat1 V c).before 5 t d = blk1 V c 5 t :=
  Dat.before_in_eq_fetched (dat1 V c) 5 rfl (fun _ => rfl) (fun _ _ _ => rfl) (fun _ => rfl) t d
/-- Input 6's buffer holds its block at every point. -/
theorem before1_6 (c : Dev nD) (t : Fin cfg1.N) (d) : (dat1 V c).before 6 t d = blk1 V c 6 t :=
  Dat.before_in_eq_fetched (dat1 V c) 6 rfl (fun _ => rfl) (fun _ _ _ => rfl) (fun _ => rfl) t d

theorem row1 (t : Fin cfg1.N) : defs₀ (F := F) .tc cfg1.body (cfg1.bodyArgs t (cfg1.slots t)) = bodyAt1 t := by
  unfold defs₀; rw [Defs.onTc_tc]

/-- Output 7's buffer: untouched and not written back before the last point, the final forward hidden state there. -/
theorem leaves1_7 (c : Dev nD) (t : Fin cfg1.N) (d) :
    (owns (c : Thread nD τ) (st1_7 t) fullShare (lastOr (grid1.coords t) ((dat1 V c).before 7 t d) (fu4 (blk1 V c 0 t) (blk1 V c 1 t) (blk1 V c 4 t) (blk1 V c 6 t) (fwSt1 V c t.val)).1) : sProp 𝕄)
      ⊢ (dat1 V c).leavesExact 7 t := by
  unfold lastOr
  split
  · next h =>
    have hi : cfg1.idle 7 (cfg1.grid.coords t) = false := by
      show (!(k1_cond2 (grid1.coords t) == 1#1)) = false
      rw [show k1_cond2 (grid1.coords t) = 1#1 from h]; rfl
    unfold Dat.leavesExact
    rw [hi]
    exact .rfl
  · next h =>
    have hi : cfg1.idle 7 (cfg1.grid.coords t) = true := by
      show (!(k1_cond2 (grid1.coords t) == 1#1)) = true
      rw [beq_eq_false_iff_ne.mpr h]; rfl
    have hf : (cfg1.win 7).flush t = false := by
      rw [← Bool.not_eq_true, flush1_7 t]
      have := t.isLt.trans_eq N_1
      have := mt (last1_iff t).mpr h
      omega
    rw [Dat.leavesExact_idle (dat1 V c) 7 t hi hf]
    iintro H; iexists d; iexact H

/-- Output 8's buffer: untouched and not written back before the last point, the final backward hidden state there. -/
theorem leaves1_8 (c : Dev nD) (t : Fin cfg1.N) (d) :
    (owns (c : Thread nD τ) (st1_8 t) fullShare (lastOr (grid1.coords t) ((dat1 V c).before 8 t d) (bu4 (blk1 V c 2 t) (blk1 V c 3 t) (blk1 V c 5 t) (blk1 V c 6 t) (bwSt1 V c t.val)).1) : sProp 𝕄)
      ⊢ (dat1 V c).leavesExact 8 t := by
  unfold lastOr
  split
  · next h =>
    have hi : cfg1.idle 8 (cfg1.grid.coords t) = false := by
      show (!(k1_cond2 (grid1.coords t) == 1#1)) = false
      rw [show k1_cond2 (grid1.coords t) = 1#1 from h]; rfl
    unfold Dat.leavesExact
    rw [hi]
    exact .rfl
  · next h =>
    have hi : cfg1.idle 8 (cfg1.grid.coords t) = true := by
      show (!(k1_cond2 (grid1.coords t) == 1#1)) = true
      rw [beq_eq_false_iff_ne.mpr h]; rfl
    have hf : (cfg1.win 8).flush t = false := by
      rw [← Bool.not_eq_true, flush1_8 t]
      have := t.isLt.trans_eq N_1
      have := mt (last1_iff t).mpr h
      omega
    rw [Dat.leavesExact_idle (dat1 V c) 8 t hi hf]
    iintro H; iexists d; iexact H

set_option maxHeartbeats 3200000 in
/-- The body at any point, over the region's invariant. -/
theorem sound1 (c : Dev nD) (t : Fin cfg1.N) :
    iprop(Phi1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))
    ⊢ wp frame (wpE (defs₀ (F := F)) Variants.none c none) Set.univ (bodyAt1 t) (fun _ => iprop(Phi1 V c (t.val + 1) ∗ (dat1 V c).owesAt () t.castSucc
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)) := by
  simp only [before1_0 V c, before1_1 V c, before1_2 V c, before1_3 V c, before1_4 V c, before1_5 V c, before1_6 V c]
  rw [show (dat1 V c).leavesExact 0 t = owns (c : Thread nD τ) (st1_0 t) fullShare (blk1 V c 0 t) from rfl]
  rw [show (dat1 V c).leavesExact 1 t = owns (c : Thread nD τ) (st1_1 t) fullShare (blk1 V c 1 t) from rfl]
  rw [show (dat1 V c).leavesExact 2 t = owns (c : Thread nD τ) (st1_2 t) fullShare (blk1 V c 2 t) from rfl]
  rw [show (dat1 V c).leavesExact 3 t = owns (c : Thread nD τ) (st1_3 t) fullShare (blk1 V c 3 t) from rfl]
  rw [show (dat1 V c).leavesExact 4 t = owns (c : Thread nD τ) (st1_4 t) fullShare (blk1 V c 4 t) from rfl]
  rw [show (dat1 V c).leavesExact 5 t = owns (c : Thread nD τ) (st1_5 t) fullShare (blk1 V c 5 t) from rfl]
  rw [show (dat1 V c).leavesExact 6 t = owns (c : Thread nD τ) (st1_6 t) fullShare (blk1 V c 6 t) from rfl]
  unfold bodyAt1 Phi1
  iintro ⟨⟨%s, %u, %hs, ⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have es : startTwo (grid1.coords t) s = fwSt1 V c t.val := by
    unfold startTwo
    split
    · next h => rw [(first1_iff t).mp h]; rfl
    · next h => exact (hs fun h0 => h ((first1_iff t).mpr h0)).1
  have eu : startTwo (grid1.coords t) u = bwSt1 V c t.val := by
    unfold startTwo
    split
    · next h => rw [(first1_iff t).mp h]; rfl
    · next h => exact (hs fun h0 => h ((first1_iff t).mpr h0)).2
  iapply (bodyTwo c (grid1.coords t) _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) ((dat1 V c).before 7 t d7) ((dat1 V c).before 8 t d8) s u (fun h h' => by
    have := (first1_iff t).mp h; have := (last1_iff t).mp h'; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  rw [es, eu]
  isplitl [S0 S1 S2 S3 Hr]
  · iexists (keep (fu4 (blk1 V c 0 t) (blk1 V c 1 t) (blk1 V c 4 t) (blk1 V c 6 t) (fwSt1 V c t.val))), (keep (bu4 (blk1 V c 2 t) (blk1 V c 3 t) (blk1 V c 5 t) (blk1 V c 6 t) (bwSt1 V c t.val)))
    isplitr; · ipureintro; exact fun _ => ⟨(fwSt1_succ V c t).symm, (bwSt1_succ V c t).symm⟩
    isplitr [Hr]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves1_7 V c t d7); iexact H7
  iapply (leaves1_8 V c t d8); iexact H8

/-- The library's body obligation. -/
theorem obligation1 (c : Dev nD) : BodyObligation (dat1 V c) (defs₀ (F := F)) Variants.none () Set.univ := fun t => by
  rw [bigSep_W1, bigSep_W1, row1]
  exact triple_restated (sound1 V c t) rfl .rfl fun _ => .rfl

end Cert.Proof
end
-- ==== Proof.HeadBody.lean ====
/-
  The head kernel's body, as a triple: the output buffer holds the dense head of the input buffers.
-/
module

public import proofs.«01_k».proof.Proof.ScanTwoBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loading the whole of a buffer reads it. -/
theorem ld_all {s : Shape} {e : EltTy} (o : Fin s.rank → ℕ) (ho : ∀ a, o a = 0) (h : ∀ a, o a + s.size a ≤ s.size a) (x : s.Idx → Elt F e) :
    View.ld x (Rect.unit (s := s) o s.size h) = x := by
  funext y
  refine congrArg x (funext fun a => Fin.ext ?_)
  show o a + 1 * (y a).val = (y a).val
  rw [ho]; omega

/-- The head kernel's result from its eleven inputs. -/
def headOut (x0 : Vec F S256x512 .bf16) (x1 : Vec F S256x512 .bf16) (x2 : Vec F S256x1 .i32) (x3 : Vec F S16x128 .bf16) (x4 : Vec F S1024x1024 .bf16) (x5 : Vec F S128x1024 .bf16) (x6 : Vec F S1x1024 .f32) (x7 : Vec F S1024x512 .bf16) (x8 : Vec F S1x512 .f32) (x9 : Vec F S512x128 .bf16) (x10 : Vec F S1x1 .f32) : FVec F S256x1 .f32 :=
  k2_pay1 (k2_pay2 x0 x1 x2 x3 x4 x5 x6 x7) x8 x9 x10

/-- The body runs from the buffers at `f0` … `f11` to the inputs unchanged and the stores `L` made. -/
def RunsHead (c : Dev nD)
  (arg0 : Memref sig .tc .vmem S256x512 .bf16) (harg0 : arg0.IsWhole)
  (arg1 : Memref sig .tc .vmem S256x512 .bf16) (harg1 : arg1.IsWhole)
  (arg2 : Memref sig .tc .vmem S256x1 .i32) (harg2 : arg2.IsWhole)
  (arg3 : Memref sig .tc .vmem S16x128 .bf16) (harg3 : arg3.IsWhole)
  (arg4 : Memref sig .tc .vmem S1024x1024 .bf16) (harg4 : arg4.IsWhole)
  (arg5 : Memref sig .tc .vmem S128x1024 .bf16) (harg5 : arg5.IsWhole)
  (arg6 : Memref sig .tc .vmem S1x1024 .f32) (harg6 : arg6.IsWhole)
  (arg7 : Memref sig .tc .vmem S1024x512 .bf16) (harg7 : arg7.IsWhole)
  (arg8 : Memref sig .tc .vmem S1x512 .f32) (harg8 : arg8.IsWhole)
  (arg9 : Memref sig .tc .vmem S512x128 .bf16) (harg9 : arg9.IsWhole)
  (arg10 : Memref sig .tc .vmem S1x1 .f32) (harg10 : arg10.IsWhole)
  (arg11 : Memref sig .tc .vmem S256x1 .f32) (harg11 : arg11.IsWhole)
    (f0 : arg0.view.ty.Contents (Elt F))
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F)) (L : List (View.Piece (Elt F) S256x1 .f32))
    (E : Set ℕ) (K : PUnit.{1} → sProp 𝕄) : Prop :=
  iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ (iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f, arg11.view.loc (c : Thread nD τ) ↦[arg11.view.set]{fullShare} arg11.view.writes (Elt F) f L)) -∗ K ⟨⟩))
    ⊢ wp frame (wpE (defs₀ (F := F)) Variants.none c none) E (cc2__head_kernel arg0 harg0 arg1 harg1 arg2 harg2 arg3 harg3 arg4 harg4 arg5 harg5 arg6 harg6 arg7 harg7 arg8 harg8 arg9 harg9 arg10 harg10 arg11 harg11) K

set_option maxHeartbeats 1600000 in
/-- The one store is the head of what the loads read. -/
theorem runHead (c : Dev nD)
  (arg0 : Memref sig .tc .vmem S256x512 .bf16) (harg0 : arg0.IsWhole)
  (arg1 : Memref sig .tc .vmem S256x512 .bf16) (harg1 : arg1.IsWhole)
  (arg2 : Memref sig .tc .vmem S256x1 .i32) (harg2 : arg2.IsWhole)
  (arg3 : Memref sig .tc .vmem S16x128 .bf16) (harg3 : arg3.IsWhole)
  (arg4 : Memref sig .tc .vmem S1024x1024 .bf16) (harg4 : arg4.IsWhole)
  (arg5 : Memref sig .tc .vmem S128x1024 .bf16) (harg5 : arg5.IsWhole)
  (arg6 : Memref sig .tc .vmem S1x1024 .f32) (harg6 : arg6.IsWhole)
  (arg7 : Memref sig .tc .vmem S1024x512 .bf16) (harg7 : arg7.IsWhole)
  (arg8 : Memref sig .tc .vmem S1x512 .f32) (harg8 : arg8.IsWhole)
  (arg9 : Memref sig .tc .vmem S512x128 .bf16) (harg9 : arg9.IsWhole)
  (arg10 : Memref sig .tc .vmem S1x1 .f32) (harg10 : arg10.IsWhole)
  (arg11 : Memref sig .tc .vmem S256x1 .f32) (harg11 : arg11.IsWhole)
    (f0 : arg0.view.ty.Contents (Elt F))
    (f1 : arg1.view.ty.Contents (Elt F))
    (f2 : arg2.view.ty.Contents (Elt F))
    (f3 : arg3.view.ty.Contents (Elt F))
    (f4 : arg4.view.ty.Contents (Elt F))
    (f5 : arg5.view.ty.Contents (Elt F))
    (f6 : arg6.view.ty.Contents (Elt F))
    (f7 : arg7.view.ty.Contents (Elt F))
    (f8 : arg8.view.ty.Contents (Elt F))
    (f9 : arg9.view.ty.Contents (Elt F))
    (f10 : arg10.view.ty.Contents (Elt F))
    (f11 : arg11.view.ty.Contents (Elt F)) (E : Set ℕ) (K : PUnit.{1} → sProp 𝕄) :
    ∃ L, RunsHead c arg0 harg0 arg1 harg1 arg2 harg2 arg3 harg3 arg4 harg4 arg5 harg5 arg6 harg6 arg7 harg7 arg8 harg8 arg9 harg9 arg10 harg10 arg11 harg11 f0 f1 f2 f3 f4 f5 f6 f7 f8 f9 f10 f11 L E K ∧ L = [⟨Rect.unit (s := S256x1) ![0, 0] S256x1.size inb_S256x1_S256x1_0_0, headOut (View.ld (arg0.view.read (Elt F) f0) (Rect.unit (s := S256x512) ![0, 0] S256x512.size inb_S256x512_S256x512_0_0)) (View.ld (arg1.view.read (Elt F) f1) (Rect.unit (s := S256x512) ![0, 0] S256x512.size inb_S256x512_S256x512_0_0)) (View.ld (arg2.view.read (Elt F) f2) (Rect.unit (s := S256x1) ![0, 0] S256x1.size inb_S256x1_S256x1_0_0)) (View.ld (arg3.view.read (Elt F) f3) (Rect.unit (s := S16x128) ![0, 0] S16x128.size inb_S16x128_S16x128_0_0)) (View.ld (arg4.view.read (Elt F) f4) (Rect.unit (s := S1024x1024) ![0, 0] S1024x1024.size inb_S1024x1024_S1024x1024_0_0)) (View.ld (arg5.view.read (Elt F) f5) (Rect.unit (s := S128x1024) ![0, 0] S128x1024.size inb_S128x1024_S128x1024_0_0)) (View.ld (arg6.view.read (Elt F) f6) (Rect.unit (s := S1x1024) ![0, 0] S1x1024.size inb_S1x1024_S1x1024_0_0)) (View.ld (arg7.view.read (Elt F) f7) (Rect.unit (s := S1024x512) ![0, 0] S1024x512.size inb_S1024x512_S1024x512_0_0)) (View.ld (arg8.view.read (Elt F) f8) (Rect.unit (s := S1x512) ![0, 0] S1x512.size inb_S1x512_S1x512_0_0)) (View.ld (arg9.view.read (Elt F) f9) (Rect.unit (s := S512x128) ![0, 0] S512x128.size inb_S512x128_S512x128_0_0)) (View.ld (arg10.view.read (Elt F) f10) (Rect.unit (s := S1x1) ![0, 0] S1x1.size inb_S1x1_S1x1_0_0))⟩] := by
  refine ⟨?_, ?run, ?e⟩
  case run =>
    unfold RunsHead
    simp only [cc2__head_kernel_eq_skeleton]; unfold cc2__head_kernel_skel
    simp only [k2_part1_eq_skeleton]
    iintro ⟨H0, H1, H2, H3, H4, H5, H6, H7, H8, H9, H10, H11, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  sl_kernel_rfl

set_option maxHeartbeats 1600000 in
/-- The head kernel's triple. -/
theorem bodyHead (c : Dev nD)
  (arg0 : Memref sig .tc .vmem S256x512 .bf16) (harg0 : arg0.IsWhole)
  (arg1 : Memref sig .tc .vmem S256x512 .bf16) (harg1 : arg1.IsWhole)
  (arg2 : Memref sig .tc .vmem S256x1 .i32) (harg2 : arg2.IsWhole)
  (arg3 : Memref sig .tc .vmem S16x128 .bf16) (harg3 : arg3.IsWhole)
  (arg4 : Memref sig .tc .vmem S1024x1024 .bf16) (harg4 : arg4.IsWhole)
  (arg5 : Memref sig .tc .vmem S128x1024 .bf16) (harg5 : arg5.IsWhole)
  (arg6 : Memref sig .tc .vmem S1x1024 .f32) (harg6 : arg6.IsWhole)
  (arg7 : Memref sig .tc .vmem S1024x512 .bf16) (harg7 : arg7.IsWhole)
  (arg8 : Memref sig .tc .vmem S1x512 .f32) (harg8 : arg8.IsWhole)
  (arg9 : Memref sig .tc .vmem S512x128 .bf16) (harg9 : arg9.IsWhole)
  (arg10 : Memref sig .tc .vmem S1x1 .f32) (harg10 : arg10.IsWhole)
  (arg11 : Memref sig .tc .vmem S256x1 .f32) (harg11 : arg11.IsWhole)
    (x0 : Vec F S256x512 .bf16) (x1 : Vec F S256x512 .bf16) (x2 : Vec F S256x1 .i32) (x3 : Vec F S16x128 .bf16) (x4 : Vec F S1024x1024 .bf16) (x5 : Vec F S128x1024 .bf16) (x6 : Vec F S1x1024 .f32) (x7 : Vec F S1024x512 .bf16) (x8 : Vec F S1x512 .f32) (x9 : Vec F S512x128 .bf16) (x10 : Vec F S1x1 .f32)
    (E : Set ℕ) (K : PUnit.{1} → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (headOut x0 x1 x2 x3 x4 x5 x6 x7 x8 x9 x10)) -∗ K ⟨⟩))
      ⊢ wp frame (wpE (defs₀ (F := F)) Variants.none c none) E (cc2__head_kernel arg0 harg0 arg1 harg1 arg2 harg2 arg3 harg3 arg4 harg4 arg5 harg5 arg6 harg6 arg7 harg7 arg8 harg8 arg9 harg9 arg10 harg10 arg11 harg11) K := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d, %f11, -, H11⟩, Hk⟩
  obtain ⟨L, h, rfl⟩ := runHead c arg0 harg0 arg1 harg1 arg2 harg2 arg3 harg3 arg4 harg4 arg5 harg5 arg6 harg6 arg7 harg7 arg8 harg8 arg9 harg9 arg10 harg10 arg11 harg11 f0 f1 f2 f3 f4 f5 f6 f7 f8 f9 f10 f11 E K
  rw [ld_all (s := S256x512) ![0, 0] (by decide), ld_all (s := S256x512) ![0, 0] (by decide), ld_all (s := S256x1) ![0, 0] (by decide), ld_all (s := S16x128) ![0, 0] (by decide), ld_all (s := S1024x1024) ![0, 0] (by decide), ld_all (s := S128x1024) ![0, 0] (by decide), ld_all (s := S1x1024) ![0, 0] (by decide), ld_all (s := S1024x512) ![0, 0] (by decide), ld_all (s := S1x512) ![0, 0] (by decide), ld_all (s := S512x128) ![0, 0] (by decide), ld_all (s := S1x1) ![0, 0] (by decide), e0, e1, e2, e3, e4, e5, e6, e7, e8, e9, e10] at h
  unfold RunsHead at h
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, ⟨%g11, H11⟩⟩
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [H10]; · iexists f10; isplitr; (· ipureintro; exact e10); iexact H10
  iexists (arg11.view.writes (Elt F) g11 [⟨Rect.unit (s := S256x1) ![0, 0] S256x1.size inb_S256x1_S256x1_0_0, headOut x0 x1 x2 x3 x4 x5 x6 x7 x8 x9 x10⟩]); isplitr
  · ipureintro; exact View.read_writes_full _ g11 _ _ _
  iexact H11

end Cert.Proof
end
-- ==== Proof.RegionHead.lean ====
/-
  The head kernel's one point: what each window holds, and the body obligation.
-/
module

public import proofs.«01_k».proof.Proof.RegionTwo
public import proofs.«01_k».proof.Proof.HeadBody

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block, read off the array the window is on. -/
abbrev blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scoped buffers the region does not stage. -/
abbrev Phi2 (c : Dev nD) : sProp 𝕄 := Pipeline.scopedRest (Ix := Unit) (Name := ℕ) (U := UR sig nD τ) (Lvl := ℕ) (Val := Elt F) spec2 c

/-- The region's proof data from the buffers `V`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => headOut (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t)
  Φ _ := Phi2 c
  q _ := fullShare
  owed _ := 0

/-- Input 0's buffer holds its block. -/
theorem before2_0 (c : Dev nD) (t : Fin cfg2.N) (d) : (dat2 V c).before 0 t d = blk2 V c 0 t :=
  Dat.before_in_eq_fetched (dat2 V c) 0 rfl (fun _ => rfl) (fun _ _ _ => rfl) (fun _ => rfl) t d
/-- Input 1's buffer holds its block. -/
theorem before2_1 (c : Dev nD) (t : Fin cfg2.N) (d) : (dat2 V c).before 1 t d = blk2 V c 1 t :=
  Dat.before_in_eq_fetched (dat2 V c) 1 rfl (fun _ => rfl) (fun _ _ _ => rfl) (fun _ => rfl) t d
/-- Input 2's buffer holds its block. -/
theorem before2_2 (c : Dev nD) (t : Fin cfg2.N) (d) : (dat2 V c).before 2 t d = blk2 V c 2 t :=
  Dat.before_in_eq_fetched (dat2 V c) 2 rfl (fun _ => rfl) (fun _ _ _ => rfl) (fun _ => rfl) t d
/-- Input 3's buffer holds its block. -/
theorem before2_3 (c : Dev nD) (t : Fin cfg2.N) (d) : (dat2 V c).before 3 t d = blk2 V c 3 t :=
  Dat.before_in_eq_fetched (dat2 V c) 3 rfl (fun _ => rfl) (fun _ _ _ => rfl) (fun _ => rfl) t d
/-- Input 4's buffer holds its block. -/
theorem before2_4 (c : Dev nD) (t : Fin cfg2.N) (d) : (dat2 V c).before 4 t d = blk2 V c 4 t :=
  Dat.before_in_eq_fetched (dat2 V c) 4 rfl (fun _ => rfl) (fun _ _ _ => rfl) (fun _ => rfl) t d
/-- Input 5's buffer holds its block. -/
theorem before2_5 (c : Dev nD) (t : Fin cfg2.N) (d) : (dat2 V c).before 5 t d = blk2 V c 5 t :=
  Dat.before_in_eq_fetched (dat2 V c) 5 rfl (fun _ => rfl) (fun _ _ _ => rfl) (fun _ => rfl) t d
/-- Input 6's buffer holds its block. -/
theorem before2_6 (c : Dev nD) (t : Fin cfg2.N) (d) : (dat2 V c).before 6 t d = blk2 V c 6 t :=
  Dat.before_in_eq_fetched (dat2 V c) 6 rfl (fun _ => rfl) (fun _ _ _ => rfl) (fun _ => rfl) t d
/-- Input 7's buffer holds its block. -/
theorem before2_7 (c : Dev nD) (t : Fin cfg2.N) (d) : (dat2 V c).before 7 t d = blk2 V c 7 t :=
  Dat.before_in_eq_fetched (dat2 V c) 7 rfl (fun _ => rfl) (fun _ _ _ => rfl) (fun _ => rfl) t d
/-- Input 8's buffer holds its block. -/
theorem before2_8 (c : Dev nD) (t : Fin cfg2.N) (d) : (dat2 V c).before 8 t d = blk2 V c 8 t :=
  Dat.before_in_eq_fetched (dat2 V c) 8 rfl (fun _ => rfl) (fun _ _ _ => rfl) (fun _ => rfl) t d
/-- Input 9's buffer holds its block. -/
theorem before2_9 (c : Dev nD) (t : Fin cfg2.N) (d) : (dat2 V c).before 9 t d = blk2 V c 9 t :=
  Dat.before_in_eq_fetched (dat2 V c) 9 rfl (fun _ => rfl) (fun _ _ _ => rfl) (fun _ => rfl) t d
/-- Input 10's buffer holds its block. -/
theorem before2_10 (c : Dev nD) (t : Fin cfg2.N) (d) : (dat2 V c).before 10 t d = blk2 V c 10 t :=
  Dat.before_in_eq_fetched (dat2 V c) 10 rfl (fun _ => rfl) (fun _ _ _ => rfl) (fun _ => rfl) t d

theorem row2 (t : Fin cfg2.N) : defs₀ (F := F) .tc cfg2.body (cfg2.bodyArgs t (cfg2.slots t)) = bodyAt2 t := by
  unfold defs₀; rw [Defs.onTc_tc]

set_option maxHeartbeats 3200000 in
/-- The body at the point, over the region's invariant. -/
theorem sound2 (c : Dev nD) (t : Fin cfg2.N) :
    iprop(Phi2 c ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))
    ⊢ wp frame (wpE (defs₀ (F := F)) Variants.none c none) Set.univ (bodyAt2 t) (fun _ => iprop(Phi2 c ∗ (dat2 V c).owesAt () t.castSucc
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t))) := by
  simp only [before2_0 V c, before2_1 V c, before2_2 V c, before2_3 V c, before2_4 V c, before2_5 V c, before2_6 V c, before2_7 V c, before2_8 V c, before2_9 V c, before2_10 V c]
  dsimp only [dat2]
  unfold bodyAt2
  iintro ⟨Hr, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyHead c _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation. -/
theorem obligation2 (c : Dev nD) : BodyObligation (dat2 V c) (defs₀ (F := F)) Variants.none () Set.univ := fun t => by
  rw [bigSep_W2, bigSep_W2, row2]
  exact triple_restated (sound2 V c t) rfl .rfl fun _ => .rfl

end Cert.Proof
end
-- ==== Proof.Regions.lean ====
/-
  The three regions as records over the unscoped buffers.

  Each record is stated over any contents the region is entered with and any contents that agree with them except
  at the region's results.
-/
module

public import proofs.«01_k».proof.Proof.RegionHead
public import proofs.«01_k».proof.Proof.Gen.KernelIdeal.Regions
public import Idealize.ShloMosaic.Lib.Pipeline.RegionsLoop

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (VA VB VC : (c : Dev nD) → (b : Ref sig .tc) → Buf (Elt F) ((c : Thread nD τ).loc b))

/-- The three regions' proof data, each from the buffers it is entered with. -/
def pdats : (p : Fin 3) → (c : Dev nD) → Dat τ (Elt F) Unit ℕ (UR sig nD τ) ℕ (Pipeline.pin (pcfgs (F := F)) adm p) c
  | ⟨0, _⟩ => fun c => dat0 VA c
  | ⟨1, _⟩ => fun c => dat1 VB c
  | ⟨2, _⟩ => fun c => dat2 VC c

/-- No core owes another anything: no level is assigned. -/
abbrev noL : GSem nD τ sig → Finset Unit := fun _ => ∅
abbrev noLv : GSem nD τ sig → Unit → ℕ := fun _ _ => 0

/-! ## Region 0 -/

theorem rest0_in (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec0 c : sProp 𝕄) ⊢ Phi0 V c 0 := by
  rw [scopedRest0_split]
  unfold Phi0
  iintro ⟨⟨⟨%f0, S0⟩, ⟨%f1, S1⟩, ⟨%f2, S2⟩, ⟨%f3, S3⟩⟩, Hr⟩
  iexists ((f0, f1) : HC F), ((f2, f3) : HC F)
  isplitr; · ipureintro; exact fun h => absurd rfl h
  isplitr [Hr]
  · simp only [scM0_0, scM0_1, scM0_2, scM0_3, owns_whole_eq]
    isplitl [S0]; · iexists f0; isplitr; (· ipureintro; rfl); iexact S0
    isplitl [S1]; · iexists f1; isplitr; (· ipureintro; rfl); iexact S1
    isplitl [S2]; · iexists f2; isplitr; (· ipureintro; rfl); iexact S2
    iexists f3; isplitr; (· ipureintro; rfl); iexact S3
  iexact Hr

theorem rest0_out (V : (c : Dev nD) → (b : Ref sig .tc) → Buf (Elt F) ((c : Thread nD τ).loc b)) (c : Dev nD) (n : ℕ) :
    Phi0 V c n ⊢ (Pipeline.scopedRest (Ix := Unit) (Name := ℕ) (U := UR sig nD τ) (Lvl := ℕ) (Val := Elt F) spec0 c : sProp 𝕄) := by
  rw [scopedRest0_split]
  unfold Phi0
  iintro ⟨%s, %t, -, ⟨S0, S1, S2, S3⟩, Hr⟩
  isplitr [Hr]
  · simp only [scM0_0, scM0_1, scM0_2, scM0_3, owns_whole_eq]
    icases S0 with ⟨%f0, -, S0⟩
    icases S1 with ⟨%f1, -, S1⟩
    icases S2 with ⟨%f2, -, S2⟩
    icases S3 with ⟨%f3, -, S3⟩
    isplitl [S0]; · iexists f0; iexact S0
    isplitl [S1]; · iexists f1; iexact S1
    isplitl [S2]; · iexists f2; iexact S2
    iexists f3; iexact S3
  iexact Hr

theorem exit0 (VA Vp : (c : Dev nD) → (b : Ref sig .tc) → Buf (Elt F) ((c : Thread nD τ).loc b)) (ho0 : ∀ c, Vp c main_v25_0 = (dat0 VA c).arrAt 5 cfg0.N) (ho1 : ∀ c, Vp c main_v25_1 = (dat0 VA c).arrAt 6 cfg0.N)
    (hne : ∀ c (b : Ref sig .tc), b ≠ main_v25_0 → b ≠ main_v25_1 → Vp c b = VA c b) (c : Dev nD) :
    ∀ w, (dat0 VA c).arrAt w cfg0.N = Vp c (Pipeline.arrRef spec0 w) := by
  have key : ∀ w : Fin 7, (cfg0.win w).isOut = false → Pipeline.arrRef spec0 w ≠ main_v25_0 ∧ Pipeline.arrRef spec0 w ≠ main_v25_1 := by decide
  have hout : ∀ w : Fin 7, (cfg0.win w).isOut ≠ false → w = 5 ∨ w = 6 := by decide
  intro w
  by_cases hw : (cfg0.win w).isOut = false
  · rw [(dat0 VA c).arrAt_in w hw]
    exact (hne c _ (key w hw).1 (key w hw).2).symm
  · rcases hout w hw with rfl | rfl
    · exact (ho0 c).symm
    · exact (ho1 c).symm

set_option backward.isDefEq.respectTransparency.types false in
/-- Region 0, entered with the unscoped buffers at `VA` and left with them at any `Vp` that has the results the
    region computes and agrees with `VA` elsewhere. -/
def reg0 (Vp : (c : Dev nD) → (b : Ref sig .tc) → Buf (Elt F) ((c : Thread nD τ).loc b)) (ho0 : ∀ c, Vp c main_v25_0 = (dat0 VA c).arrAt 5 cfg0.N) (ho1 : ∀ c, Vp c main_v25_1 = (dat0 VA c).arrAt 6 cfg0.N)
    (hne : ∀ c (b : Ref sig .tc), b ≠ main_v25_0 → b ≠ main_v25_1 → Vp c b = VA c b) :
    Pipeline.RegionSeg (pcfgs (F := F)) adm (pdats VA VB VC) () defs₀ Variants.none noL noLv 0 where
  win := launch₀0.win
  block_pos := launch₀0.block_pos
  stage_whole := launch₀0.stage_whole
  K := PEmpty
  osem k := k.elim
  ho := Pipeline.OwnSemFacts.none _
  hbody c := (obligation0 VA c).loose
  hwaits := Pipeline.hwaits_of_owed_zero _ _ _ _ noL noLv 0 fun _ _ => rfl
  pre c := iprop(unscopedBufs c (VA c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (VA c)
  hentry c := by
    rw [Pipeline.ownSems0_none]
    have hsplit := Pipeline.arrays_of_unscopedBufs_shared (p := 0) (pcfgs (F := F)) adm (pdats VA VB VC) launch₀0.win launch₀0.sharedIn launch₀0.arr_whole c
      (fun _ _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB VC 0 c).Φ 0 = Phi0 VA c 0 from rfl]
    iintro ⟨-, -, Hr⟩
    iapply (rest0_in VA c); iexact Hr
  hout c := by
    rw [Pipeline.ownSems0_none, show (pdats VA VB VC 0 c).Φ (Fin.last _) = Phi0 VA c cfg0.N from rfl]
    iintro H
    isplitr; · iempintro
    isplitr; · iempintro
    iapply (rest0_out VA c cfg0.N); iexact H
  hexit c := by
    have hjoin := Pipeline.unscopedBufs_of_arrays_shared (p := 0) (pcfgs (F := F)) adm (Ix := Unit) (Name := ℕ) (U := UR sig nD τ) (Lvl := ℕ) launch₀0.win launch₀0.sharedIn launch₀0.arr_whole c
      (pdats VA VB VC) (fun _ _ => rfl) (VA c) (Vp c) ((pdats VA VB VC 0 c).arrAt · cfg0.N)
      (exit0 VA Vp ho0 ho1 hne c)
      (fun b hb => hne c b (fun h => hb (h ▸ Finset.mem_image.mpr ⟨5, Finset.mem_univ _, rfl⟩)) (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## Region 1 -/

theorem rest1_in (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec1 c : sProp 𝕄) ⊢ Phi1 V c 0 := by
  rw [scopedRest1_split]
  unfold Phi1
  iintro ⟨⟨⟨%f0, S0⟩, ⟨%f1, S1⟩, ⟨%f2, S2⟩, ⟨%f3, S3⟩⟩, Hr⟩
  iexists ((f0, f1) : HC F), ((f2, f3) : HC F)
  isplitr; · ipureintro; exact fun h => absurd rfl h
  isplitr [Hr]
  · simp only [scM1_0, scM1_1, scM1_2, scM1_3, owns_whole_eq]
    isplitl [S0]; · iexists f0; isplitr; (· ipureintro; rfl); iexact S0
    isplitl [S1]; · iexists f1; isplitr; (· ipureintro; rfl); iexact S1
    isplitl [S2]; · iexists f2; isplitr; (· ipureintro; rfl); iexact S2
    iexists f3; isplitr; (· ipureintro; rfl); iexact S3
  iexact Hr

theorem rest1_out (V : (c : Dev nD) → (b : Ref sig .tc) → Buf (Elt F) ((c : Thread nD τ).loc b)) (c : Dev nD) (n : ℕ) :
    Phi1 V c n ⊢ (Pipeline.scopedRest (Ix := Unit) (Name := ℕ) (U := UR sig nD τ) (Lvl := ℕ) (Val := Elt F) spec1 c : sProp 𝕄) := by
  rw [scopedRest1_split]
  unfold Phi1
  iintro ⟨%s, %t, -, ⟨S0, S1, S2, S3⟩, Hr⟩
  isplitr [Hr]
  · simp only [scM1_0, scM1_1, scM1_2, scM1_3, owns_whole_eq]
    icases S0 with ⟨%f0, -, S0⟩
    icases S1 with ⟨%f1, -, S1⟩
    icases S2 with ⟨%f2, -, S2⟩
    icases S3 with ⟨%f3, -, S3⟩
    isplitl [S0]; · iexists f0; iexact S0
    isplitl [S1]; · iexists f1; iexact S1
    isplitl [S2]; · iexists f2; iexact S2
    iexists f3; iexact S3
  iexact Hr

theorem exit1 (VB Vp : (c : Dev nD) → (b : Ref sig .tc) → Buf (Elt F) ((c : Thread nD τ).loc b)) (ho0 : ∀ c, Vp c main_v26_0 = (dat1 VB c).arrAt 7 cfg1.N) (ho1 : ∀ c, Vp c main_v26_1 = (dat1 VB c).arrAt 8 cfg1.N)
    (hne : ∀ c (b : Ref sig .tc), b ≠ main_v26_0 → b ≠ main_v26_1 → Vp c b = VB c b) (c : Dev nD) :
    ∀ w, (dat1 VB c).arrAt w cfg1.N = Vp c (Pipeline.arrRef spec1 w) := by
  have key : ∀ w : Fin 9, (cfg1.win w).isOut = false → Pipeline.arrRef spec1 w ≠ main_v26_0 ∧ Pipeline.arrRef spec1 w ≠ main_v26_1 := by decide
  have hout : ∀ w : Fin 9, (cfg1.win w).isOut ≠ false → w = 7 ∨ w = 8 := by decide
  intro w
  by_cases hw : (cfg1.win w).isOut = false
  · rw [(dat1 VB c).arrAt_in w hw]
    exact (hne c _ (key w hw).1 (key w hw).2).symm
  · rcases hout w hw with rfl | rfl
    · exact (ho0 c).symm
    · exact (ho1 c).symm

set_option backward.isDefEq.respectTransparency.types false in
/-- Region 1, entered with the unscoped buffers at `VB` and left with them at any `Vp` that has the results the
    region computes and agrees with `VB` elsewhere. -/
def reg1 (Vp : (c : Dev nD) → (b : Ref sig .tc) → Buf (Elt F) ((c : Thread nD τ).loc b)) (ho0 : ∀ c, Vp c main_v26_0 = (dat1 VB c).arrAt 7 cfg1.N) (ho1 : ∀ c, Vp c main_v26_1 = (dat1 VB c).arrAt 8 cfg1.N)
    (hne : ∀ c (b : Ref sig .tc), b ≠ main_v26_0 → b ≠ main_v26_1 → Vp c b = VB c b) :
    Pipeline.RegionSeg (pcfgs (F := F)) adm (pdats VA VB VC) () defs₀ Variants.none noL noLv 1 where
  win := launch₀1.win
  block_pos := launch₀1.block_pos
  stage_whole := launch₀1.stage_whole
  K := PEmpty
  osem k := k.elim
  ho := Pipeline.OwnSemFacts.none _
  hbody c := (obligation1 VB c).loose
  hwaits := Pipeline.hwaits_of_owed_zero _ _ _ _ noL noLv 1 fun _ _ => rfl
  pre c := iprop(unscopedBufs c (VB c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (VB c)
  hentry c := by
    rw [Pipeline.ownSems0_none]
    have hsplit := Pipeline.arrays_of_unscopedBufs_shared (p := 1) (pcfgs (F := F)) adm (pdats VA VB VC) launch₀1.win launch₀1.sharedIn launch₀1.arr_whole c
      (fun _ _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB VC 1 c).Φ 0 = Phi1 VB c 0 from rfl]
    iintro ⟨-, -, Hr⟩
    iapply (rest1_in VB c); iexact Hr
  hout c := by
    rw [Pipeline.ownSems0_none, show (pdats VA VB VC 1 c).Φ (Fin.last _) = Phi1 VB c cfg1.N from rfl]
    iintro H
    isplitr; · iempintro
    isplitr; · iempintro
    iapply (rest1_out VB c cfg1.N); iexact H
  hexit c := by
    have hjoin := Pipeline.unscopedBufs_of_arrays_shared (p := 1) (pcfgs (F := F)) adm (Ix := Unit) (Name := ℕ) (U := UR sig nD τ) (Lvl := ℕ) launch₀1.win launch₀1.sharedIn launch₀1.arr_whole c
      (pdats VA VB VC) (fun _ _ => rfl) (VB c) (Vp c) ((pdats VA VB VC 1 c).arrAt · cfg1.N)
      (exit1 VB Vp ho0 ho1 hne c)
      (fun b hb => hne c b (fun h => hb (h ▸ Finset.mem_image.mpr ⟨7, Finset.mem_univ _, rfl⟩)) (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## Region 2 -/

theorem exit2 (VC Vp : (c : Dev nD) → (b : Ref sig .tc) → Buf (Elt F) ((c : Thread nD τ).loc b)) (ho0 : ∀ c, Vp c main_v44 = (dat2 VC c).arrAt 11 cfg2.N)
    (hne : ∀ c (b : Ref sig .tc), b ≠ main_v44 → Vp c b = VC c b) (c : Dev nD) :
    ∀ w, (dat2 VC c).arrAt w cfg2.N = Vp c (Pipeline.arrRef spec2 w) := by
  have key : ∀ w : Fin 12, (cfg2.win w).isOut = false → Pipeline.arrRef spec2 w ≠ main_v44 := by decide
  have hout : ∀ w : Fin 12, (cfg2.win w).isOut ≠ false → w = 11 := by decide
  intro w
  by_cases hw : (cfg2.win w).isOut = false
  · rw [(dat2 VC c).arrAt_in w hw]
    exact (hne c _ (key w hw)).symm
  · obtain rfl := hout w hw
    · exact (ho0 c).symm

set_option backward.isDefEq.respectTransparency.types false in
/-- Region 2, entered with the unscoped buffers at `VC` and left with them at any `Vp` that has the results the
    region computes and agrees with `VC` elsewhere. -/
def reg2 (Vp : (c : Dev nD) → (b : Ref sig .tc) → Buf (Elt F) ((c : Thread nD τ).loc b)) (ho0 : ∀ c, Vp c main_v44 = (dat2 VC c).arrAt 11 cfg2.N)
    (hne : ∀ c (b : Ref sig .tc), b ≠ main_v44 → Vp c b = VC c b) :
    Pipeline.RegionSeg (pcfgs (F := F)) adm (pdats VA VB VC) () defs₀ Variants.none noL noLv 2 where
  win := launch2.win.to₀
  block_pos := launch2.block_pos
  stage_whole := launch2.stage_whole
  K := PEmpty
  osem k := k.elim
  ho := Pipeline.OwnSemFacts.none _
  hbody c := (obligation2 VC c).loose
  hwaits := Pipeline.hwaits_of_owed_zero _ _ _ _ noL noLv 2 fun _ _ => rfl
  pre c := iprop(unscopedBufs c (VC c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (VC c)
  hentry c := by
    rw [Pipeline.ownSems0_none]
    have hsplit := Pipeline.arrays_of_unscopedBufs (p := 2) (pcfgs (F := F)) adm (pdats VA VB VC) launch2.win launch2.arr_whole c
      ((pdats VA VB VC 2 c).share_full fun _ => rfl) (VC c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB VC 2 c).Φ 0 = Phi2 c from rfl]
    iintro ⟨-, -, Hr⟩; iexact Hr
  hout c := by
    rw [Pipeline.ownSems0_none, show (pdats VA VB VC 2 c).Φ (Fin.last _) = Phi2 c from rfl]
    iintro H
    isplitr; · iempintro
    isplitr; · iempintro
    iexact H
  hexit c := by
    have hjoin := Pipeline.unscopedBufs_of_arrays (p := 2) (pcfgs (F := F)) adm (Ix := Unit) (Name := ℕ) (U := UR sig nD τ) (Lvl := ℕ) launch2.win launch2.arr_whole c
      (pdats VA VB VC) ((pdats VA VB VC 2 c).share_full fun _ => rfl) (VC c) (Vp c) ((pdats VA VB VC 2 c).arrAt · cfg2.N)
      (exit2 VC Vp ho0 hne c)
      (fun b hb => hne c b (fun h => hb (h ▸ Finset.mem_image.mpr ⟨11, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof
end
-- ==== Proof.KernelRun.lean ====
/-
  The kernel program's run: what every unscoped buffer holds at the end, and that every semaphore counter is back at
  zero.

  `W3` is the buffers' contents before the first call, `W4`, `W5`, `W7` after the three calls, `W6` after the host stretch before the head.
-/
module

public import proofs.«01_k».proof.Proof.Regions
public import proofs.«01_k».proof.Defs
public import proofs.«01_k».proof.Proof.Gen.Kernel
public import proofs.«01_k».proof.Proof.Gen.KernelIdeal
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-- The buffers before the first-layer call. -/
def W3 (c : Dev nD) : Valuation τ sig (Elt F) := V3 m c

/-- The buffers after the first-layer call. -/
def W4 (c : Dev nD) : Valuation τ sig (Elt F) := Function.update (Function.update (W3 m c) main_v25_0 ((dat0 (fun c b => W3 m c b) c).arrAt 5 cfg0.N)) main_v25_1 ((dat0 (fun c b => W3 m c b) c).arrAt 6 cfg0.N)
theorem W4_of (c : Dev nD) (r : Ref sig .tc) (h : r ∉ ([main_v25_0, main_v25_1] : List (Ref sig .tc))) : W4 m c r = W3 m c r := by
  simp only [W4, Function.update_of_ne (StableHlo.devRef_ne_of_ne (List.ne_of_not_mem_cons h) : (Proc.devRef .tc r : DevRef τ sig) ≠ Proc.devRef .tc main_v25_0),
    Function.update_of_ne (StableHlo.devRef_ne_of_ne (List.ne_of_not_mem_cons (List.not_mem_of_not_mem_cons h)) : (Proc.devRef .tc r : DevRef τ sig) ≠ Proc.devRef .tc main_v25_1)]
theorem W4_main_v25_0 (c : Dev nD) : W4 m c main_v25_0 = (dat0 (fun c b => W3 m c b) c).arrAt 5 cfg0.N := by
  unfold W4
  rw [Function.update_of_ne (StableHlo.devRef_ne_of_ne (by decide) : (Proc.devRef .tc main_v25_0 : DevRef τ sig) ≠ Proc.devRef .tc main_v25_1), Function.update_self]
theorem W4_main_v25_1 (c : Dev nD) : W4 m c main_v25_1 = (dat0 (fun c b => W3 m c b) c).arrAt 6 cfg0.N := by
  unfold W4; rw [Function.update_self]

/-- The buffers after the second-layer call. -/
def W5 (c : Dev nD) : Valuation τ sig (Elt F) := Function.update (Function.update (W4 m c) main_v26_0 ((dat1 (fun c b => W4 m c b) c).arrAt 7 cfg1.N)) main_v26_1 ((dat1 (fun c b => W4 m c b) c).arrAt 8 cfg1.N)
theorem W5_of (c : Dev nD) (r : Ref sig .tc) (h : r ∉ ([main_v26_0, main_v26_1] : List (Ref sig .tc))) : W5 m c r = W4 m c r := by
  simp only [W5, Function.update_of_ne (StableHlo.devRef_ne_of_ne (List.ne_of_not_mem_cons h) : (Proc.devRef .tc r : DevRef τ sig) ≠ Proc.devRef .tc main_v26_0),
    Function.update_of_ne (StableHlo.devRef_ne_of_ne (List.ne_of_not_mem_cons (List.not_mem_of_not_mem_cons h)) : (Proc.devRef .tc r : DevRef τ sig) ≠ Proc.devRef .tc main_v26_1)]
theorem W5_main_v26_0 (c : Dev nD) : W5 m c main_v26_0 = (dat1 (fun c b => W4 m c b) c).arrAt 7 cfg1.N := by
  unfold W5
  rw [Function.update_of_ne (StableHlo.devRef_ne_of_ne (by decide) : (Proc.devRef .tc main_v26_0 : DevRef τ sig) ≠ Proc.devRef .tc main_v26_1), Function.update_self]
theorem W5_main_v26_1 (c : Dev nD) : W5 m c main_v26_1 = (dat1 (fun c b => W4 m c b) c).arrAt 8 cfg1.N := by
  unfold W5; rw [Function.update_self]

/-- The buffers after the host stretch before the head. -/
def W6 (c : Dev nD) : Valuation τ sig (Elt F) := StableHlo.after hostOps2 (W5 m c)

/-- The buffers after the head call. -/
def W7 (c : Dev nD) : Valuation τ sig (Elt F) := Function.update (W6 m c) main_v44 ((dat2 (fun c b => W6 m c b) c).arrAt 11 cfg2.N)
theorem W7_of (c : Dev nD) (r : Ref sig .tc) (h : r ∉ ([main_v44] : List (Ref sig .tc))) : W7 m c r = W6 m c r := by
  simp only [W7, Function.update_of_ne (StableHlo.devRef_ne_of_ne (List.ne_of_not_mem_cons h) : (Proc.devRef .tc r : DevRef τ sig) ≠ Proc.devRef .tc main_v44)]
theorem W7_main_v44 (c : Dev nD) : W7 m c main_v44 = (dat2 (fun c b => W6 m c b) c).arrAt 11 cfg2.N := by
  unfold W7; rw [Function.update_self]

/-- What the three calls leave in their results. -/
def outs : Outs (F := F) := fun k r c => match k with
  | 4 => W4 m c r
  | 5 => W5 m c r
  | _ => W7 m c r

theorem outs_four (c : Dev nD) (r : Ref sig .tc) : outs m 4 r c = W4 m c r := rfl
theorem outs_five (c : Dev nD) (r : Ref sig .tc) : outs m 5 r c = W5 m c r := rfl
theorem outs_seven (c : Dev nD) (r : Ref sig .tc) : outs m 7 r c = W7 m c r := rfl

theorem V4_eq (c : Dev nD) : V4 m (outs m) c = W4 m c := by
  unfold V4
  rw [outs_four, outs_four, W4_main_v25_0, W4_main_v25_1, W4, W3]

theorem V5_eq (c : Dev nD) : V5 m (outs m) c = W5 m c := by
  unfold V5
  rw [V4_eq, outs_five, outs_five, W5_main_v26_0, W5_main_v26_1, W5]

theorem V6_eq (c : Dev nD) : V6 m (outs m) c = W6 m c := by
  unfold V6
  rw [V5_eq, W6]

theorem V7_eq (c : Dev nD) : V7 m (outs m) c = W7 m c := by
  unfold V7
  rw [V6_eq, outs_seven, W7_main_v44, W7]

/-- The three regions' proof data, over the run from `m`. -/
abbrev pds := pdats (F := F) (fun c b => W3 m c b) (fun c b => W4 m c b) (fun c b => W6 m c b)

/-- The rest of the thread state between items: the core's dues. -/
abbrev rest (_ : Fin 4) (c : Dev nD) : sProp 𝕄 := iprop(∃ W, owes (c : Thread nD τ) (0 : CellTallies nD τ sig Unit) W)

abbrev R0 : Pipeline.RegionSeg (pcfgs (F := F)) adm (pds m) () defs₀ Variants.none noL noLv 0 :=
  reg0 _ _ _ (fun c b => W4 m c b) (fun c => W4_main_v25_0 m c) (fun c => W4_main_v25_1 m c)
    fun c b h1 h2 => W4_of m c b (by simp only [List.mem_cons, List.not_mem_nil, or_false, not_or]; exact ⟨h1, h2⟩)
abbrev R1 : Pipeline.RegionSeg (pcfgs (F := F)) adm (pds m) () defs₀ Variants.none noL noLv 1 :=
  reg1 _ _ _ (fun c b => W5 m c b) (fun c => W5_main_v26_0 m c) (fun c => W5_main_v26_1 m c)
    fun c b h1 h2 => W5_of m c b (by simp only [List.mem_cons, List.not_mem_nil, or_false, not_or]; exact ⟨h1, h2⟩)
abbrev R2 : Pipeline.RegionSeg (pcfgs (F := F)) adm (pds m) () defs₀ Variants.none noL noLv 2 :=
  reg2 _ _ _ (fun c b => W7 m c b) (fun c => W7_main_v44 m c)
    fun c b h1 => W7_of m c b (by simp only [List.mem_cons, List.not_mem_nil, or_false]; exact h1)

/-- A core's launch state gives the thread state before the first item. -/
theorem launch_one (ρ : Dev nD → PrngReg) (c : Dev nD) :
    iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp)
    ⊢ (iprop(StableHlo.held (c : Thread nD τ) (Pipeline.ucRefs τ sig) (V0 m c) ∗ rest 0 c) : sProp 𝕄) := by
  rw [← Pipeline.unscopedBufs_held (Ix := Unit) (Name := ℕ) (U := UR sig nD τ) (Lvl := ℕ) c (V0 m c)]
  iintro ⟨Hb, -, Ho, -⟩
  isplitl [Hb]; · iexact Hb
  iexists ∅; iexact Ho

-- the run lemma's implicit arguments are found by unifying its conclusion with this one, which takes unfolding plain
-- definitions in a metavariable's type
set_option backward.isDefEq.respectTransparency.types false in
/-- Every execution of the kernel program terminates with every unscoped buffer at `W7` and every counter at zero. -/
theorem kernel_run (ρ : Dev nD → PrngReg) :
    θ_run defs (onTc (τ := τ) (main (F := F))) ⟨m, fun _ => 0, ρ⟩ (fun r =>
      (∀ c : Dev nD, ∀ b ∈ Pipeline.ucRefs τ sig, r.2.mem (c, b) = W7 m c b) ∧ r.2.sem = fun _ => 0) := by
  refine Pipeline.θ_run_regions_kit_dev_sems (pcfgs (F := F)) adm (pds m) () cellOf_inj emb₁ defs₀ Variants.none noL noLv m ρ main
    (segs m (outs m) Variants.none noL noLv rest () (pds m) (R0 m) (R1 m) (R2 m))
    (fun c Q => by
      rewrite [main_chain c, Pipeline.Seg.run_eq_chain,
        show (segs m (outs m) Variants.none noL noLv rest () (pds m) (R0 m) (R1 m) (R2 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Pipeline.Seg.pipes_host, Pipeline.Seg.pipes_region, Pipeline.Seg.pipes_nil]; decide) (fun _ => 0)
    (fun _ _ => rfl) (fun _ => iprop(emp)) (initOf (Pipeline.cells cfgs cellOf_inj) (Pipeline.launchToks cfgs cellOf_inj)) ?hu₀
    (T₀ := fun c => iprop(StableHlo.held (c : Thread nD τ) (Pipeline.ucRefs τ sig) (V0 m c) ∗ rest 0 c))
    (Tₙ := fun c => StableHlo.held (c : Thread nD τ) (Pipeline.ucRefs τ sig) (W7 m c))
    (hch := fun c => ⟨.rfl, .rfl, .rfl, sep_mono (by rw [← Pipeline.unscopedBufs_held]; exact .rfl) .rfl, .rfl,
      sep_mono (by rw [V5_eq, ← Pipeline.unscopedBufs_held]) .rfl,
      sep_mono (by rw [V5_eq, ← Pipeline.unscopedBufs_held]; exact .rfl) .rfl,
      sep_mono (by rw [← Pipeline.unscopedBufs_held]) .rfl⟩)
    (hinit := ?hinit) (QY := fun c s => ∀ b ∈ Pipeline.ucRefs τ sig, s.mem (c, b) = W7 m c b)
    (hfin := fun c s' => ?hfin) (hQ := fun _ h hz => ⟨h, funext fun g => hz g (.inr (regions_no_unscoped g.2))⟩)
  case hu₀ =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ rest 0 c) : sProp 𝕄) :=
      bigSep_mono fun c _ => launch_one m ρ c
    iintro ⟨H, -⟩
    ihave H' := hsplit $$ H
    imodintro
    iexact H'
  case hfin =>
    unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro; exact h
    · iexact HSI

/-! ## The frame -/

def RunsQuiet (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0)

/-- Every unscoped reference's buffer ends at `W7`. -/
theorem mem_ucRefs (r : Ref sig .tc) (h : r.isScoped = false) : (Proc.devRef .tc r : DevRef τ sig) ∈ Pipeline.ucRefs τ sig :=
  Finset.mem_filter.mpr ⟨StableHlo.devRef_mem_tcRefs r, by simpa using h⟩

theorem runsQuiet : RunsQuiet F := fun m g _ => by
  refine (θ_run defs _ _).mono (fun r h => ?_) (kernel_run m g)
  refine ⟨fun c => ?_, h.2⟩
  have k : ∀ (a : Ref sig .tc), a.isScoped = false → V7 m (outs m) c a = m ((c.tc : Thread nD τ).loc a) →
      r.2.mem ((c.tc : Thread nD τ).loc a) = m ((c.tc : Thread nD τ).loc a) := fun a hs hV => by
    rw [V7_eq] at hV
    exact (h.1 c _ (mem_ucRefs a hs)).trans hV
  exact ⟨k main_arg0 rfl (V7_main_arg0 m (outs m) c), k main_arg1 rfl (V7_main_arg1 m (outs m) c), k main_arg2 rfl (V7_main_arg2 m (outs m) c), k main_arg3 rfl (V7_main_arg3 m (outs m) c), k main_arg4 rfl (V7_main_arg4 m (outs m) c), k main_arg5 rfl (V7_main_arg5 m (outs m) c), k main_arg6 rfl (V7_main_arg6 m (outs m) c), k main_arg7 rfl (V7_main_arg7 m (outs m) c), k main_arg8 rfl (V7_main_arg8 m (outs m) c), k main_arg9 rfl (V7_main_arg9 m (outs m) c), k main_arg10 rfl (V7_main_arg10 m (outs m) c), k main_arg11 rfl (V7_main_arg11 m (outs m) c), k main_arg12 rfl (V7_main_arg12 m (outs m) c), k main_arg13 rfl (V7_main_arg13 m (outs m) c), k main_arg14 rfl (V7_main_arg14 m (outs m) c), k main_arg15 rfl (V7_main_arg15 m (outs m) c), k main_arg16 rfl (V7_main_arg16 m (outs m) c), k main_arg17 rfl (V7_main_arg17 m (outs m) c), k main_arg18 rfl (V7_main_arg18 m (outs m) c), k main_arg19 rfl (V7_main_arg19 m (outs m) c), k main_arg20 rfl (V7_main_arg20 m (outs m) c), k main_arg21 rfl (V7_main_arg21 m (outs m) c)⟩

/-- The ideal run is the frame claim's statement. -/
theorem quiet_ideal : Cert.quiescent_KernelIdeal := by
  have e : Cert.quiescent_KernelIdeal = RunsQuiet Ideal := by sl_kernel_rfl
  exact e ▸ runsQuiet
theorem quiet_bits : Cert.quiescent_Kernel := by
  have e : Cert.quiescent_Kernel = RunsQuiet Bits := by sl_kernel_rfl
  exact e ▸ runsQuiet

end Cert.Proof
end
-- ==== Proof.Spec.lean ====
/-
  The LSTM scan over the extended reals, as plain functions of numbered batch rows and features, and the kernel's
  steps as steps of it.
-/
module

public import proofs.«01_k».proof.Proof.Cell
public import Idealize.ShloMosaic.Lib.Pointwise

@[expose] public section

set_option maxRecDepth 16384

noncomputable section

namespace Cert.Spec

open Cert.KernelIdeal Cert.KernelIdeal.Gen Cert.Proof
open Idealize.ShloMosaic

/-- A state: batch row by feature. -/
abbrev Mat : Type := Fin 256 → Fin 512 → EReal

/-- Column `n` of gate `q` (input, forget, candidate, output). -/
def col (q : Fin 4) (n : Fin 512) : Fin 2048 := ⟨512 * q.val + n.val, by omega⟩

/-- The cell state before masking, from the four gates' arguments. -/
def fresh (z : Fin 4 → Mat) (c : Mat) : Mat := fun b n =>
  Ideal.logistic (z 1 b n) * c b n + Ideal.logistic (z 0 b n) * Ideal.tanh (z 2 b n)

/-- One masked step of a cell, from the four gates' arguments, the mask and the pair (hidden, cell). -/
def cell (z : Fin 4 → Mat) (k : Fin 256 → BitVec 1) (s : Mat × Mat) : Mat × Mat :=
  (fun b n => Scalar.select (k b) (Ideal.logistic (z 3 b n) * Ideal.tanh (fresh z s.2 b n)) (s.1 b n),
    fun b n => Scalar.select (k b) (fresh z s.2 b n) (s.2 b n))

/-- The gates' arguments: the projected input plus the hidden state's product with the recurrent weights. -/
def args (x : Fin 256 → Fin 2048 → EReal) (wh : Fin 512 → Fin 2048 → EReal) (h : Mat) : Fin 4 → Mat := fun q b n =>
  x b (col q n) + ∑ e : Fin 512, h b e * wh e (col q n)

/-- The states of a scan over numbered inputs and masks. -/
def scan (x : ℕ → Fin 256 → Fin 2048 → EReal) (k : ℕ → Fin 256 → BitVec 1) (wh : Fin 512 → Fin 2048 → EReal) : ℕ → Mat × Mat
  | 0 => (fun _ _ => 0, fun _ _ => 0)
  | n + 1 => cell (args (x n) wh (scan x k wh n).1) (k n) (scan x k wh n)

/-- Time step `n`, wrapping at 256. -/
def step (n : ℕ) : Fin 256 := Fin.ofNat 256 n
theorem step_val (t : Fin 256) : step t.val = t := Fin.ext (Nat.mod_eq_of_lt t.isLt)

/-! ## The logistic function -/

theorem half_eq : Ideal.ofBits .f32 0x3F000000#32 = ((1 / 2 : ℝ) : EReal) := by
  simp [Ideal.ofBits, Ideal.ieee]
  rw [← EReal.coe_mul]
  norm_num

theorem tanh_half (r : ℝ) : (1 / 2 : ℝ) * Real.tanh (1 / 2 * r) + 1 / 2 = (1 + Real.exp (-r))⁻¹ := by
  have hp := Real.exp_pos (1 / 2 * r)
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, e1, e2]
  field_simp
  ring

/-- The kernel's spelling of the logistic function. -/
theorem logistic_eq (x : EReal) :
    Ideal.ofBits .f32 0x3F000000#32 * Ideal.tanh (Ideal.ofBits .f32 0x3F000000#32 * x) + Ideal.ofBits .f32 0x3F000000#32 = Ideal.logistic x := by
  rw [half_eq]
  induction x with
  | bot =>
    rw [EReal.coe_mul_bot_of_pos (by norm_num), Ideal.tanh_bot, Ideal.logistic_bot, ← EReal.coe_one, ← EReal.coe_neg, ← EReal.coe_mul, ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, tanh_half]

/-! ## The kernel's steps -/

/-- A vector by its coordinates. -/
def mat (v : FVec Ideal S256x512 .f32) : Mat := fun b n => v (ix2 b n)
def mats (s : HC Ideal) : Mat × Mat := (mat s.1, mat s.2)

/-- The kernel keeps the gates in the order input, candidate, forget, output. -/
def kcol (q : Fin 4) (n : Fin 512) : Fin 2048 := col (![0, 2, 1, 3] q) n

theorem sg_apply (v : FVec Ideal S256x512 .f32) (j : S256x512.Idx) : sg v j = Ideal.logistic (v j) := by
  rw [← logistic_eq]
  rfl

theorem newC_apply (za zb : FVec Ideal S256x1024 .f32) (c : FVec Ideal S256x512 .f32) (b : Fin 256) (n : Fin 512) :
    newC za zb c (ix2 b n) = Ideal.logistic (zb (ix2 b ⟨n.val, by omega⟩)) * c (ix2 b n)
      + Ideal.logistic (za (ix2 b ⟨n.val, by omega⟩)) * Ideal.tanh (za (ix2 b ⟨512 + n.val, by omega⟩)) := by
  unfold newC
  pointwise [sg_apply]

theorem gates_apply (za zb : FVec Ideal S256x1024 .f32) (k : IVec S256x1 1) (s : HC Ideal) (z : Fin 4 → Mat)
    (h0 : ∀ b (n : Fin 512), za (ix2 b ⟨n.val, by omega⟩) = z 0 b n) (h2 : ∀ b (n : Fin 512), za (ix2 b ⟨512 + n.val, by omega⟩) = z 2 b n)
    (h1 : ∀ b (n : Fin 512), zb (ix2 b ⟨n.val, by omega⟩) = z 1 b n) (h3 : ∀ b (n : Fin 512), zb (ix2 b ⟨512 + n.val, by omega⟩) = z 3 b n) :
    mats (gates za zb k s) = cell z (fun b => k (ix2 b 0)) (mats s) := by
  refine Prod.ext ?_ ?_
  · funext b n
    simp only [mats, mat, gates, cell, fresh, spread]
    pointwise [sg_apply, newC_apply, h0, h1, h2, h3]
  · funext b n
    simp only [mats, mat, gates, cell, fresh, spread]
    pointwise [sg_apply, newC_apply, h0, h1, h2, h3]

/-- The first layer's product: the embedding's part plus the hidden state's. -/
theorem mmOne_apply (w : FVec Ideal S1024x1024 .fp8e4m3) (x : Vec Ideal S1x256x512 .f32) (h : FVec Ideal S256x512 .f32) (b : Fin 256) (m : Fin 1024) :
    matmul dot_S256x1024_S1024x1024_S256x1024_1_0_0_1_n_n none (inOne x h) w (constant S256x1024 .f32 0x00000000#32) (ix2 b m)
    = (∑ e : Fin 512, x (ix3 0 b e) * w (ix2 ⟨e.val, by omega⟩ m)) + ∑ e : Fin 512, h (ix2 b e) * w (ix2 ⟨512 + e.val, by omega⟩ m) := by
  unfold inOne
  pointwise []

/-- The second layer's product: the parts of the two first-layer outputs plus the hidden state's. -/
theorem mmTwo_apply (w : FVec Ideal S1536x1024 .fp8e4m3) (x y : Vec Ideal S1x256x512 .fp8e4m3) (h : FVec Ideal S256x512 .f32) (b : Fin 256) (m : Fin 1024) :
    matmul dot_S256x1536_S1536x1024_S256x1024_1_0_0_1_n_n none (inTwo x y h) w (constant S256x1024 .f32 0x00000000#32) (ix2 b m)
    = ((∑ e : Fin 512, x (ix3 0 b e) * w (ix2 ⟨e.val, by omega⟩ m)) + ∑ e : Fin 512, y (ix3 0 b e) * w (ix2 ⟨512 + e.val, by omega⟩ m))
      + ∑ e : Fin 512, h (ix2 b e) * w (ix2 ⟨1024 + e.val, by omega⟩ m) := by
  unfold inTwo
  pointwise []
  rw [Fin.sum_univ_two_halves 512 1024 rfl, Fin.sum_univ_two_halves 512 512 rfl, add_assoc]
  congr 1
/-- The tokens' mask at a batch row. -/
def liveAt (k : Vec Ideal S1x256x1 .i32) (b : Fin 256) : BitVec 1 := IntOp.cmpi .ne (k (ix3 0 b 0)) 0#32

theorem live_apply (k : Vec Ideal S1x256x1 .i32) (b : Fin 256) : live (F := Ideal) k (ix2 b 0) = liveAt k b := by
  unfold live liveAt
  pointwise []

theorem kcol_0 (n : Fin 512) (h : n.val < 2048) : (⟨n.val, h⟩ : Fin 2048) = kcol 0 n := Fin.ext (by simp [kcol, col])
theorem kcol_2 (n : Fin 512) (h : 512 + n.val < 2048) : (⟨512 + n.val, h⟩ : Fin 2048) = kcol 2 n := Fin.ext (by simp [kcol, col])
theorem kcol_1 (n : Fin 512) (h : 1024 + n.val < 2048) : (⟨1024 + n.val, h⟩ : Fin 2048) = kcol 1 n := Fin.ext (by simp [kcol, col])
theorem kcol_3 (n : Fin 512) (h : 1024 + (512 + n.val) < 2048) : (⟨1024 + (512 + n.val), h⟩ : Fin 2048) = kcol 3 n := Fin.ext (by simp [kcol, col]; omega)

/-- A first-layer step of the kernel is a step of the scan. -/
theorem stepOne_eq (w : Vec Ideal S1x1024x2048 .fp8e4m3) (x : Vec Ideal S1x256x512 .f32) (k : Vec Ideal S1x256x1 .i32) (s : HC Ideal)
    (xp : Fin 256 → Fin 2048 → EReal) (wh : Fin 512 → Fin 2048 → EReal)
    (hx : ∀ b q n, ∑ e : Fin 512, x (ix3 0 b e) * w (ix3 0 ⟨e.val, by omega⟩ (kcol q n)) = xp b (col q n))
    (hw : ∀ (e : Fin 512) q n, w (ix3 0 ⟨512 + e.val, by omega⟩ (kcol q n)) = wh e (col q n)) :
    mats (stepOne w x k s) = cell (args xp wh (mat s.1)) (liveAt k) (mats s) := by
  unfold stepOne
  rw [gates_apply _ _ _ _ (args xp wh (mat s.1)) _ _ _ _]
  · congr 1
    funext b
    exact live_apply k b
  all_goals
    intro b n
    rw [mmOne_apply]
    unfold args mat
    simp only [← hx, ← hw]
    pointwise [kcol_0, kcol_1, kcol_2, kcol_3]

/-- A second-layer step of the kernel is a step of the scan. -/
theorem stepTwo_eq (w : Vec Ideal S1x1536x2048 .fp8e4m3) (x y : Vec Ideal S1x256x512 .fp8e4m3) (k : Vec Ideal S1x256x1 .i32) (s : HC Ideal)
    (xp : Fin 256 → Fin 2048 → EReal) (wh : Fin 512 → Fin 2048 → EReal)
    (hx : ∀ b q n, (∑ e : Fin 512, x (ix3 0 b e) * w (ix3 0 ⟨e.val, by omega⟩ (kcol q n))) + ∑ e : Fin 512, y (ix3 0 b e) * w (ix3 0 ⟨512 + e.val, by omega⟩ (kcol q n)) = xp b (col q n))
    (hw : ∀ (e : Fin 512) q n, w (ix3 0 ⟨1024 + e.val, by omega⟩ (kcol q n)) = wh e (col q n)) :
    mats (stepTwo w x y k s) = cell (args xp wh (mat s.1)) (liveAt k) (mats s) := by
  unfold stepTwo
  rw [gates_apply _ _ _ _ (args xp wh (mat s.1)) _ _ _ _]
  · congr 1
    funext b
    exact live_apply k b
  all_goals
    intro b n
    rw [mmTwo_apply]
    unfold args mat
    simp only [← hx, ← hw]
    pointwise [kcol_0, kcol_1, kcol_2, kcol_3]

theorem mats_zero : mats zeroHC = (fun _ _ => 0, fun _ _ => 0) := by
  refine Prod.ext ?_ ?_ <;>
  · funext b n
    unfold mats mat zeroHC
    pointwise []

theorem keep_eq (s : HC Ideal) : keep s = s := by
  refine Prod.ext ?_ ?_ <;>
  · funext j
    unfold keep
    pointwise []

theorem outRow_apply (h : FVec Ideal S256x512 .f32) (b : Fin 256) (n : Fin 512) : outRow h (ix3 0 b n) = mat h b n := by
  unfold outRow mat
  pointwise []

theorem half_apply (h : FVec Ideal S256x512 .f32) (j : S256x512.Idx) : truncf .bf16 h bitsLt_bf16_f32 j = h j := rfl

end Cert.Spec
end
-- ==== Proof.Model.lean ====
/-
  The whole two-layer network as scans of its inputs: what both programs are shown to compute.
-/
module

public import proofs.«01_k».proof.Proof.Spec

@[expose] public section

noncomputable section

namespace Cert.Spec

/-- What the layers read: the embeddings and the mask, by time and batch row, and the weights. -/
structure Net where
  tok : Fin 256 → Fin 256 → Fin 512 → EReal
  msk : Fin 256 → Fin 256 → BitVec 1
  wi1f : Fin 512 → Fin 2048 → EReal
  wh1f : Fin 512 → Fin 2048 → EReal
  wi1b : Fin 512 → Fin 2048 → EReal
  wh1b : Fin 512 → Fin 2048 → EReal
  wi2f : Fin 1024 → Fin 2048 → EReal
  wh2f : Fin 512 → Fin 2048 → EReal
  wi2b : Fin 1024 → Fin 2048 → EReal
  wh2b : Fin 512 → Fin 2048 → EReal

/-- A first-layer projection. -/
def projA (x : Fin 256 → Fin 512 → EReal) (w : Fin 512 → Fin 2048 → EReal) : Fin 256 → Fin 2048 → EReal := fun b m =>
  ∑ e : Fin 512, x b e * w e m
/-- A second-layer projection of the two directions' outputs. -/
def projB (x y : Mat) (w : Fin 1024 → Fin 2048 → EReal) : Fin 256 → Fin 2048 → EReal := fun b m =>
  (∑ e : Fin 512, x b e * w ⟨e.val, by omega⟩ m) + ∑ e : Fin 512, y b e * w ⟨512 + e.val, by omega⟩ m

variable (N : Net)

/-- The first layer's two scans; the backward one takes the times from the last to the first. -/
def fw : ℕ → Mat × Mat := scan (fun n => projA (N.tok (step n)) N.wi1f) (fun n => N.msk (step n)) N.wh1f
@[inherit_doc fw] def bw : ℕ → Mat × Mat := scan (fun n => projA (N.tok (step n).rev) N.wi1b) (fun n => N.msk (step n).rev) N.wh1b
/-- The first layer's outputs at a time. -/
def outF (t : Fin 256) : Mat := (fw N (t.val + 1)).1
@[inherit_doc outF] def outB (t : Fin 256) : Mat := (bw N (t.rev.val + 1)).1
/-- The second layer's two scans. -/
def fw2 : ℕ → Mat × Mat := scan (fun n => projB (outF N (step n)) (outB N (step n)) N.wi2f) (fun n => N.msk (step n)) N.wh2f
@[inherit_doc fw2] def bw2 : ℕ → Mat × Mat := scan (fun n => projB (outF N (step n).rev) (outB N (step n).rev) N.wi2b) (fun n => N.msk (step n).rev) N.wh2b

end Cert.Spec
end
-- ==== Proof.Reorder.lean ====
/-
  The weights' gate reordering, the row gather and the padding scatters, read at an index.
-/
module

public import proofs.«01_k».proof.Proof.KernelRun
public import proofs.«01_k».proof.Proof.Model
public import Idealize.ShloMosaic.Lib.Pointwise
public import Idealize.ShloMosaic.Lib.Routing.OpsSet
public import Idealize.ShloMosaic.Lib.Routing.OpsPair

@[expose] public section

set_option maxRecDepth 16384

noncomputable section

namespace Cert.Proof

open Cert.KernelIdeal Cert.KernelIdeal.Gen
open Idealize.ShloMosaic Idealize.ShloMosaic.TcCoe
open Cert.Spec

/-- The weights of a layer's two directions, each the input's rows above the hidden state's. -/
def catOne {F : FTy → Type} [FloatOps F] (a b x y : Vec F S512x2048 .f32) : Vec F S2x1024x2048 .f32 :=
  concatenate S2x1024x2048 0 [⟨S1x1024x2048, broadcastInDim S1x1024x2048 ![1, 2] bcast_S1024x2048_S1x1024x2048_1_2 (concatenate S1024x2048 0 [⟨S512x2048, a⟩, ⟨S512x2048, b⟩] concatenates_S512x2048_S512x2048_S1024x2048_d0)⟩,
    ⟨S1x1024x2048, broadcastInDim S1x1024x2048 ![1, 2] bcast_S1024x2048_S1x1024x2048_1_2 (concatenate S1024x2048 0 [⟨S512x2048, x⟩, ⟨S512x2048, y⟩] concatenates_S512x2048_S512x2048_S1024x2048_d0)⟩] concatenates_S1x1024x2048_S1x1024x2048_S2x1024x2048_d0
@[inherit_doc catOne] def catTwo {F : FTy → Type} [FloatOps F] (a : Vec F S1024x2048 .f32) (b : Vec F S512x2048 .f32) (x : Vec F S1024x2048 .f32) (y : Vec F S512x2048 .f32) : Vec F S2x1536x2048 .f32 :=
  concatenate S2x1536x2048 0 [⟨S1x1536x2048, broadcastInDim S1x1536x2048 ![1, 2] bcast_S1536x2048_S1x1536x2048_1_2 (concatenate S1536x2048 0 [⟨S1024x2048, a⟩, ⟨S512x2048, b⟩] concatenates_S1024x2048_S512x2048_S1536x2048_d0)⟩,
    ⟨S1x1536x2048, broadcastInDim S1x1536x2048 ![1, 2] bcast_S1536x2048_S1x1536x2048_1_2 (concatenate S1536x2048 0 [⟨S1024x2048, x⟩, ⟨S512x2048, y⟩] concatenates_S1024x2048_S512x2048_S1536x2048_d0)⟩] concatenates_S1x1536x2048_S1x1536x2048_S2x1536x2048_d0

/-- The same, with the gates' column blocks reordered. -/
def wcatOne {F : FTy → Type} [FloatOps F] (a b x y : Vec F S512x2048 .f32) : Vec F S2x1024x2048 .fp8e4m3 :=
  Host.convertf .fp8e4m3 (concatenate S2x1024x2048 2 [⟨S2x1024x512, extractStridedSlice S2x1024x512 ![0, 0, 0] (catOne a b x y) slices_S2x1024x2048_S2x1024x512_0_0_0⟩,
    ⟨S2x1024x512, extractStridedSlice S2x1024x512 ![0, 0, 1024] (catOne a b x y) slices_S2x1024x2048_S2x1024x512_0_0_1024⟩, ⟨S2x1024x512, extractStridedSlice S2x1024x512 ![0, 0, 512] (catOne a b x y) slices_S2x1024x2048_S2x1024x512_0_0_512⟩,
    ⟨S2x1024x512, extractStridedSlice S2x1024x512 ![0, 0, 1536] (catOne a b x y) slices_S2x1024x2048_S2x1024x512_0_0_1536⟩] concatenates_S2x1024x512_S2x1024x512_S2x1024x512_S2x1024x512_S2x1024x2048_d2)
@[inherit_doc wcatOne] def wcatTwo {F : FTy → Type} [FloatOps F] (a : Vec F S1024x2048 .f32) (b : Vec F S512x2048 .f32) (x : Vec F S1024x2048 .f32) (y : Vec F S512x2048 .f32) : Vec F S2x1536x2048 .fp8e4m3 :=
  Host.convertf .fp8e4m3 (concatenate S2x1536x2048 2 [⟨S2x1536x512, extractStridedSlice S2x1536x512 ![0, 0, 0] (catTwo a b x y) slices_S2x1536x2048_S2x1536x512_0_0_0⟩,
    ⟨S2x1536x512, extractStridedSlice S2x1536x512 ![0, 0, 1024] (catTwo a b x y) slices_S2x1536x2048_S2x1536x512_0_0_1024⟩, ⟨S2x1536x512, extractStridedSlice S2x1536x512 ![0, 0, 512] (catTwo a b x y) slices_S2x1536x2048_S2x1536x512_0_0_512⟩,
    ⟨S2x1536x512, extractStridedSlice S2x1536x512 ![0, 0, 1536] (catTwo a b x y) slices_S2x1536x2048_S2x1536x512_0_0_1536⟩] concatenates_S2x1536x512_S2x1536x512_S2x1536x512_S2x1536x512_S2x1536x2048_d2)

/-- Reading the four reordered column blocks at a gate's column gives that gate's own column. -/
theorem gate_pick {α : Type} (f : Fin 2048 → α) (q : Fin 4) (n : Fin 512) (k : ℕ) (hk : (![0, 2, 1, 3] q : Fin 4).val = k) (h0 : 512 * q.val + n.val < 2048) (h1 : 512 * k + n.val < 512 → 512 * k + n.val < 2048)
    (h2 : 512 * k + n.val - 512 < 512 → 1024 + (512 * k + n.val - 512) < 2048) (h3 : 512 * k + n.val - 512 - 512 < 512 → 512 + (512 * k + n.val - 512 - 512) < 2048)
    (h4 : ¬ 512 * k + n.val < 512 → ¬ 512 * k + n.val - 512 < 512 → ¬ 512 * k + n.val - 512 - 512 < 512 → 1536 + (512 * k + n.val - 512 - 512 - 512) < 2048) :
    (if h : 512 * k + n.val < 512 then f ⟨512 * k + n.val, h1 h⟩
      else if h' : 512 * k + n.val - 512 < 512 then f ⟨1024 + (512 * k + n.val - 512), h2 h'⟩
      else if h'' : 512 * k + n.val - 512 - 512 < 512 then f ⟨512 + (512 * k + n.val - 512 - 512), h3 h''⟩
      else f ⟨1536 + (512 * k + n.val - 512 - 512 - 512), h4 h h' h''⟩) = f ⟨512 * q.val + n.val, h0⟩ := by
  have hn := n.isLt
  have hq : k = 0 ∧ q.val = 0 ∨ k = 2 ∧ q.val = 1 ∨ k = 1 ∧ q.val = 2 ∨ k = 3 ∧ q.val = 3 := by
    subst hk
    exact (by decide : ∀ q : Fin 4, (![0, 2, 1, 3] q : Fin 4).val = 0 ∧ q.val = 0 ∨ (![0, 2, 1, 3] q : Fin 4).val = 2 ∧ q.val = 1 ∨ (![0, 2, 1, 3] q : Fin 4).val = 1 ∧ q.val = 2 ∨ (![0, 2, 1, 3] q : Fin 4).val = 3 ∧ q.val = 3) q
  split_ifs <;> refine congrArg f (Fin.ext ?_) <;> dsimp only <;> omega

variable (a b x y : Vec Ideal S512x2048 .f32) (e : Fin 512) (q : Fin 4) (n : Fin 512)

theorem wcatOne_if : wcatOne a b x y (ix3 0 ⟨e.val, by omega⟩ (kcol q n)) = a (ix2 e (col q n)) := by
  unfold wcatOne catOne kcol col
  pointwise []
  exact gate_pick (fun m => a (ix2 e m)) q n _ rfl _ _ _ _ _
theorem wcatOne_hf : wcatOne a b x y (ix3 0 ⟨512 + e.val, by omega⟩ (kcol q n)) = b (ix2 e (col q n)) := by
  unfold wcatOne catOne kcol col
  pointwise []
  exact gate_pick (fun m => b (ix2 e m)) q n _ rfl _ _ _ _ _
theorem wcatOne_ib : wcatOne a b x y (ix3 1 ⟨e.val, by omega⟩ (kcol q n)) = x (ix2 e (col q n)) := by
  unfold wcatOne catOne kcol col
  pointwise []
  exact gate_pick (fun m => x (ix2 e m)) q n _ rfl _ _ _ _ _
theorem wcatOne_hb : wcatOne a b x y (ix3 1 ⟨512 + e.val, by omega⟩ (kcol q n)) = y (ix2 e (col q n)) := by
  unfold wcatOne catOne kcol col
  pointwise []
  exact gate_pick (fun m => y (ix2 e m)) q n _ rfl _ _ _ _ _

variable (a : Vec Ideal S1024x2048 .f32) (x : Vec Ideal S1024x2048 .f32) (r : Fin 1024)

theorem wcatTwo_if : wcatTwo a b x y (ix3 0 ⟨r.val, by omega⟩ (kcol q n)) = a (ix2 r (col q n)) := by
  unfold wcatTwo catTwo kcol col
  pointwise []
  exact gate_pick (fun m => a (ix2 r m)) q n _ rfl _ _ _ _ _
theorem wcatTwo_hf : wcatTwo a b x y (ix3 0 ⟨1024 + e.val, by omega⟩ (kcol q n)) = b (ix2 e (col q n)) := by
  unfold wcatTwo catTwo kcol col
  pointwise []
  exact gate_pick (fun m => b (ix2 e m)) q n _ rfl _ _ _ _ _
theorem wcatTwo_ib : wcatTwo a b x y (ix3 1 ⟨r.val, by omega⟩ (kcol q n)) = x (ix2 r (col q n)) := by
  unfold wcatTwo catTwo kcol col
  pointwise []
  exact gate_pick (fun m => x (ix2 r m)) q n _ rfl _ _ _ _ _
theorem wcatTwo_hb : wcatTwo a b x y (ix3 1 ⟨1024 + e.val, by omega⟩ (kcol q n)) = y (ix2 e (col q n)) := by
  unfold wcatTwo catTwo kcol col
  pointwise []
  exact gate_pick (fun m => y (ix2 e m)) q n _ rfl _ _ _ _ _

/-! ## The row gather -/

/-- Rows of a table at a matrix of row numbers. -/
abbrev rowDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather at an index: the table's row the index word names, clamped to the table. -/
theorem rows_at {α : Type} {N C A B w : ℕ} (hN : 0 < N) (wf) (x : (⟨2, ![N, C]⟩ : Shape).Idx → α) (k : IVec ⟨3, ![A, B, 1]⟩ w) (i : Fin A) (j : Fin B) (e : Fin C) :
    Host.gather (rowDims N C A B wf) x k (ix3 i j e) = x (ix2 ⟨min (k (ix3 i j 0)).toInt.toNat (N - 1), by omega⟩ e) := by
  unfold Host.gather
  refine congrArg x (funext fun a => Fin.ext ?_)
  match a with
  | ⟨0, _⟩ =>
    show (rowDims N C A B wf).start (ix3 i j e) k 0 + (rowDims N C A B wf).batchCoord (ix3 i j e) 0 + (rowDims N C A B wf).offCoord (ix3 i j e) 0 = _
    rw [GatherDims.batchCoord_eq_zero _ _ _ List.not_mem_nil, GatherDims.offCoord_eq_zero _ _ _ fun h => ((GatherDims.mem_sKept _ _).1 h).1 (List.mem_singleton.2 rfl)]
    unfold GatherDims.start
    rw [dif_pos (List.mem_singleton.2 rfl)]
    have hs : (rowDims N C A B wf).siIdx (ix3 i j e) ⟨List.idxOf (0 : Fin 2) (rowDims N C A B wf).startIndexMap, List.idxOf_lt_length_iff.2 (List.mem_singleton.2 rfl)⟩ = ix3 i j 0 := by
      funext b
      refine Fin.ext ?_
      match b with
      | ⟨0, _⟩ => rfl
      | ⟨1, _⟩ => rfl
      | ⟨2, _⟩ => rfl
    rw [hs]
    rfl
  | ⟨1, _⟩ =>
    show (rowDims N C A B wf).start (ix3 i j e) k 1 + (rowDims N C A B wf).batchCoord (ix3 i j e) 1 + (rowDims N C A B wf).offCoord (ix3 i j e) 1 = _
    rw [GatherDims.batchCoord_eq_zero _ _ _ List.not_mem_nil]
    unfold GatherDims.start GatherDims.offCoord
    rw [dif_neg (fun h => absurd (List.mem_singleton.1 h) (by decide : (1 : Fin 2) ≠ 0)), dif_pos ((GatherDims.mem_sKept _ _).2 ⟨fun h => absurd (List.mem_singleton.1 h) (by decide : (1 : Fin 2) ≠ 0), List.not_mem_nil⟩)]
    simp only [Nat.zero_add]
    rfl

/-! ## The padding scatters -/

/-- With every index word zero, an update lands at its own coordinates. -/
theorem pad_lands {A B C D w : ℕ} (d : ScatterDims ⟨2, ![A, B]⟩ ⟨1, ![1]⟩ ⟨2, ![C, D]⟩) (hu : d.updateWindowDims = [0, 1]) (hi : d.insertedWindowDims = []) (k : IVec ⟨1, ![1]⟩ w) (hk : ∀ i, k i = 0#w)
    (i : Fin C) (j : Fin D) (r : Fin A) (c : Fin B) : d.resultIdx? (ix2 i j) k = some (ix2 r c) ↔ i.val = r.val ∧ j.val = c.val := by
  have hs : ∀ a, d.start (ix2 i j) k a = 0 := fun a => by
    unfold ScatterDims.start
    split
    · rw [hk]; simp
    · rfl
  have hw0 : d.window (ix2 i j) 0 = i.val := by
    obtain ⟨u, ins, sd, iv, wf⟩ := d
    obtain rfl : u = [0, 1] := hu
    obtain rfl : ins = [] := hi
    rfl
  have hw1 : d.window (ix2 i j) 1 = j.val := by
    obtain ⟨u, ins, sd, iv, wf⟩ := d
    obtain rfl : u = [0, 1] := hu
    obtain rfl : ins = [] := hi
    rfl
  refine (Routing.resultIdx?_ix2 d (ix2 i j) k r c).trans ?_
  rw [hs, hs, hw0, hw1]
  omega

/-- A scatter at index zero read inside the update's range, and outside it. -/
theorem pad_hit {α : Type} {A B C D w : ℕ} (d : ScatterDims ⟨2, ![A, B]⟩ ⟨1, ![1]⟩ ⟨2, ![C, D]⟩) (hu : d.updateWindowDims = [0, 1]) (hi : d.insertedWindowDims = []) (k : IVec ⟨1, ![1]⟩ w) (hk : ∀ i, k i = 0#w)
    (x : (⟨2, ![A, B]⟩ : Shape).Idx → α) (u : (⟨2, ![C, D]⟩ : Shape).Idx → α) (i : Fin C) (j : Fin D) (r : Fin A) (c : Fin B) (hr : i.val = r.val) (hc : j.val = c.val) :
    Host.scatter d (fun _ b => b) x k u (ix2 r c) = u (ix2 i j) := by
  refine Routing.scatter_set_hit d x k u _ _ (fun p hp => ?_) (ix2 i j) ((pad_lands d hu hi k hk i j r c).2 ⟨hr, hc⟩)
  obtain ⟨h0, h1⟩ := (pad_lands d hu hi k hk (p 0) (p 1) r c).1 ((congrArg (fun t => d.resultIdx? t k) (by funext a; match a with | ⟨0, _⟩ => rfl | ⟨1, _⟩ => rfl)).trans hp)
  refine congrArg u (funext fun a => Fin.ext ?_)
  match a with
  | ⟨0, _⟩ => exact h0.trans hr.symm
  | ⟨1, _⟩ => exact h1.trans hc.symm
theorem pad_miss {α : Type} {A B C D w : ℕ} (d : ScatterDims ⟨2, ![A, B]⟩ ⟨1, ![1]⟩ ⟨2, ![C, D]⟩) (hu : d.updateWindowDims = [0, 1]) (hi : d.insertedWindowDims = []) (k : IVec ⟨1, ![1]⟩ w) (hk : ∀ i, k i = 0#w)
    (x : (⟨2, ![A, B]⟩ : Shape).Idx → α) (u : (⟨2, ![C, D]⟩ : Shape).Idx → α) (r : Fin A) (c : Fin B) (hr : C ≤ r.val) :
    Host.scatter d (fun _ b => b) x k u (ix2 r c) = x (ix2 r c) := by
  refine Routing.scatter_set_miss d x k u _ fun p hp => ?_
  obtain ⟨h0, h1⟩ := (pad_lands d hu hi k hk (p 0) (p 1) r c).1 ((congrArg (fun t => d.resultIdx? t k) (by funext a; match a with | ⟨0, _⟩ => rfl | ⟨1, _⟩ => rfl)).trans hp)
  have h2 : (p 0).val < C := (p 0).isLt
  omega

end Cert.Proof
end
-- ==== Proof.HostReads.lean ====
/-
  What the host operations leave in the calls' inputs.
-/
module

public import proofs.«01_k».proof.Proof.Reorder
public import Idealize.ShloMosaic.Lib.StableHlo.RunRead

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.StableHlo
open Cert.Spec

variable {F : FTy → Type} [FloatOps F] (V : Valuation τ sig (Elt F))

/-- Row numbers with negative ones counted from the end. -/
def wrapIdx (q : Vec F S256x256 .i32) : Vec F S256x256x1 .i32 :=
  broadcastInDim S256x256x1 ![0, 1] bcast_S256x256_S256x256x1_0_1
    (select (cmpi .slt q (broadcastInDim S256x256 ![] bcast_S_S256x256 (constantI S_ 32 0#32))) (addi q (broadcastInDim S256x256 ![] bcast_S_S256x256 (constantI S_ 32 32000#32))) q)
/-- Whether row numbers lie in the table. -/
def inTable (k : Vec F S256x256x1 .i32) : Vec F S256x256x1 .i1 :=
  andi (cmpi .sge k (broadcastInDim S256x256x1 ![] bcast_S_S256x256x1 (constantI S_ 32 0#32)))
    (cmpi .sle k (broadcastInDim S256x256x1 ![0, 1, 2] bcast_S1x1x1_S256x256x1_0_1_2 (broadcastInDim S1x1x1 ![2] bcast_S1_S1x1x1_2 (constantI S1 32 31999#32))))
/-- The table's rows at row numbers, a fill value where there is no such row. -/
def takeRows (t : Vec F S32000x512 .f32) (q : Vec F S256x256 .i32) : Vec F S256x256x512 .f32 :=
  select (broadcastInDim S256x256x512 ![0, 1] bcast_S256x256_S256x256x512_0_1 (Host.reduce IntOp.andi (inTable (F := F) (wrapIdx (F := F) q)) (constantI S_ 1 1#1) reducesTo_S256x256x1_S256x256_d2 h_S_))
    (Host.gather gather_S32000x512_S256x256x1_S256x256x512_2_0_n_n_0_2_1512 t (wrapIdx (F := F) q))
    (broadcastInDim S256x256x512 ![] bcast_S_S256x256x512 (constant S_ .f32 0x7FC00000#32))

theorem read_v0 : after hostOps0 V main_v0 = (transpose S256x256 [1, 0] (V main_arg0 : Vec F S256x256 .i32) transposes_S256x256_S256x256_1_0 : Vec F S256x256 .i32) := by
  after_reads_simp
theorem read_v1 : after hostOps0_1 V main_v1 = takeRows (V main_arg2) (V main_v0) := by
  after_reads_simp
  simp -implicitDefEqProofs only [TRef.toBuf, TRef.ofBuf, cast_cast, cast_eq]
  rfl
theorem read_v2 : after hostOps0_2 V main_v2 = (shapeCast S256x256x1 (V main_v0 : Vec F S256x256 .i32) shapeCasts_S256x256_S256x256x1 : Vec F S256x256x1 .i32) := by
  after_reads_simp
  rfl
theorem read_v13 : after hostOps0_2 V main_v13 = wcatOne (V main_arg4) (V main_arg5) (V main_arg7) (V main_arg8) := by
  have h8 : (upto hostOps0_2 V 10 main_v8 : Vec F S2x1024x512 .f32) = extractStridedSlice S2x1024x512 ![0, 0, 0] (catOne (V main_arg4) (V main_arg5) (V main_arg7) (V main_arg8)) slices_S2x1024x2048_S2x1024x512_0_0_0 := by
    after_reads_simp
    rfl
  have h9 : (upto hostOps0_2 V 10 main_v9 : Vec F S2x1024x512 .f32) = extractStridedSlice S2x1024x512 ![0, 0, 1024] (catOne (V main_arg4) (V main_arg5) (V main_arg7) (V main_arg8)) slices_S2x1024x2048_S2x1024x512_0_0_1024 := by
    after_reads_simp
    rfl
  have h10 : (upto hostOps0_2 V 10 main_v10 : Vec F S2x1024x512 .f32) = extractStridedSlice S2x1024x512 ![0, 0, 512] (catOne (V main_arg4) (V main_arg5) (V main_arg7) (V main_arg8)) slices_S2x1024x2048_S2x1024x512_0_0_512 := by
    after_reads_simp
    rfl
  have h11 : (upto hostOps0_2 V 10 main_v11 : Vec F S2x1024x512 .f32) = extractStridedSlice S2x1024x512 ![0, 0, 1536] (catOne (V main_arg4) (V main_arg5) (V main_arg7) (V main_arg8)) slices_S2x1024x2048_S2x1024x512_0_0_1536 := by
    after_reads_simp
    rfl
  after_reads_simp
  refine Eq.trans (b := (Host.convertf .fp8e4m3 (concatenate S2x1024x2048 2 [⟨S2x1024x512, (upto hostOps0_2 V 10 main_v8 : Vec F S2x1024x512 .f32)⟩, ⟨S2x1024x512, (upto hostOps0_2 V 10 main_v9 : Vec F S2x1024x512 .f32)⟩, ⟨S2x1024x512, (upto hostOps0_2 V 10 main_v10 : Vec F S2x1024x512 .f32)⟩, ⟨S2x1024x512, (upto hostOps0_2 V 10 main_v11 : Vec F S2x1024x512 .f32)⟩]
    concatenates_S2x1024x512_S2x1024x512_S2x1024x512_S2x1024x512_S2x1024x2048_d2) : Vec F S2x1024x2048 .fp8e4m3)) rfl ?_
  rw [h8, h9, h10, h11]
  rfl
theorem read_v24 : after hostOps0_2 V main_v24 = wcatTwo (V main_arg10) (V main_arg11) (V main_arg13) (V main_arg14) := by
  have h19 : (upto hostOps0_2 V 21 main_v19 : Vec F S2x1536x512 .f32) = extractStridedSlice S2x1536x512 ![0, 0, 0] (catTwo (V main_arg10) (V main_arg11) (V main_arg13) (V main_arg14)) slices_S2x1536x2048_S2x1536x512_0_0_0 := by
    after_reads_simp
    rfl
  have h20 : (upto hostOps0_2 V 21 main_v20 : Vec F S2x1536x512 .f32) = extractStridedSlice S2x1536x512 ![0, 0, 1024] (catTwo (V main_arg10) (V main_arg11) (V main_arg13) (V main_arg14)) slices_S2x1536x2048_S2x1536x512_0_0_1024 := by
    after_reads_simp
    rfl
  have h21 : (upto hostOps0_2 V 21 main_v21 : Vec F S2x1536x512 .f32) = extractStridedSlice S2x1536x512 ![0, 0, 512] (catTwo (V main_arg10) (V main_arg11) (V main_arg13) (V main_arg14)) slices_S2x1536x2048_S2x1536x512_0_0_512 := by
    after_reads_simp
    rfl
  have h22 : (upto hostOps0_2 V 21 main_v22 : Vec F S2x1536x512 .f32) = extractStridedSlice S2x1536x512 ![0, 0, 1536] (catTwo (V main_arg10) (V main_arg11) (V main_arg13) (V main_arg14)) slices_S2x1536x2048_S2x1536x512_0_0_1536 := by
    after_reads_simp
    rfl
  after_reads_simp
  refine Eq.trans (b := (Host.convertf .fp8e4m3 (concatenate S2x1536x2048 2 [⟨S2x1536x512, (upto hostOps0_2 V 21 main_v19 : Vec F S2x1536x512 .f32)⟩, ⟨S2x1536x512, (upto hostOps0_2 V 21 main_v20 : Vec F S2x1536x512 .f32)⟩, ⟨S2x1536x512, (upto hostOps0_2 V 21 main_v21 : Vec F S2x1536x512 .f32)⟩, ⟨S2x1536x512, (upto hostOps0_2 V 21 main_v22 : Vec F S2x1536x512 .f32)⟩]
    concatenates_S2x1536x512_S2x1536x512_S2x1536x512_S2x1536x512_S2x1536x2048_d2) : Vec F S2x1536x2048 .fp8e4m3)) rfl ?_
  rw [h19, h20, h21, h22]
  rfl

/-- The style table padded to sixteen rows. -/
def styPad (t : Vec F S10x128 .f32) : Vec F S16x128 .bf16 :=
  truncf .bf16 (Host.scatter scatter_S16x128_S1_S10x128_01_n_0_0 (fun _ b => b) (broadcastInDim S16x128 ![] bcast_S_S16x128 (constant S_ .f32 0x00000000#32)) (broadcastInDim S1 ![] bcast_S_S1 (constantI S_ 32 0#32)) t) bitsLt_bf16_f32
/-- The last layer's weights padded to a hundred and twenty eight columns. -/
def outPad (t : Vec F S512x1 .f32) : Vec F S512x128 .bf16 :=
  truncf .bf16 (Host.scatter scatter_S512x128_S1_S512x1_01_n_1_0 (fun _ b => b) (broadcastInDim S512x128 ![] bcast_S_S512x128 (constant S_ .f32 0x00000000#32)) (broadcastInDim S1 ![] bcast_S_S1 (constantI S_ 32 0#32)) t) bitsLt_bf16_f32

theorem read_v30 : after hostOps2 V main_v30 = styPad (V main_arg3) := by
  after_reads_simp
  rfl
theorem read_v34 : after hostOps2 V main_v34 = outPad (V main_arg20) := by
  after_reads_simp
  rfl
theorem read_v35 : after hostOps2 V main_v35 = (shapeCast S256x1 (V main_arg1 : Vec F S256 .i32) shapeCasts_S256_S256x1 : Vec F S256x1 .i32) := by
  after_reads_simp
  rfl
theorem read_v37 : after hostOps2 V main_v37 = (truncf .bf16 (extractStridedSlice S1024x1024 ![0, 0] (V main_arg16 : Vec F S1152x1024 .f32) slices_S1152x1024_S1024x1024_0_0) bitsLt_bf16_f32 : Vec F S1024x1024 .bf16) := by
  after_reads_simp
theorem read_v39 : after hostOps2 V main_v39 = (truncf .bf16 (extractStridedSlice S128x1024 ![1024, 0] (V main_arg16 : Vec F S1152x1024 .f32) slices_S1152x1024_S128x1024_1024_0) bitsLt_bf16_f32 : Vec F S128x1024 .bf16) := by
  after_reads_simp
theorem read_v40 : after hostOps2 V main_v40 = (shapeCast S1x1024 (V main_arg17 : Vec F S1024 .f32) shapeCasts_S1024_S1x1024 : Vec F S1x1024 .f32) := by
  after_reads_simp
  rfl
theorem read_v41 : after hostOps2 V main_v41 = (truncf .bf16 (V main_arg18 : Vec F S1024x512 .f32) bitsLt_bf16_f32 : Vec F S1024x512 .bf16) := by
  after_reads_simp
theorem read_v42 : after hostOps2 V main_v42 = (shapeCast S1x512 (V main_arg19 : Vec F S512 .f32) shapeCasts_S512_S1x512 : Vec F S1x512 .f32) := by
  after_reads_simp
  rfl
theorem read_v43 : after hostOps2 V main_v43 = (shapeCast S1x1 (V main_arg21 : Vec F S1 .f32) shapeCasts_S1_S1x1 : Vec F S1x1 .f32) := by
  after_reads_simp
  rfl

end Cert.Proof
end
-- ==== Proof.ScanValue.lean ====
/-
  The first-layer scan's carried states and output arrays as scans of its input arrays.
-/
module

public import proofs.«01_k».proof.Proof.RegionOne
public import proofs.«01_k».proof.Proof.Model
public import Idealize.ShloMosaic.Lib.Pipeline.ValueKit
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe
open Cert.Spec

theorem step_of_lt {n : ℕ} (h : n < 256) : (step n).val = n := Nat.mod_eq_of_lt h

/-- The backward scan's step `n` sits at the last row but `n`. -/
theorem step_rev {n : ℕ} (h : n < 256) : (step n).rev.val = 255 - n := by
  rw [Fin.val_rev, step_of_lt h]; omega

section
variable (V : (c : Dev nD) → (b : Ref sig .tc) → Buf (Elt Ideal) ((c : Thread nD τ).loc b)) (c : Dev nD)

theorem idx0_0 : ∀ t : Fin cfg0.N, win0_0.index t = ![t.val, 0, 0] := (by decide +kernel : ∀ t : Fin grid0.N, _)
theorem idx0_1 : ∀ t : Fin cfg0.N, win0_1.index t = ![63 - t.val, 0, 0] := (by decide +kernel : ∀ t : Fin grid0.N, _)
theorem idx0_2 : ∀ t : Fin cfg0.N, win0_2.index t = ![t.val, 0, 0] := (by decide +kernel : ∀ t : Fin grid0.N, _)
theorem idx0_3 : ∀ t : Fin cfg0.N, win0_3.index t = ![63 - t.val, 0, 0] := (by decide +kernel : ∀ t : Fin grid0.N, _)
theorem idx0_4 : ∀ t : Fin cfg0.N, win0_4.index t = ![0, 0, 0] := (by decide +kernel : ∀ t : Fin grid0.N, _)
theorem idx0_5 : ∀ t : Fin cfg0.N, win0_5.index t = ![t.val, 0, 0] := (by decide +kernel : ∀ t : Fin grid0.N, _)
theorem idx0_6 : ∀ t : Fin cfg0.N, win0_6.index t = ![63 - t.val, 0, 0] := (by decide +kernel : ∀ t : Fin grid0.N, _)

variable (t : Fin cfg0.N) (j : Fin 4) (b : Fin 256)

theorem blk0_0_apply (e : Fin 512) (r : Fin 256) (hr : r.val = 4 * t.val + j.val) : blk0 V c 0 t (ix3 j b e) = V c main_v1 (ix3 r b e) := by
  blk_simp [blk0]
  refine congrArg (V c main_v1) ?_
  blk_ext [idx0_0]
theorem blk0_1_apply (e : Fin 512) (r : Fin 256) (hr : r.val = 4 * (63 - t.val) + j.val) : blk0 V c 1 t (ix3 j b e) = V c main_v1 (ix3 r b e) := by
  blk_simp [blk0]
  refine congrArg (V c main_v1) ?_
  blk_ext [idx0_1]
theorem blk0_2_apply (r : Fin 256) (hr : r.val = 4 * t.val + j.val) : blk0 V c 2 t (ix3 j b 0) = V c main_v2 (ix3 r b 0) := by
  blk_simp [blk0]
  refine congrArg (V c main_v2) ?_
  blk_ext [idx0_2]
theorem blk0_3_apply (r : Fin 256) (hr : r.val = 4 * (63 - t.val) + j.val) : blk0 V c 3 t (ix3 j b 0) = V c main_v2 (ix3 r b 0) := by
  blk_simp [blk0]
  refine congrArg (V c main_v2) ?_
  blk_ext [idx0_3]
theorem blk0_4_apply (d : Fin 2) (e : Fin 1024) (n : Fin 2048) : blk0 V c 4 t (ix3 d e n) = V c main_v13 (ix3 d e n) := by
  blk_simp [blk0]
  refine congrArg (V c main_v13) ?_
  blk_ext [idx0_4]
end

/-! ## A loaded row at an index -/

theorem xrow_apply (x : Vec Ideal S4x256x512 .f32) (j : Fin 4) (h) (b : Fin 256) (e : Fin 512) : xrow x j.val h (ix3 0 b e) = x (ix3 j b e) := by
  refine congrArg x (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)
theorem krow_apply (x : Vec Ideal S4x256x1 .i32) (j : Fin 4) (h) (b : Fin 256) : krow (F := Ideal) x j.val h (ix3 0 b 0) = x (ix3 j b 0) := by
  refine congrArg x (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)
theorem wrow_apply (x : Vec Ideal S2x1024x2048 .fp8e4m3) (d : Fin 2) (h) (e : Fin 1024) (n : Fin 2048) : wrow x d.val h (ix3 0 e n) = x (ix3 d e n) := by
  refine congrArg x (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)

theorem outRow_at (h : FVec Ideal S256x512 .f32) (i : S1x256x512.Idx) (b : Fin 256) (n : Fin 512) (e1 : b.val = (i 1).val) (e2 : n.val = (i 2).val) :
    outRow h i = mat h b n := by
  rw [← outRow_apply h b n]
  refine congrArg (outRow h) (funext fun a => Fin.ext ?_)
  match a with
  | ⟨0, _⟩ => exact Nat.lt_one_iff.mp (i 0).isLt
  | ⟨1, _⟩ => exact e1.symm
  | ⟨2, _⟩ => exact e2.symm

theorem outF_at (N : Net) (n : ℕ) (t b b' : Fin 256) (e e' : Fin 512) (ht : t.val = n) (hb : b = b') (he : e = e') : (fw N (n + 1)).1 b e = outF N t b' e' := by
  subst ht hb he; rfl
theorem outB_at (N : Net) (n : ℕ) (t b b' : Fin 256) (e e' : Fin 512) (ht : t.rev.val + 1 = n) (hb : b = b') (he : e = e') : (bw N n).1 b e = outB N t b' e' := by
  subst ht hb he; rfl

/-! ## The arrays the layers read -/

/-- The buffers the scans read hold the network's inputs: embeddings, tokens, first-layer weights. -/
structure Holds (V : (b : Ref sig .tc) → b.ty.Contents (Elt Ideal)) (N : Net) : Prop where
  tok : ∀ t b e, V main_v1 (ix3 t b e) = N.tok t b e
  msk : ∀ t b, IntOp.cmpi .ne (V main_v2 (ix3 t b 0)) 0#32 = N.msk t b
  wi1f : ∀ (e : Fin 512) q n, V main_v13 (ix3 0 ⟨e.val, by omega⟩ (kcol q n)) = N.wi1f e (col q n)
  wh1f : ∀ (e : Fin 512) q n, V main_v13 (ix3 0 ⟨512 + e.val, by omega⟩ (kcol q n)) = N.wh1f e (col q n)
  wi1b : ∀ (e : Fin 512) q n, V main_v13 (ix3 1 ⟨e.val, by omega⟩ (kcol q n)) = N.wi1b e (col q n)
  wh1b : ∀ (e : Fin 512) q n, V main_v13 (ix3 1 ⟨512 + e.val, by omega⟩ (kcol q n)) = N.wh1b e (col q n)

variable (V : (c : Dev nD) → (b : Ref sig .tc) → Buf (Elt Ideal) ((c : Thread nD τ).loc b)) (c : Dev nD) (N : Net) (hV : Holds (V c) N)

include hV

/-- One forward step: row `j` of point `t` is time `4 t + j`. -/
theorem fw_step (t : Fin cfg0.N) (j : Fin 4) (h0 hx hk) (s : HC Ideal) (n : ℕ) (hn : n = 4 * t.val + j.val) (hs : mats s = fw N n) :
    mats (stepOne (wrow (blk0 V c 4 t) 0 h0) (xrow (blk0 V c 0 t) j.val hx) (krow (blk0 V c 2 t) j.val hk) s) = fw N (n + 1) := by
  have ht : t.val < 64 := Nat.lt_of_lt_of_eq t.isLt N_0
  have hr : (step n).val = 4 * t.val + j.val := by rw [step_of_lt (by omega), hn]
  have hl : liveAt (krow (blk0 V c 2 t) j.val hk) = N.msk (step n) := funext fun b => by
    unfold liveAt
    rw [krow_apply _ j, blk0_2_apply V c t j b _ hr, hV.msk]
  rw [stepOne_eq _ _ _ _ (projA (N.tok (step n)) N.wi1f) N.wh1f ?_ ?_, hl, hs, show mat s.1 = (fw N n).1 from congrArg Prod.fst hs]
  · rfl
  · intro b q m
    refine Finset.sum_congr rfl fun e _ => ?_
    rw [xrow_apply _ j, blk0_0_apply V c t j b e _ hr, hV.tok]
    refine congrArg (N.tok (step n) b e * ·) ?_
    exact (wrow_apply _ 0 h0 _ _).trans ((blk0_4_apply V c t _ _ _).trans (hV.wi1f e q m))
  · intro e q m
    exact (wrow_apply _ 0 h0 _ _).trans ((blk0_4_apply V c t _ _ _).trans (hV.wh1f e q m))

/-- One backward step: row `j` of point `t` is the last time but `4 t + 3 - j`. -/
theorem bw_step (t : Fin cfg0.N) (j : Fin 4) (h0 hx hk) (s : HC Ideal) (n : ℕ) (hn : n = 4 * t.val + (3 - j.val)) (hs : mats s = bw N n) :
    mats (stepOne (wrow (blk0 V c 4 t) 1 h0) (xrow (blk0 V c 1 t) j.val hx) (krow (blk0 V c 3 t) j.val hk) s) = bw N (n + 1) := by
  have ht : t.val < 64 := Nat.lt_of_lt_of_eq t.isLt N_0
  have hr : (step n).rev.val = 4 * (63 - t.val) + j.val := by rw [step_rev (by omega), hn]; omega
  have hl : liveAt (krow (blk0 V c 3 t) j.val hk) = N.msk (step n).rev := funext fun b => by
    unfold liveAt
    rw [krow_apply _ j, blk0_3_apply V c t j b _ hr, hV.msk]
  rw [stepOne_eq _ _ _ _ (projA (N.tok (step n).rev) N.wi1b) N.wh1b ?_ ?_, hl, hs, show mat s.1 = (bw N n).1 from congrArg Prod.fst hs]
  · rfl
  · intro b q m
    refine Finset.sum_congr rfl fun e _ => ?_
    rw [xrow_apply _ j, blk0_1_apply V c t j b e _ hr, hV.tok]
    refine congrArg (N.tok (step n).rev b e * ·) ?_
    exact (wrow_apply _ 1 h0 _ _).trans ((blk0_4_apply V c t _ _ _).trans (hV.wi1b e q m))
  · intro e q m
    exact (wrow_apply _ 1 h0 _ _).trans ((blk0_4_apply V c t _ _ _).trans (hV.wh1b e q m))

/-- The four forward states of a point. -/
theorem fw_point (t : Fin cfg0.N) (s : HC Ideal) (hs : mats s = fw N (4 * t.val)) :
    mats (fw1 (blk0 V c 0 t) (blk0 V c 2 t) (blk0 V c 4 t) s) = fw N (4 * t.val + 1) ∧ mats (fw2 (blk0 V c 0 t) (blk0 V c 2 t) (blk0 V c 4 t) s) = fw N (4 * t.val + 2)
      ∧ mats (fw3 (blk0 V c 0 t) (blk0 V c 2 t) (blk0 V c 4 t) s) = fw N (4 * t.val + 3) ∧ mats (fw4 (blk0 V c 0 t) (blk0 V c 2 t) (blk0 V c 4 t) s) = fw N (4 * t.val + 4) := by
  have h1 := fw_step V c N hV t 0 inb_S2x1024x2048_S1x1024x2048_0_0_0 inb_S4x256x512_S1x256x512_0_0_0 inb_S4x256x1_S1x256x1_0_0_0 s _ rfl hs
  have h2 := fw_step V c N hV t 1 inb_S2x1024x2048_S1x1024x2048_0_0_0 inb_S4x256x512_S1x256x512_1_0_0 inb_S4x256x1_S1x256x1_1_0_0 _ _ rfl h1
  have h3 := fw_step V c N hV t 2 inb_S2x1024x2048_S1x1024x2048_0_0_0 inb_S4x256x512_S1x256x512_2_0_0 inb_S4x256x1_S1x256x1_2_0_0 _ _ rfl h2
  have h4 := fw_step V c N hV t 3 inb_S2x1024x2048_S1x1024x2048_0_0_0 inb_S4x256x512_S1x256x512_3_0_0 inb_S4x256x1_S1x256x1_3_0_0 _ _ rfl h3
  exact ⟨h1, h2, h3, h4⟩

/-- The four backward states of a point. -/
theorem bw_point (t : Fin cfg0.N) (s : HC Ideal) (hs : mats s = bw N (4 * t.val)) :
    mats (bw1 (blk0 V c 1 t) (blk0 V c 3 t) (blk0 V c 4 t) s) = bw N (4 * t.val + 1) ∧ mats (bw2 (blk0 V c 1 t) (blk0 V c 3 t) (blk0 V c 4 t) s) = bw N (4 * t.val + 2)
      ∧ mats (bw3 (blk0 V c 1 t) (blk0 V c 3 t) (blk0 V c 4 t) s) = bw N (4 * t.val + 3) ∧ mats (bw4 (blk0 V c 1 t) (blk0 V c 3 t) (blk0 V c 4 t) s) = bw N (4 * t.val + 4) := by
  have h1 := bw_step V c N hV t 3 inb_S2x1024x2048_S1x1024x2048_1_0_0 inb_S4x256x512_S1x256x512_3_0_0 inb_S4x256x1_S1x256x1_3_0_0 s _ rfl hs
  have h2 := bw_step V c N hV t 2 inb_S2x1024x2048_S1x1024x2048_1_0_0 inb_S4x256x512_S1x256x512_2_0_0 inb_S4x256x1_S1x256x1_2_0_0 _ _ rfl h1
  have h3 := bw_step V c N hV t 1 inb_S2x1024x2048_S1x1024x2048_1_0_0 inb_S4x256x512_S1x256x512_1_0_0 inb_S4x256x1_S1x256x1_1_0_0 _ _ rfl h2
  have h4 := bw_step V c N hV t 0 inb_S2x1024x2048_S1x1024x2048_1_0_0 inb_S4x256x512_S1x256x512_0_0_0 inb_S4x256x1_S1x256x1_0_0_0 _ _ rfl h3
  exact ⟨h1, h2, h3, h4⟩

/-- The states carried into point `n`. -/
theorem fwSt0_eq : ∀ n : ℕ, n ≤ 64 → mats (fwSt0 V c n) = fw N (4 * n)
  | 0, _ => mats_zero
  | n + 1, h => by
    have h' : n < cfg0.N := Nat.lt_of_lt_of_eq h N_0.symm
    rw [fwSt0_succ V c ⟨n, h'⟩, keep_eq]
    exact (fw_point V c N hV ⟨n, h'⟩ _ (fwSt0_eq n (by omega))).2.2.2
theorem bwSt0_eq : ∀ n : ℕ, n ≤ 64 → mats (bwSt0 V c n) = bw N (4 * n)
  | 0, _ => mats_zero
  | n + 1, h => by
    have h' : n < cfg0.N := Nat.lt_of_lt_of_eq h N_0.symm
    rw [bwSt0_succ V c ⟨n, h'⟩, keep_eq]
    exact (bw_point V c N hV ⟨n, h'⟩ _ (bwSt0_eq n (by omega))).2.2.2

omit hV in
theorem fwOut_apply (x : Vec Ideal S4x256x512 .f32) (k : Vec Ideal S4x256x1 .i32) (w : Vec Ideal S2x1024x2048 .fp8e4m3) (s : HC Ideal) (g : ℕ → Mat)
    (h1 : mat (fw1 x k w s).1 = g 0) (h2 : mat (fw2 x k w s).1 = g 1) (h3 : mat (fw3 x k w s).1 = g 2) (h4 : mat (fw4 x k w s).1 = g 3) (y : S4x256x512.Idx) :
    fwOut x k w s y = g (y 0).val (y 1) (y 2) := by
  unfold fwOut fwL
  canon_tiles i e
  all_goals rw [outRow_at _ i (y 1) (y 2) e1 e2]
  · rw [h4, show (y 0).val = 3 by omega]
  · rw [h3, show (y 0).val = 2 by omega]
  · rw [h2, show (y 0).val = 1 by omega]
  · rw [h1, show (y 0).val = 0 by omega]
omit hV in
theorem bwOut_apply (x : Vec Ideal S4x256x512 .f32) (k : Vec Ideal S4x256x1 .i32) (w : Vec Ideal S2x1024x2048 .fp8e4m3) (s : HC Ideal) (g : ℕ → Mat)
    (h1 : mat (bw1 x k w s).1 = g 3) (h2 : mat (bw2 x k w s).1 = g 2) (h3 : mat (bw3 x k w s).1 = g 1) (h4 : mat (bw4 x k w s).1 = g 0) (y : S4x256x512.Idx) :
    bwOut x k w s y = g (y 0).val (y 1) (y 2) := by
  unfold bwOut bwL
  canon_tiles i e
  all_goals rw [outRow_at _ i (y 1) (y 2) e1 e2]
  · rw [h4, show (y 0).val = 0 by omega]
  · rw [h3, show (y 0).val = 1 by omega]
  · rw [h2, show (y 0).val = 2 by omega]
  · rw [h1, show (y 0).val = 3 by omega]

omit hV in
theorem fwOut_gen (t : ℕ) (x : Vec Ideal S4x256x512 .f32) (k : Vec Ideal S4x256x1 .i32) (w : Vec Ideal S2x1024x2048 .fp8e4m3) (s : HC Ideal)
    (h : mats (fw1 x k w s) = fw N (4 * t + 1) ∧ mats (fw2 x k w s) = fw N (4 * t + 2) ∧ mats (fw3 x k w s) = fw N (4 * t + 3) ∧ mats (fw4 x k w s) = fw N (4 * t + 4))
    (y : S4x256x512.Idx) : fwOut x k w s y = (fw N (4 * t + (y 0).val + 1)).1 (y 1) (y 2) :=
  fwOut_apply _ _ _ _ (fun j => (fw N (4 * t + j + 1)).1) (congrArg Prod.fst h.1) (congrArg Prod.fst h.2.1) (congrArg Prod.fst h.2.2.1) (congrArg Prod.fst h.2.2.2) y
omit hV in
theorem bwOut_gen (t : ℕ) (x : Vec Ideal S4x256x512 .f32) (k : Vec Ideal S4x256x1 .i32) (w : Vec Ideal S2x1024x2048 .fp8e4m3) (s : HC Ideal)
    (h : mats (bw1 x k w s) = bw N (4 * t + 1) ∧ mats (bw2 x k w s) = bw N (4 * t + 2) ∧ mats (bw3 x k w s) = bw N (4 * t + 3) ∧ mats (bw4 x k w s) = bw N (4 * t + 4))
    (y : S4x256x512.Idx) : bwOut x k w s y = (bw N (4 * t + (4 - (y 0).val))).1 (y 1) (y 2) :=
  bwOut_apply x k w s (fun j => (bw N (4 * t + (4 - j))).1) (congrArg Prod.fst (h.1.trans (congrArg (bw N) (show 4 * t + 1 = 4 * t + (4 - 3) by omega))))
    (congrArg Prod.fst (h.2.1.trans (congrArg (bw N) (show 4 * t + 2 = 4 * t + (4 - 2) by omega)))) (congrArg Prod.fst (h.2.2.1.trans (congrArg (bw N) (show 4 * t + 3 = 4 * t + (4 - 1) by omega))))
    (congrArg Prod.fst (h.2.2.2.trans (congrArg (bw N) (show 4 * t + 4 = 4 * t + (4 - 0) by omega)))) y

/-- What a point leaves of the forward outputs. -/
theorem fwOut_point (t : Fin cfg0.N) : ∀ y : S4x256x512.Idx,
    fwOut (blk0 V c 0 t) (blk0 V c 2 t) (blk0 V c 4 t) (fwSt0 V c t.val) y = (fw N (4 * t.val + (y 0).val + 1)).1 (y 1) (y 2) :=
  fwOut_gen N t.val _ _ _ _ (fw_point V c N hV t _ (fwSt0_eq V c N hV t.val (Nat.le_of_lt (Nat.lt_of_lt_of_eq t.isLt N_0))))
/-- What a point leaves of the backward outputs. -/
theorem bwOut_point (t : Fin cfg0.N) : ∀ y : S4x256x512.Idx,
    bwOut (blk0 V c 1 t) (blk0 V c 3 t) (blk0 V c 4 t) (bwSt0 V c t.val) y = (bw N (4 * t.val + (4 - (y 0).val))).1 (y 1) (y 2) :=
  bwOut_gen N t.val _ _ _ _ (bw_point V c N hV t _ (bwSt0_eq V c N hV t.val (Nat.le_of_lt (Nat.lt_of_lt_of_eq t.isLt N_0))))

section
omit hV
attribute [local irreducible] fwOut bwOut
theorem after0_5 (t : Fin cfg0.N) : (dat0 V c).after 5 t = fwOut (blk0 V c 0 t) (blk0 V c 2 t) (blk0 V c 4 t) (fwSt0 V c t.val) := by exact rfl
theorem after0_6 (t : Fin cfg0.N) : (dat0 V c).after 6 t = bwOut (blk0 V c 1 t) (blk0 V c 3 t) (blk0 V c 4 t) (bwSt0 V c t.val) := by exact rfl
end

/-- The forward output array: the hidden states by time. -/
theorem arr0_5 : (dat0 V c).arrAt 5 cfg0.N = fun i : S256x256x512.Idx => outF N (i 0) (i 1) (i 2) := by
  refine (dat0 V c).arrAt_eq_of_covers 5 _ (by decide +kernel) fun t hf y => ?_
  blk_simp
  rw [after0_5, fwOut_point V c N hV]
  refine outF_at N _ _ _ _ _ _ ?_ (Fin.ext ?_) (Fin.ext ?_) <;> blk_simp [idx0_5] <;> omega

/-- The backward output array. -/
theorem arr0_6 : (dat0 V c).arrAt 6 cfg0.N = fun i : S256x256x512.Idx => outB N (i 0) (i 1) (i 2) := by
  refine (dat0 V c).arrAt_eq_of_covers 6 _ (by decide +kernel) fun t hf y => ?_
  blk_simp
  rw [after0_6, bwOut_point V c N hV]
  have ht : t.val < 64 := Nat.lt_of_lt_of_eq t.isLt N_0
  idx_bounds y
  refine outB_at N _ _ _ _ _ _ ?_ (Fin.ext ?_) (Fin.ext ?_)
  · show 256 - (((win0_6.blk t).view.emb y 0).val + 1) + 1 = _
    blk_simp [idx0_6]; omega
  · blk_simp [idx0_6]
  · blk_simp [idx0_6]

end Cert.Proof
end
-- ==== Proof.ScanTwoValue.lean ====
/-
  The second-layer scan's carried states and last hidden states as scans of its input arrays.
-/
module

public import proofs.«01_k».proof.Proof.RegionTwo
public import proofs.«01_k».proof.Proof.ScanValue

@[expose] public section

set_option maxRecDepth 16384

noncomputable section

namespace Cert.Proof

open Cert.KernelIdeal Cert.KernelIdeal.Gen
open Idealize.ShloMosaic Idealize.ShloMosaic.TcCoe
open Cert.Spec

section
variable (V : (c : Dev nD) → (b : Ref sig .tc) → Buf (Elt Ideal) ((c : Thread nD τ).loc b)) (c : Dev nD)

theorem idx1_0 : ∀ t : Fin cfg1.N, win1_0.index t = ![t.val, 0, 0] := (by decide +kernel : ∀ t : Fin grid1.N, _)
theorem idx1_1 : ∀ t : Fin cfg1.N, win1_1.index t = ![t.val, 0, 0] := (by decide +kernel : ∀ t : Fin grid1.N, _)
theorem idx1_2 : ∀ t : Fin cfg1.N, win1_2.index t = ![63 - t.val, 0, 0] := (by decide +kernel : ∀ t : Fin grid1.N, _)
theorem idx1_3 : ∀ t : Fin cfg1.N, win1_3.index t = ![63 - t.val, 0, 0] := (by decide +kernel : ∀ t : Fin grid1.N, _)
theorem idx1_4 : ∀ t : Fin cfg1.N, win1_4.index t = ![t.val, 0, 0] := (by decide +kernel : ∀ t : Fin grid1.N, _)
theorem idx1_5 : ∀ t : Fin cfg1.N, win1_5.index t = ![63 - t.val, 0, 0] := (by decide +kernel : ∀ t : Fin grid1.N, _)
theorem idx1_6 : ∀ t : Fin cfg1.N, win1_6.index t = ![0, 0, 0] := (by decide +kernel : ∀ t : Fin grid1.N, _)

variable (t : Fin cfg1.N) (j : Fin 4) (b : Fin 256)

theorem blk1_0_apply (e : Fin 512) (r : Fin 256) (hr : r.val = 4 * t.val + j.val) : blk1 V c 0 t (ix3 j b e) = V c main_v25_0 (ix3 r b e) := by
  blk_simp [blk1]
  refine congrArg (V c main_v25_0) ?_
  blk_ext [idx1_0]
theorem blk1_1_apply (e : Fin 512) (r : Fin 256) (hr : r.val = 4 * t.val + j.val) : blk1 V c 1 t (ix3 j b e) = V c main_v25_1 (ix3 r b e) := by
  blk_simp [blk1]
  refine congrArg (V c main_v25_1) ?_
  blk_ext [idx1_1]
theorem blk1_2_apply (e : Fin 512) (r : Fin 256) (hr : r.val = 4 * (63 - t.val) + j.val) : blk1 V c 2 t (ix3 j b e) = V c main_v25_0 (ix3 r b e) := by
  blk_simp [blk1]
  refine congrArg (V c main_v25_0) ?_
  blk_ext [idx1_2]
theorem blk1_3_apply (e : Fin 512) (r : Fin 256) (hr : r.val = 4 * (63 - t.val) + j.val) : blk1 V c 3 t (ix3 j b e) = V c main_v25_1 (ix3 r b e) := by
  blk_simp [blk1]
  refine congrArg (V c main_v25_1) ?_
  blk_ext [idx1_3]
theorem blk1_4_apply (r : Fin 256) (hr : r.val = 4 * t.val + j.val) : blk1 V c 4 t (ix3 j b 0) = V c main_v2 (ix3 r b 0) := by
  blk_simp [blk1]
  refine congrArg (V c main_v2) ?_
  blk_ext [idx1_4]
theorem blk1_5_apply (r : Fin 256) (hr : r.val = 4 * (63 - t.val) + j.val) : blk1 V c 5 t (ix3 j b 0) = V c main_v2 (ix3 r b 0) := by
  blk_simp [blk1]
  refine congrArg (V c main_v2) ?_
  blk_ext [idx1_5]
theorem blk1_6_apply (d : Fin 2) (e : Fin 1536) (n : Fin 2048) : blk1 V c 6 t (ix3 d e n) = V c main_v24 (ix3 d e n) := by
  blk_simp [blk1]
  refine congrArg (V c main_v24) ?_
  blk_ext [idx1_6]
end

theorem yrow_apply (x : Vec Ideal S4x256x512 .fp8e4m3) (j : Fin 4) (h) (b : Fin 256) (e : Fin 512) : yrow x j.val h (ix3 0 b e) = x (ix3 j b e) := by
  refine congrArg x (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)
theorem wrow2_apply (x : Vec Ideal S2x1536x2048 .fp8e4m3) (d : Fin 2) (h) (e : Fin 1536) (n : Fin 2048) : wrow2 x d.val h (ix3 0 e n) = x (ix3 d e n) := by
  refine congrArg x (funext fun a => Fin.ext ?_)
  match a with
  | ⟨0, _⟩ => exact Nat.add_zero _
  | ⟨1, _⟩ => exact (Nat.zero_add _).trans (Nat.one_mul _)
  | ⟨2, _⟩ => exact (Nat.zero_add _).trans (Nat.one_mul _)

/-- The buffers the second scan reads hold the first layer's outputs, the tokens and the second layer's weights. -/
structure Holds2 (V : (b : Ref sig .tc) → b.ty.Contents (Elt Ideal)) (N : Net) : Prop where
  outF : ∀ t b e, V main_v25_0 (ix3 t b e) = outF N t b e
  outB : ∀ t b e, V main_v25_1 (ix3 t b e) = outB N t b e
  msk : ∀ t b, IntOp.cmpi .ne (V main_v2 (ix3 t b 0)) 0#32 = N.msk t b
  wi2f : ∀ (e : Fin 1024) q n, V main_v24 (ix3 0 ⟨e.val, by omega⟩ (kcol q n)) = N.wi2f e (col q n)
  wh2f : ∀ (e : Fin 512) q n, V main_v24 (ix3 0 ⟨1024 + e.val, by omega⟩ (kcol q n)) = N.wh2f e (col q n)
  wi2b : ∀ (e : Fin 1024) q n, V main_v24 (ix3 1 ⟨e.val, by omega⟩ (kcol q n)) = N.wi2b e (col q n)
  wh2b : ∀ (e : Fin 512) q n, V main_v24 (ix3 1 ⟨1024 + e.val, by omega⟩ (kcol q n)) = N.wh2b e (col q n)

variable (V : (c : Dev nD) → (b : Ref sig .tc) → Buf (Elt Ideal) ((c : Thread nD τ).loc b)) (c : Dev nD) (N : Net) (hV : Holds2 (V c) N)

include hV

/-- One forward step: row `j` of point `t` is time `4 t + j`. -/
theorem fw2_step (t : Fin cfg1.N) (j : Fin 4) (h0 hx hy hk) (s : HC Ideal) (n : ℕ) (hn : n = 4 * t.val + j.val) (hs : mats s = Spec.fw2 N n) :
    mats (stepTwo (wrow2 (blk1 V c 6 t) 0 h0) (yrow (blk1 V c 0 t) j.val hx) (yrow (blk1 V c 1 t) j.val hy) (krow (blk1 V c 4 t) j.val hk) s) = Spec.fw2 N (n + 1) := by
  have ht : t.val < 64 := Nat.lt_of_lt_of_eq t.isLt N_1
  have hr : (step n).val = 4 * t.val + j.val := by rw [step_of_lt (by omega), hn]
  have hl : liveAt (krow (blk1 V c 4 t) j.val hk) = N.msk (step n) := funext fun b => by
    unfold liveAt
    rw [krow_apply _ j, blk1_4_apply V c t j b _ hr, hV.msk]
  rw [stepTwo_eq _ _ _ _ _ (projB (outF N (step n)) (outB N (step n)) N.wi2f) N.wh2f ?_ ?_, hl, hs, show mat s.1 = (Spec.fw2 N n).1 from congrArg Prod.fst hs]
  · rfl
  · intro b q m
    refine congrArg₂ (· + ·) (Finset.sum_congr rfl fun e _ => ?_) (Finset.sum_congr rfl fun e _ => ?_)
    · rw [yrow_apply _ j, blk1_0_apply V c t j b e _ hr, hV.outF]
      refine congrArg (outF N (step n) b e * ·) ?_
      exact (wrow2_apply _ 0 h0 _ _).trans ((blk1_6_apply V c t _ _ _).trans (hV.wi2f ⟨e.val, by omega⟩ q m))
    · rw [yrow_apply _ j, blk1_1_apply V c t j b e _ hr, hV.outB]
      refine congrArg (outB N (step n) b e * ·) ?_
      exact (wrow2_apply _ 0 h0 _ _).trans ((blk1_6_apply V c t _ _ _).trans (hV.wi2f ⟨512 + e.val, by omega⟩ q m))
  · intro e q m
    exact (wrow2_apply _ 0 h0 _ _).trans ((blk1_6_apply V c t _ _ _).trans (hV.wh2f e q m))

/-- One backward step: row `j` of point `t` is the last time but `4 t + 3 - j`. -/
theorem bw2_step (t : Fin cfg1.N) (j : Fin 4) (h0 hx hy hk) (s : HC Ideal) (n : ℕ) (hn : n = 4 * t.val + (3 - j.val)) (hs : mats s = Spec.bw2 N n) :
    mats (stepTwo (wrow2 (blk1 V c 6 t) 1 h0) (yrow (blk1 V c 2 t) j.val hx) (yrow (blk1 V c 3 t) j.val hy) (krow (blk1 V c 5 t) j.val hk) s) = Spec.bw2 N (n + 1) := by
  have ht : t.val < 64 := Nat.lt_of_lt_of_eq t.isLt N_1
  have hr : (step n).rev.val = 4 * (63 - t.val) + j.val := by rw [step_rev (by omega), hn]; omega
  have hl : liveAt (krow (blk1 V c 5 t) j.val hk) = N.msk (step n).rev := funext fun b => by
    unfold liveAt
    rw [krow_apply _ j, blk1_5_apply V c t j b _ hr, hV.msk]
  rw [stepTwo_eq _ _ _ _ _ (projB (outF N (step n).rev) (outB N (step n).rev) N.wi2b) N.wh2b ?_ ?_, hl, hs, show mat s.1 = (Spec.bw2 N n).1 from congrArg Prod.fst hs]
  · rfl
  · intro b q m
    refine congrArg₂ (· + ·) (Finset.sum_congr rfl fun e _ => ?_) (Finset.sum_congr rfl fun e _ => ?_)
    · rw [yrow_apply _ j, blk1_2_apply V c t j b e _ hr, hV.outF]
      refine congrArg (outF N (step n).rev b e * ·) ?_
      exact (wrow2_apply _ 1 h0 _ _).trans ((blk1_6_apply V c t _ _ _).trans (hV.wi2b ⟨e.val, by omega⟩ q m))
    · rw [yrow_apply _ j, blk1_3_apply V c t j b e _ hr, hV.outB]
      refine congrArg (outB N (step n).rev b e * ·) ?_
      exact (wrow2_apply _ 1 h0 _ _).trans ((blk1_6_apply V c t _ _ _).trans (hV.wi2b ⟨512 + e.val, by omega⟩ q m))
  · intro e q m
    exact (wrow2_apply _ 1 h0 _ _).trans ((blk1_6_apply V c t _ _ _).trans (hV.wh2b e q m))

/-- The forward state a point ends with. -/
theorem fw2_point (t : Fin cfg1.N) (s : HC Ideal) (hs : mats s = Spec.fw2 N (4 * t.val)) :
    mats (fu4 (blk1 V c 0 t) (blk1 V c 1 t) (blk1 V c 4 t) (blk1 V c 6 t) s) = Spec.fw2 N (4 * t.val + 4) := by
  have h1 := fw2_step V c N hV t 0 inb_S2x1536x2048_S1x1536x2048_0_0_0 inb_S4x256x512_S1x256x512_0_0_0 inb_S4x256x512_S1x256x512_0_0_0 inb_S4x256x1_S1x256x1_0_0_0 s _ rfl hs
  have h2 := fw2_step V c N hV t 1 inb_S2x1536x2048_S1x1536x2048_0_0_0 inb_S4x256x512_S1x256x512_1_0_0 inb_S4x256x512_S1x256x512_1_0_0 inb_S4x256x1_S1x256x1_1_0_0 _ _ rfl h1
  have h3 := fw2_step V c N hV t 2 inb_S2x1536x2048_S1x1536x2048_0_0_0 inb_S4x256x512_S1x256x512_2_0_0 inb_S4x256x512_S1x256x512_2_0_0 inb_S4x256x1_S1x256x1_2_0_0 _ _ rfl h2
  exact fw2_step V c N hV t 3 inb_S2x1536x2048_S1x1536x2048_0_0_0 inb_S4x256x512_S1x256x512_3_0_0 inb_S4x256x512_S1x256x512_3_0_0 inb_S4x256x1_S1x256x1_3_0_0 _ _ rfl h3

/-- The backward state a point ends with. -/
theorem bw2_point (t : Fin cfg1.N) (s : HC Ideal) (hs : mats s = Spec.bw2 N (4 * t.val)) :
    mats (bu4 (blk1 V c 2 t) (blk1 V c 3 t) (blk1 V c 5 t) (blk1 V c 6 t) s) = Spec.bw2 N (4 * t.val + 4) := by
  have h1 := bw2_step V c N hV t 3 inb_S2x1536x2048_S1x1536x2048_1_0_0 inb_S4x256x512_S1x256x512_3_0_0 inb_S4x256x512_S1x256x512_3_0_0 inb_S4x256x1_S1x256x1_3_0_0 s _ rfl hs
  have h2 := bw2_step V c N hV t 2 inb_S2x1536x2048_S1x1536x2048_1_0_0 inb_S4x256x512_S1x256x512_2_0_0 inb_S4x256x512_S1x256x512_2_0_0 inb_S4x256x1_S1x256x1_2_0_0 _ _ rfl h1
  have h3 := bw2_step V c N hV t 1 inb_S2x1536x2048_S1x1536x2048_1_0_0 inb_S4x256x512_S1x256x512_1_0_0 inb_S4x256x512_S1x256x512_1_0_0 inb_S4x256x1_S1x256x1_1_0_0 _ _ rfl h2
  exact bw2_step V c N hV t 0 inb_S2x1536x2048_S1x1536x2048_1_0_0 inb_S4x256x512_S1x256x512_0_0_0 inb_S4x256x512_S1x256x512_0_0_0 inb_S4x256x1_S1x256x1_0_0_0 _ _ rfl h3

/-- The states carried into point `n`. -/
theorem fwSt1_eq : ∀ n : ℕ, n ≤ 64 → mats (fwSt1 V c n) = Spec.fw2 N (4 * n)
  | 0, _ => mats_zero
  | n + 1, h => by
    have h' : n < cfg1.N := Nat.lt_of_lt_of_eq h N_1.symm
    rw [fwSt1_succ V c ⟨n, h'⟩, keep_eq]
    exact fw2_point V c N hV ⟨n, h'⟩ _ (fwSt1_eq n (by omega))
theorem bwSt1_eq : ∀ n : ℕ, n ≤ 64 → mats (bwSt1 V c n) = Spec.bw2 N (4 * n)
  | 0, _ => mats_zero
  | n + 1, h => by
    have h' : n < cfg1.N := Nat.lt_of_lt_of_eq h N_1.symm
    rw [bwSt1_succ V c ⟨n, h'⟩, keep_eq]
    exact bw2_point V c N hV ⟨n, h'⟩ _ (bwSt1_eq n (by omega))

/-- The grid's last point. -/
def lastPt : Fin cfg1.N := ⟨63, by rw [show cfg1.N = 64 from N_1]; omega⟩

theorem fw2_last : mats (fu4 (blk1 V c 0 lastPt) (blk1 V c 1 lastPt) (blk1 V c 4 lastPt) (blk1 V c 6 lastPt) (fwSt1 V c lastPt.val)) = Spec.fw2 N 256 :=
  fw2_point V c N hV lastPt _ (fwSt1_eq V c N hV 63 (by omega))
theorem bw2_last : mats (bu4 (blk1 V c 2 lastPt) (blk1 V c 3 lastPt) (blk1 V c 5 lastPt) (blk1 V c 6 lastPt) (bwSt1 V c lastPt.val)) = Spec.bw2 N 256 :=
  bw2_point V c N hV lastPt _ (bwSt1_eq V c N hV 63 (by omega))

section
omit hV
theorem after1_7 (t : Fin cfg1.N) : (dat1 V c).after 7 t = half (fu4 (blk1 V c 0 t) (blk1 V c 1 t) (blk1 V c 4 t) (blk1 V c 6 t) (fwSt1 V c t.val)).1 := by exact rfl
theorem after1_8 (t : Fin cfg1.N) : (dat1 V c).after 8 t = half (bu4 (blk1 V c 2 t) (blk1 V c 3 t) (blk1 V c 5 t) (blk1 V c 6 t) (bwSt1 V c t.val)).1 := by exact rfl
end

/-- The last forward hidden states. -/
theorem arr1_7 (b : Fin 256) (n : Fin 512) : (dat1 V c).arrAt 7 cfg1.N (ix2 b n) = (Spec.fw2 N 256).1 b n := by
  refine ((dat1 V c).arrAt_emb_eq_after_last 7 lastPt (by decide +kernel) (ix2 b n)).trans ?_
  blk_simp
  rw [after1_7]
  exact congrFun (congrFun (congrArg Prod.fst (fw2_last V c N hV)) b) n
/-- The last backward hidden states. -/
theorem arr1_8 (b : Fin 256) (n : Fin 512) : (dat1 V c).arrAt 8 cfg1.N (ix2 b n) = (Spec.bw2 N 256).1 b n := by
  refine ((dat1 V c).arrAt_emb_eq_after_last 8 lastPt (by decide +kernel) (ix2 b n)).trans ?_
  blk_simp
  rw [after1_8]
  exact congrFun (congrFun (congrArg Prod.fst (bw2_last V c N hV)) b) n

end Cert.Proof
end
-- ==== Proof.HeadModel.lean ====
/-
  The dense head's values as functions on reals.
-/
module

public import proofs.«01_k».proof.Proof.Model

@[expose] public section

noncomputable section

namespace Cert.Spec

open Idealize.ShloMosaic

/-- The first rectified layer, of the two last hidden states and the styles' embeddings. -/
def relOne (x y : Mat) (s : Fin 256 → Fin 128 → EReal) (w : Fin 1152 → Fin 1024 → EReal) (b : Fin 1024 → EReal) : Fin 256 → Fin 1024 → EReal := fun r n =>
  max ((((∑ e : Fin 512, x r e * w ⟨e.val, by omega⟩ n) + ∑ e : Fin 512, y r e * w ⟨512 + e.val, by omega⟩ n) + ∑ e : Fin 128, s r e * w ⟨1024 + e.val, by omega⟩ n) + b n) 0
/-- The second rectified layer. -/
def relTwo (x : Fin 256 → Fin 1024 → EReal) (w : Fin 1024 → Fin 512 → EReal) (b : Fin 512 → EReal) : Fin 256 → Fin 512 → EReal := fun r n =>
  max ((∑ e : Fin 1024, x r e * w e n) + b n) 0
/-- The output. -/
def prob (x : Fin 256 → Fin 512 → EReal) (w : Fin 512 → EReal) (b : EReal) : Fin 256 → EReal := fun r =>
  Ideal.logistic ((∑ e : Fin 512, x r e * w e) + b)

end Cert.Spec
end
-- ==== Proof.NetOf.lean ====
/-
  The network's data read off the arguments, and the words that index the tables.
-/
module

public import proofs.«01_k».proof.Proof.Model
public import proofs.«01_k».proof.Proof.HeadModel
public import Idealize.ShloMosaic.Lib.StableHlo.Predicate

@[expose] public section

set_option maxRecDepth 16384

noncomputable section

namespace Cert.Spec

open Idealize.ShloMosaic
open Idealize.ShloMosaic.StableHlo.Predicate

/-- The two layers' data: token rows at the sequences' words, the mask where a word is zero, and the weights. -/
def netOf (q : IVec ⟨2, ![256, 256]⟩ 32) (tbl : (⟨2, ![32000, 512]⟩ : Shape).Idx → EReal) (w4 w5 w7 w8 : (⟨2, ![512, 2048]⟩ : Shape).Idx → EReal)
    (w10 : (⟨2, ![1024, 2048]⟩ : Shape).Idx → EReal) (w11 : (⟨2, ![512, 2048]⟩ : Shape).Idx → EReal) (w13 : (⟨2, ![1024, 2048]⟩ : Shape).Idx → EReal) (w14 : (⟨2, ![512, 2048]⟩ : Shape).Idx → EReal) : Net where
  tok t b e := tbl (ix2 ⟨min (q (ix2 b t)).toInt.toNat 31999, by omega⟩ e)
  msk t b := IntOp.cmpi .ne (q (ix2 b t)) 0#32
  wi1f e n := w4 (ix2 e n)
  wh1f e n := w5 (ix2 e n)
  wi1b e n := w7 (ix2 e n)
  wh1b e n := w8 (ix2 e n)
  wi2f e n := w10 (ix2 e n)
  wh2f e n := w11 (ix2 e n)
  wi2b e n := w13 (ix2 e n)
  wh2b e n := w14 (ix2 e n)

/-- A word that is not negative is not counted from the end. -/
theorem wrap_word {a : BitVec 32} (h : a.toNat < 2 ^ 31) (x : BitVec 32) : Scalar.select (IntOp.cmpi .slt a 0#32) x a = a := by
  have hn : ¬ IntOp.cmpi .slt a 0#32 = 1#1 := fun e => by
    have := (slt_iff_toNat h (by decide)).1 e
    simp at this
  unfold Scalar.select
  exact if_neg hn

/-- A word in `[0, n)` as a signed word is below `n`. -/
theorem lt_of_range {a b : BitVec 32} (hb : b.toNat < 2 ^ 31) (h : IntOp.andi (IntOp.cmpi .sge a 0#32) (IntOp.cmpi .slt a b) = 1#1) : a.toNat < b.toNat := by
  obtain ⟨h0, h1⟩ : IntOp.cmpi .sge a 0#32 = 1#1 ∧ IntOp.cmpi .slt a b = 1#1 := by
    revert h
    generalize IntOp.cmpi .sge a 0#32 = x
    generalize IntOp.cmpi .slt a b = y
    revert x y
    unfold IntOp.andi
    decide
  unfold IntOp.cmpi at h0 h1
  simp only [ofBool_eq_one_iff, BitVec.sle, BitVec.slt, decide_eq_true_eq] at h0 h1
  have : a.toNat < 2 ^ 31 := by
    rw [BitVec.toInt_eq_toNat_cond (x := a)] at h0
    have := a.isLt
    have z : (0#32 : BitVec 32).toInt = 0 := rfl
    rw [z] at h0
    split at h0 <;> omega
  rw [toInt_eq_toNat_of_lt this, toInt_eq_toNat_of_lt hb] at h1
  omega

/-- The style rows: the table's row at each style word. -/
def styAt (q : IVec ⟨1, ![256]⟩ 32) (t : (⟨2, ![10, 128]⟩ : Shape).Idx → EReal) (r : Fin 256) (e : Fin 128) : EReal :=
  t (ix2 ⟨min (q (ix1 r)).toNat 9, by omega⟩ e)

/-- The whole answer: the dense head at the second layer's last states and the style rows. -/
def answer (N : Net) (q : IVec ⟨1, ![256]⟩ 32) (t : (⟨2, ![10, 128]⟩ : Shape).Idx → EReal) (w : (⟨2, ![1152, 1024]⟩ : Shape).Idx → EReal) (b : (⟨1, ![1024]⟩ : Shape).Idx → EReal)
    (w2 : (⟨2, ![1024, 512]⟩ : Shape).Idx → EReal) (b2 : (⟨1, ![512]⟩ : Shape).Idx → EReal) (w3 : (⟨2, ![512, 1]⟩ : Shape).Idx → EReal) (b3 : (⟨1, ![1]⟩ : Shape).Idx → EReal) : Fin 256 → EReal :=
  prob (relTwo (relOne (fw2 N 256).1 (bw2 N 256).1 (styAt q t) (fun e n => w (ix2 e n)) (fun n => b (ix1 n))) (fun e n => w2 (ix2 e n)) (fun n => b2 (ix1 n))) (fun e => w3 (ix2 e 0)) (b3 (ix1 0))

end Cert.Spec
end
-- ==== Proof.KerValue.lean ====
/-
  What the kernel program leaves before its head: the two layers as scans of the arguments.
-/
module

public import proofs.«01_k».proof.Proof.HostReads
public import proofs.«01_k».proof.Proof.ScanTwoValue
public import proofs.«01_k».proof.Proof.NetOf
public import proofs.«01_k».proof.Proof.KernelRun
public import Idealize.ShloMosaic.Lib.ReduceAll

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.StableHlo Idealize.ShloMosaic.StableHlo.Predicate
open Cert.Spec

/-- The row numbers at an index: the word itself when it is in range. -/
theorem wrapIdx_apply (q : Vec Ideal S256x256 .i32) (hq : ∀ i, (q i).toNat < 32000) (i j : Fin 256) : wrapIdx (F := Ideal) q (ix3 i j 0) = q (ix2 i j) := by
  have h : wrapIdx (F := Ideal) q (ix3 i j 0) = Scalar.select (IntOp.cmpi .slt (q (ix2 i j)) 0#32) (IntOp.addi (q (ix2 i j)) 32000#32) (q (ix2 i j)) := by
    pointwise [wrapIdx]
  exact h.trans (wrap_word ((hq _).trans (by decide)) _)

/-- A row number in range names a row. -/
theorem inTable_at (q : Vec Ideal S256x256 .i32) (hq : ∀ i, (q i).toNat < 32000) (i j : Fin 256) : inTable (F := Ideal) (wrapIdx (F := Ideal) q) (ix3 i j 0) = 1#1 := by
  have h : inTable (F := Ideal) (wrapIdx (F := Ideal) q) (ix3 i j 0) = IntOp.andi (IntOp.cmpi .sge (wrapIdx (F := Ideal) q (ix3 i j 0)) 0#32) (IntOp.cmpi .sle (wrapIdx (F := Ideal) q (ix3 i j 0)) 31999#32) := by
    pointwise [inTable]
  rw [h, wrapIdx_apply q hq]
  have hw := hq (ix2 i j)
  rw [(sge_iff_toNat (by omega) (by decide)).2 (Nat.zero_le _), (sle_iff_toNat (by omega) (by decide)).2 (by show _ ≤ 31999; omega)]
  rfl
theorem inTable_one (q : Vec Ideal S256x256 .i32) (hq : ∀ i, (q i).toNat < 32000) (p : S256x256x1.Idx) : inTable (F := Ideal) (wrapIdx (F := Ideal) q) p = 1#1 := by
  have hp : p = ix3 (p 0) (p 1) 0 := funext fun a => by
    match a with
    | ⟨0, _⟩ => rfl
    | ⟨1, _⟩ => rfl
    | ⟨2, _⟩ => exact Subsingleton.elim (α := Fin 1) _ _
  exact (congrArg (inTable (F := Ideal) (wrapIdx (F := Ideal) q)) hp).trans (inTable_at q hq (p 0) (p 1))

/-- The token rows at an index. -/
theorem takeRows_apply (t : Vec Ideal S32000x512 .f32) (q : Vec Ideal S256x256 .i32) (hq : ∀ i, (q i).toNat < 32000) (i j : Fin 256) (e : Fin 512) :
    takeRows t q (ix3 i j e) = t (ix2 ⟨min (q (ix2 i j)).toInt.toNat 31999, by omega⟩ e) := by
  have hr : (broadcastInDim S256x256x512 ![0, 1] bcast_S256x256_S256x256x512_0_1 (Host.reduce IntOp.andi (inTable (F := Ideal) (wrapIdx (F := Ideal) q)) (constantI S_ 1 1#1) reducesTo_S256x256x1_S256x256_d2 h_S_) : IVec S256x256x512 1) (ix3 i j e) = 1#1 :=
    Host.reduce_andi_one _ _ _ _ _ rfl (inTable_one q hq)
  have hg : (Host.gather gather_S32000x512_S256x256x1_S256x256x512_2_0_n_n_0_2_1512 t (wrapIdx (F := Ideal) q) : Vec Ideal S256x256x512 .f32) (ix3 i j e) = t (ix2 ⟨min (wrapIdx (F := Ideal) q (ix3 i j 0)).toInt.toNat 31999, by omega⟩ e) :=
    rows_at (N := 32000) (by decide) gather_S32000x512_S256x256x1_S256x256x512_2_0_n_n_0_2_1512.wf t (wrapIdx (F := Ideal) q) i j e
  have hs : takeRows t q (ix3 i j e) = Scalar.select ((broadcastInDim S256x256x512 ![0, 1] bcast_S256x256_S256x256x512_0_1 (Host.reduce IntOp.andi (inTable (F := Ideal) (wrapIdx (F := Ideal) q)) (constantI S_ 1 1#1) reducesTo_S256x256x1_S256x256_d2 h_S_) : IVec S256x256x512 1) (ix3 i j e))
      ((Host.gather gather_S32000x512_S256x256x1_S256x256x512_2_0_n_n_0_2_1512 t (wrapIdx (F := Ideal) q) : Vec Ideal S256x256x512 .f32) (ix3 i j e)) ((broadcastInDim S256x256x512 ![] bcast_S_S256x256x512 (constant (F := Ideal) S_ .f32 0x7FC00000#32) : Vec Ideal S256x256x512 .f32) (ix3 i j e)) := rfl
  rw [hs, hr, hg, show Scalar.select (1#1 : BitVec 1) _ _ = _ from if_pos rfl]
  simp only [wrapIdx_apply q hq]

variable (m : (ℓ : Loc nD τ sig) → Buf (Elt Ideal) ℓ) (c : Dev nD)

/-- An argument's launch contents. -/
abbrev at0 (r : Ref sig .tc) : Buf (Elt Ideal) ((c.tc : Thread nD τ).loc r) := m ((c.tc : Thread nD τ).loc r)

/-- The two layers' data of a launch. -/
def knet : Net := netOf (at0 m c main_arg0) (at0 m c main_arg2) (at0 m c main_arg4) (at0 m c main_arg5) (at0 m c main_arg7) (at0 m c main_arg8) (at0 m c main_arg10) (at0 m c main_arg11) (at0 m c main_arg13) (at0 m c main_arg14)

theorem V2_arg (r : Ref sig .tc) (h1 : r ∉ hostOps0_W) (h2 : r ∉ hostOps0_1_W) : V2 m c r = at0 m c r :=
  (V2_of m c r h2).trans (V1_of m c r h1)
theorem V3_v1 : V3 m c main_v1 = takeRows (at0 m c main_arg2) (transpose S256x256 [1, 0] (at0 m c main_arg0 : Vec Ideal S256x256 .i32) transposes_S256x256_S256x256_1_0 : Vec Ideal S256x256 .i32) :=
  (V3_of m c main_v1 (by decide)).trans ((read_v1 (V1 m c)).trans (congrArg₂ takeRows (V1_of m c main_arg2 (by decide)) (read_v0 (V0 m c))))
theorem V3_v2 : V3 m c main_v2 = (shapeCast S256x256x1 (transpose S256x256 [1, 0] (at0 m c main_arg0 : Vec Ideal S256x256 .i32) transposes_S256x256_S256x256_1_0 : Vec Ideal S256x256 .i32) shapeCasts_S256x256_S256x256x1 : Vec Ideal S256x256x1 .i32) :=
  (read_v2 (V2 m c)).trans (congrArg (fun q : Vec Ideal S256x256 .i32 => (shapeCast S256x256x1 q shapeCasts_S256x256_S256x256x1 : Vec Ideal S256x256x1 .i32)) ((V2_of m c main_v0 (by decide)).trans (read_v0 (V0 m c))))
theorem V3_v13 : V3 m c main_v13 = wcatOne (F := Ideal) (at0 m c main_arg4) (at0 m c main_arg5) (at0 m c main_arg7) (at0 m c main_arg8) := by
  refine (read_v13 (V2 m c)).trans ?_
  rw [V2_arg m c main_arg4 (by decide) (by decide), V2_arg m c main_arg5 (by decide) (by decide), V2_arg m c main_arg7 (by decide) (by decide), V2_arg m c main_arg8 (by decide) (by decide)]
theorem V3_v24 : V3 m c main_v24 = wcatTwo (F := Ideal) (at0 m c main_arg10) (at0 m c main_arg11) (at0 m c main_arg13) (at0 m c main_arg14) := by
  refine (read_v24 (V2 m c)).trans ?_
  rw [V2_arg m c main_arg10 (by decide) (by decide), V2_arg m c main_arg11 (by decide) (by decide), V2_arg m c main_arg13 (by decide) (by decide), V2_arg m c main_arg14 (by decide) (by decide)]

theorem v2_word (q : Vec Ideal S256x256 .i32) (t b : Fin 256) :
    (shapeCast S256x256x1 (transpose S256x256 [1, 0] q transposes_S256x256_S256x256_1_0 : Vec Ideal S256x256 .i32) shapeCasts_S256x256_S256x256x1 : Vec Ideal S256x256x1 .i32) (ix3 t b 0) = q (ix2 b t) := by
  pointwise []

/-- The mask word the calls read. -/
theorem msk_read (t b : Fin 256) : IntOp.cmpi .ne ((W3 m c main_v2 : Vec Ideal S256x256x1 .i32) (ix3 t b 0)) 0#32 = (knet m c).msk t b := by
  unfold W3
  rw [V3_v2, v2_word]
  rfl

theorem tok_read (hq : ∀ i, ((at0 m c main_arg0 : Vec Ideal S256x256 .i32) i).toNat < 32000) (t b : Fin 256) (e : Fin 512) : (W3 m c main_v1 : Vec Ideal S256x256x512 .f32) (ix3 t b e) = (knet m c).tok t b e := by
  unfold W3
  rw [V3_v1]
  have hT : ∀ p, (transpose S256x256 [1, 0] (at0 m c main_arg0 : Vec Ideal S256x256 .i32) transposes_S256x256_S256x256_1_0 : Vec Ideal S256x256 .i32) p = (at0 m c main_arg0 : Vec Ideal S256x256 .i32) (ix2 (p 1) (p 0)) := fun p => by
    pointwise []
  have hT' : ∀ p, ((transpose S256x256 [1, 0] (at0 m c main_arg0 : Vec Ideal S256x256 .i32) transposes_S256x256_S256x256_1_0 : Vec Ideal S256x256 .i32) p).toNat < 32000 := fun p => by
    rw [hT]; exact hq _
  refine (takeRows_apply _ _ hT' t b e).trans ?_
  simp only [hT]
  exact rfl

section
variable (e : Fin 512) (q : Fin 4) (n : Fin 512)
theorem w1_if : (W3 m c main_v13 : Vec Ideal S2x1024x2048 .fp8e4m3) (ix3 0 ⟨e.val, by omega⟩ (kcol q n)) = (knet m c).wi1f e (col q n) := by
  unfold W3; rw [V3_v13]; exact wcatOne_if _ _ _ _ e q n
theorem w1_hf : (W3 m c main_v13 : Vec Ideal S2x1024x2048 .fp8e4m3) (ix3 0 ⟨512 + e.val, by omega⟩ (kcol q n)) = (knet m c).wh1f e (col q n) := by
  unfold W3; rw [V3_v13]; exact wcatOne_hf _ _ _ _ e q n
theorem w1_ib : (W3 m c main_v13 : Vec Ideal S2x1024x2048 .fp8e4m3) (ix3 1 ⟨e.val, by omega⟩ (kcol q n)) = (knet m c).wi1b e (col q n) := by
  unfold W3; rw [V3_v13]; exact wcatOne_ib _ _ _ _ e q n
theorem w1_hb : (W3 m c main_v13 : Vec Ideal S2x1024x2048 .fp8e4m3) (ix3 1 ⟨512 + e.val, by omega⟩ (kcol q n)) = (knet m c).wh1b e (col q n) := by
  unfold W3; rw [V3_v13]; exact wcatOne_hb _ _ _ _ e q n
end

/-- The first-layer call's inputs hold the first layer's data. -/
theorem holds_one (hq : ∀ i, ((at0 m c main_arg0 : Vec Ideal S256x256 .i32) i).toNat < 32000) : Holds (fun b => W3 m c b) (knet m c) :=
  ⟨tok_read m c hq, msk_read m c, w1_if m c, w1_hf m c, w1_ib m c, w1_hb m c⟩

theorem W4_v24 : W4 m c main_v24 = wcatTwo (F := Ideal) (at0 m c main_arg10) (at0 m c main_arg11) (at0 m c main_arg13) (at0 m c main_arg14) :=
  (W4_of m c main_v24 (by decide)).trans (V3_v24 m c)

theorem msk_read2 (t b : Fin 256) : IntOp.cmpi .ne ((W4 m c main_v2 : Vec Ideal S256x256x1 .i32) (ix3 t b 0)) 0#32 = (knet m c).msk t b := by
  rw [W4_of m c main_v2 (by decide)]; exact msk_read m c t b

theorem out_f (hq : ∀ i, ((at0 m c main_arg0 : Vec Ideal S256x256 .i32) i).toNat < 32000) (t b : Fin 256) (e : Fin 512) : (W4 m c main_v25_0 : Vec Ideal S256x256x512 .bf16) (ix3 t b e) = outF (knet m c) t b e := by
  rw [W4_main_v25_0, arr0_5 _ c (knet m c) (holds_one m c hq)]; exact rfl
theorem out_b (hq : ∀ i, ((at0 m c main_arg0 : Vec Ideal S256x256 .i32) i).toNat < 32000) (t b : Fin 256) (e : Fin 512) : (W4 m c main_v25_1 : Vec Ideal S256x256x512 .bf16) (ix3 t b e) = outB (knet m c) t b e := by
  rw [W4_main_v25_1, arr0_6 _ c (knet m c) (holds_one m c hq)]; exact rfl

section
variable (e : Fin 512) (r : Fin 1024) (q : Fin 4) (n : Fin 512)
theorem w2_if : (W4 m c main_v24 : Vec Ideal S2x1536x2048 .fp8e4m3) (ix3 0 ⟨r.val, by omega⟩ (kcol q n)) = (knet m c).wi2f r (col q n) := by
  rw [W4_v24]; exact wcatTwo_if (q := q) (n := n) (r := r) ..
theorem w2_hf : (W4 m c main_v24 : Vec Ideal S2x1536x2048 .fp8e4m3) (ix3 0 ⟨1024 + e.val, by omega⟩ (kcol q n)) = (knet m c).wh2f e (col q n) := by
  rw [W4_v24]; exact wcatTwo_hf (q := q) (n := n) (e := e) ..
theorem w2_ib : (W4 m c main_v24 : Vec Ideal S2x1536x2048 .fp8e4m3) (ix3 1 ⟨r.val, by omega⟩ (kcol q n)) = (knet m c).wi2b r (col q n) := by
  rw [W4_v24]; exact wcatTwo_ib (q := q) (n := n) (r := r) ..
theorem w2_hb : (W4 m c main_v24 : Vec Ideal S2x1536x2048 .fp8e4m3) (ix3 1 ⟨1024 + e.val, by omega⟩ (kcol q n)) = (knet m c).wh2b e (col q n) := by
  rw [W4_v24]; exact wcatTwo_hb (q := q) (n := n) (e := e) ..
end

/-- The second-layer call's inputs hold the second layer's data. -/
theorem holds_two (hq : ∀ i, ((at0 m c main_arg0 : Vec Ideal S256x256 .i32) i).toNat < 32000) : Holds2 (fun b => W4 m c b) (knet m c) :=
  ⟨out_f m c hq, out_b m c hq, msk_read2 m c, w2_if m c, w2_hf m c, w2_ib m c, w2_hb m c⟩

/-- The second layer's last states. -/
theorem last_two (hq : ∀ i, ((at0 m c main_arg0 : Vec Ideal S256x256 .i32) i).toNat < 32000) (b : Fin 256) (n : Fin 512) :
    (W5 m c main_v26_0 : Vec Ideal S256x512 .bf16) (ix2 b n) = (Spec.fw2 (knet m c) 256).1 b n ∧ (W5 m c main_v26_1 : Vec Ideal S256x512 .bf16) (ix2 b n) = (Spec.bw2 (knet m c) 256).1 b n :=
  ⟨(congrFun (W5_main_v26_0 m c) _).trans (arr1_7 (fun c b => W4 m c b) c (knet m c) (holds_two m c hq) b n),
    (congrFun (W5_main_v26_1 m c) _).trans (arr1_8 (fun c b => W4 m c b) c (knet m c) (holds_two m c hq) b n)⟩

end Cert.Proof
end
-- ==== Proof.KerHead.lean ====
/-
  The head kernel's payload, read at a row.
-/
module

public import proofs.«01_k».proof.Proof.HeadBody
public import proofs.«01_k».proof.Proof.HeadModel
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe
open Cert.Spec

theorem pay1_apply (v : FVec Ideal S256x512 .f32) (b : Vec Ideal S1x512 .f32) (w : Vec Ideal S512x128 .bf16) (z : Vec Ideal S1x1 .f32) (r : Fin 256) :
    k2_pay1 v b w z (ix2 r 0) = prob (fun r n => max (v (ix2 r n) + b (ix2 0 n)) 0) (fun e => w (ix2 e 0)) (z (ix2 0 0)) r := by
  unfold prob
  pointwise [k2_pay1]

/-- Which row of the padded style table a style picks. -/
def pick (q : Vec Ideal S256x1 .i32) (t : Vec Ideal S16x128 .bf16) (r : Fin 256) (e : Fin 128) : EReal :=
  ∑ k : Fin 16, Scalar.select (IntOp.cmpi .eq (q (ix2 r 0)) (BitVec.ofNat 32 k.val)) (t (ix2 k e)) 0

theorem pay2_apply (x y : Vec Ideal S256x512 .bf16) (q : Vec Ideal S256x1 .i32) (t : Vec Ideal S16x128 .bf16) (w : Vec Ideal S1024x1024 .bf16) (u : Vec Ideal S128x1024 .bf16) (b : Vec Ideal S1x1024 .f32) (w2 : Vec Ideal S1024x512 .bf16)
    (W : Fin 1152 → Fin 1024 → EReal) (hw : ∀ (e : Fin 1024) n, w (ix2 e n) = W ⟨e.val, by omega⟩ n) (hu : ∀ (e : Fin 128) n, u (ix2 e n) = W ⟨1024 + e.val, by omega⟩ n) (r : Fin 256) (n : Fin 512) :
    k2_pay2 x y q t w u b w2 (ix2 r n) = ∑ m : Fin 1024, relOne (fun r e => x (ix2 r e)) (fun r e => y (ix2 r e)) (pick q t) W (fun n => b (ix2 0 n)) r m * w2 (ix2 m n) := by
  unfold relOne pick
  pointwise [k2_pay2]
  simp only [hw, hu]

/-- A style in range picks its own row. -/
theorem pick_eq (q : Vec Ideal S256x1 .i32) (t : Vec Ideal S16x128 .bf16) (r : Fin 256) (e : Fin 128) (k : Fin 16) (hk : q (ix2 r 0) = BitVec.ofNat 32 k.val) : pick q t r e = t (ix2 k e) := by
  unfold pick
  rw [Finset.sum_eq_single k]
  · rw [hk]; simp [Scalar.select, IntOp.cmpi]
  · intro j _ hj
    rw [hk]
    have : BitVec.ofNat 32 k.val ≠ BitVec.ofNat 32 j.val := fun h => hj (Fin.ext (by
      have := congrArg BitVec.toNat h
      simp only [BitVec.toNat_ofNat] at this
      omega))
    show Scalar.select (BitVec.ofBool (BitVec.ofNat 32 k.val == BitVec.ofNat 32 j.val)) _ _ = _
    rw [beq_eq_false_iff_ne.2 this]
    rfl
  · intro h; exact absurd (Finset.mem_univ _) h

/-- The head kernel's result at a row. -/
theorem headOut_apply (x y : Vec Ideal S256x512 .bf16) (q : Vec Ideal S256x1 .i32) (t : Vec Ideal S16x128 .bf16) (w : Vec Ideal S1024x1024 .bf16) (u : Vec Ideal S128x1024 .bf16) (b : Vec Ideal S1x1024 .f32) (w2 : Vec Ideal S1024x512 .bf16)
    (b2 : Vec Ideal S1x512 .f32) (w3 : Vec Ideal S512x128 .bf16) (b3 : Vec Ideal S1x1 .f32)
    (W : Fin 1152 → Fin 1024 → EReal) (hw : ∀ (e : Fin 1024) n, w (ix2 e n) = W ⟨e.val, by omega⟩ n) (hu : ∀ (e : Fin 128) n, u (ix2 e n) = W ⟨1024 + e.val, by omega⟩ n) (r : Fin 256) :
    headOut x y q t w u b w2 b2 w3 b3 (ix2 r 0) = prob (relTwo (relOne (fun r e => x (ix2 r e)) (fun r e => y (ix2 r e)) (pick q t) W (fun n => b (ix2 0 n))) (fun e n => w2 (ix2 e n)) (fun n => b2 (ix2 0 n))) (fun e => w3 (ix2 e 0)) (b3 (ix2 0 0)) r := by
  unfold headOut
  rw [pay1_apply]
  unfold relTwo
  simp only [pay2_apply x y q t w u b w2 W hw hu]

end Cert.Proof
end
-- ==== Proof.KerResult.lean ====
/-
  The head call's result: the head of the whole arrays its windows are on.
-/
module

public import proofs.«01_k».proof.Proof.KerValue
public import proofs.«01_k».proof.Proof.KerHead
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.StableHlo Idealize.ShloMosaic.StableHlo.Predicate
open Idealize.ShloMosaic.Pipeline (Dat Cfg Window)
open Cert.Spec

/-! ## The head call's windows are whole arrays -/

section
variable (V : (c : Dev nD) → (b : Ref sig .tc) → Buf (Elt Ideal) ((c : Thread nD τ).loc b)) (c : Dev nD) (t : Fin cfg2.N)

theorem blk2_0 : (blk2 V c 0 t : Vec Ideal S256x512 .bf16) = (V c main_v26_0 : Vec Ideal S256x512 .bf16) := by
  funext p
  blk_simp [blk2]
  refine congrArg (V c main_v26_0) ?_
  blk_ext [show ∀ a, win2_0.index t a = 0 from fun _ => rfl]
theorem blk2_1 : (blk2 V c 1 t : Vec Ideal S256x512 .bf16) = (V c main_v26_1 : Vec Ideal S256x512 .bf16) := by
  funext p
  blk_simp [blk2]
  refine congrArg (V c main_v26_1) ?_
  blk_ext [show ∀ a, win2_1.index t a = 0 from fun _ => rfl]
theorem blk2_2 : (blk2 V c 2 t : Vec Ideal S256x1 .i32) = (V c main_v35 : Vec Ideal S256x1 .i32) := by
  funext p
  blk_simp [blk2]
  refine congrArg (V c main_v35) ?_
  blk_ext [show ∀ a, win2_2.index t a = 0 from fun _ => rfl]
theorem blk2_3 : (blk2 V c 3 t : Vec Ideal S16x128 .bf16) = (V c main_v30 : Vec Ideal S16x128 .bf16) := by
  funext p
  blk_simp [blk2]
  refine congrArg (V c main_v30) ?_
  blk_ext [show ∀ a, win2_3.index t a = 0 from fun _ => rfl]
theorem blk2_4 : (blk2 V c 4 t : Vec Ideal S1024x1024 .bf16) = (V c main_v37 : Vec Ideal S1024x1024 .bf16) := by
  funext p
  blk_simp [blk2]
  refine congrArg (V c main_v37) ?_
  blk_ext [show ∀ a, win2_4.index t a = 0 from fun _ => rfl]
theorem blk2_5 : (blk2 V c 5 t : Vec Ideal S128x1024 .bf16) = (V c main_v39 : Vec Ideal S128x1024 .bf16) := by
  funext p
  blk_simp [blk2]
  refine congrArg (V c main_v39) ?_
  blk_ext [show ∀ a, win2_5.index t a = 0 from fun _ => rfl]
theorem blk2_6 : (blk2 V c 6 t : Vec Ideal S1x1024 .f32) = (V c main_v40 : Vec Ideal S1x1024 .f32) := by
  funext p
  blk_simp [blk2]
  refine congrArg (V c main_v40) ?_
  blk_ext [show ∀ a, win2_6.index t a = 0 from fun _ => rfl]
theorem blk2_7 : (blk2 V c 7 t : Vec Ideal S1024x512 .bf16) = (V c main_v41 : Vec Ideal S1024x512 .bf16) := by
  funext p
  blk_simp [blk2]
  refine congrArg (V c main_v41) ?_
  blk_ext [show ∀ a, win2_7.index t a = 0 from fun _ => rfl]
theorem blk2_8 : (blk2 V c 8 t : Vec Ideal S1x512 .f32) = (V c main_v42 : Vec Ideal S1x512 .f32) := by
  funext p
  blk_simp [blk2]
  refine congrArg (V c main_v42) ?_
  blk_ext [show ∀ a, win2_8.index t a = 0 from fun _ => rfl]
theorem blk2_9 : (blk2 V c 9 t : Vec Ideal S512x128 .bf16) = (V c main_v34 : Vec Ideal S512x128 .bf16) := by
  funext p
  blk_simp [blk2]
  refine congrArg (V c main_v34) ?_
  blk_ext [show ∀ a, win2_9.index t a = 0 from fun _ => rfl]
theorem blk2_10 : (blk2 V c 10 t : Vec Ideal S1x1 .f32) = (V c main_v43 : Vec Ideal S1x1 .f32) := by
  funext p
  blk_simp [blk2]
  refine congrArg (V c main_v43) ?_
  blk_ext [show ∀ a, win2_10.index t a = 0 from fun _ => rfl]

theorem after2_11 : (dat2 V c).after 11 t = headOut (V c main_v26_0) (V c main_v26_1) (V c main_v35) (V c main_v30) (V c main_v37) (V c main_v39) (V c main_v40) (V c main_v41) (V c main_v42) (V c main_v34) (V c main_v43) := by
  dsimp only [dat2]
  rw [blk2_0, blk2_1, blk2_2, blk2_3, blk2_4, blk2_5, blk2_6, blk2_7, blk2_8, blk2_9, blk2_10]

/-- The head call's one point. -/
def pt2 : Fin cfg2.N := ⟨0, by decide +kernel⟩

/-- The head call's result at a row. -/
theorem arr2_11 (r : Fin 256) : (dat2 V c).arrAt 11 cfg2.N (ix2 r 0) = headOut (V c main_v26_0) (V c main_v26_1) (V c main_v35) (V c main_v30) (V c main_v37) (V c main_v39) (V c main_v40) (V c main_v41) (V c main_v42) (V c main_v34) (V c main_v43) (ix2 r 0) := by
  refine Eq.trans ?_ (congrFun (after2_11 V c pt2) (ix2 r 0))
  refine ((dat2 V c).arrAt_emb_eq_after_last 11 pt2 (by decide +kernel) (ix2 r 0)).trans ?_
  blk_simp
end

end Cert.Proof
end
-- ==== Proof.KerAnswer.lean ====
/-
  The kernel program's result as a function of the arguments.
-/
module

public import proofs.«01_k».proof.Proof.KerResult

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.StableHlo Idealize.ShloMosaic.StableHlo.Predicate
open Cert.Spec

/-! ## The head's prepared operands at an index -/

theorem styPad_apply (t : Vec Ideal S10x128 .f32) (k : Fin 16) (j : Fin 10) (e : Fin 128) (h : j.val = k.val) : styPad t (ix2 k e) = t (ix2 j e) := by
  have h0 : styPad t (ix2 k e) = (Host.scatter scatter_S16x128_S1_S10x128_01_n_0_0 (fun _ b => b) (broadcastInDim S16x128 ![] bcast_S_S16x128 (constant (F := Ideal) S_ .f32 0x00000000#32)) (broadcastInDim S1 ![] bcast_S_S1 (constantI S_ 32 0#32)) t : Vec Ideal S16x128 .f32) (ix2 k e) := rfl
  exact h0.trans (pad_hit _ rfl rfl _ (fun _ => rfl) _ t j e k e h rfl)
theorem outPad_apply (t : Vec Ideal S512x1 .f32) (e : Fin 512) : outPad t (ix2 e 0) = t (ix2 e 0) := by
  have h0 : outPad t (ix2 e 0) = (Host.scatter scatter_S512x128_S1_S512x1_01_n_1_0 (fun _ b => b) (broadcastInDim S512x128 ![] bcast_S_S512x128 (constant (F := Ideal) S_ .f32 0x00000000#32)) (broadcastInDim S1 ![] bcast_S_S1 (constantI S_ 32 0#32)) t : Vec Ideal S512x128 .f32) (ix2 e 0) := rfl
  exact h0.trans (pad_hit _ rfl rfl _ (fun _ => rfl) _ t e 0 e 0 rfl rfl)

/-- A style in range picks its row of the table. -/
theorem pick_sty (q : Vec Ideal S256 .i32) (hq : ∀ i, (q i).toNat < 10) (t : Vec Ideal S10x128 .f32) (r : Fin 256) (e : Fin 128) :
    pick (shapeCast S256x1 q shapeCasts_S256_S256x1 : Vec Ideal S256x1 .i32) (styPad t) r e = styAt q t r e := by
  have h := hq (ix1 r)
  have hw : (shapeCast S256x1 q shapeCasts_S256_S256x1 : Vec Ideal S256x1 .i32) (ix2 r 0) = q (ix1 r) := by
    pointwise []
  rw [pick_eq _ _ r e ⟨(q (ix1 r)).toNat, by omega⟩ (hw.trans (BitVec.eq_of_toNat_eq (by rw [BitVec.toNat_ofNat]; exact (Nat.mod_eq_of_lt (by omega)).symm))),
    styPad_apply t _ ⟨min (q (ix1 r)).toNat 9, by omega⟩ e (by show min (q (ix1 r)).toNat 9 = (q (ix1 r)).toNat; omega)]
  rfl

/-- The head of its prepared operands. -/
theorem head_at (x y : Vec Ideal S256x512 .bf16) (q : Vec Ideal S256 .i32) (hq : ∀ i, (q i).toNat < 10) (t : Vec Ideal S10x128 .f32) (w : Vec Ideal S1152x1024 .f32) (b : Vec Ideal S1024 .f32) (w2 : Vec Ideal S1024x512 .f32)
    (b2 : Vec Ideal S512 .f32) (w3 : Vec Ideal S512x1 .f32) (b3 : Vec Ideal S1 .f32) (r : Fin 256) :
    headOut x y (shapeCast S256x1 q shapeCasts_S256_S256x1 : Vec Ideal S256x1 .i32) (styPad t) (truncf (F := Ideal) (φ := .f32) .bf16 (extractStridedSlice S1024x1024 ![0, 0] w slices_S1152x1024_S1024x1024_0_0) bitsLt_bf16_f32 : Vec Ideal S1024x1024 .bf16)
      (truncf (F := Ideal) (φ := .f32) .bf16 (extractStridedSlice S128x1024 ![1024, 0] w slices_S1152x1024_S128x1024_1024_0) bitsLt_bf16_f32 : Vec Ideal S128x1024 .bf16) (shapeCast S1x1024 b shapeCasts_S1024_S1x1024 : Vec Ideal S1x1024 .f32)
      (truncf (F := Ideal) (φ := .f32) .bf16 w2 bitsLt_bf16_f32 : Vec Ideal S1024x512 .bf16) (shapeCast S1x512 b2 shapeCasts_S512_S1x512 : Vec Ideal S1x512 .f32) (outPad w3) (shapeCast S1x1 b3 shapeCasts_S1_S1x1 : Vec Ideal S1x1 .f32) (ix2 r 0)
    = prob (relTwo (relOne (fun r e => x (ix2 r e)) (fun r e => y (ix2 r e)) (styAt q t) (fun e n => w (ix2 e n)) (fun n => b (ix1 n))) (fun e n => w2 (ix2 e n)) (fun n => b2 (ix1 n))) (fun e => w3 (ix2 e 0)) (b3 (ix1 0)) r := by
  have hw : ∀ (e : Fin 1024) n, (truncf (F := Ideal) (φ := .f32) .bf16 (extractStridedSlice S1024x1024 ![0, 0] w slices_S1152x1024_S1024x1024_0_0) bitsLt_bf16_f32 : Vec Ideal S1024x1024 .bf16) (ix2 e n) = (fun (e : Fin 1152) (n : Fin 1024) => w (ix2 e n)) ⟨e.val, by omega⟩ n := fun e n => by
    pointwise []
  have hu : ∀ (e : Fin 128) n, (truncf (F := Ideal) (φ := .f32) .bf16 (extractStridedSlice S128x1024 ![1024, 0] w slices_S1152x1024_S128x1024_1024_0) bitsLt_bf16_f32 : Vec Ideal S128x1024 .bf16) (ix2 e n) = (fun (e : Fin 1152) (n : Fin 1024) => w (ix2 e n)) ⟨1024 + e.val, by omega⟩ n := fun e n => by
    pointwise []
  have hb : (fun n => (shapeCast S1x1024 b shapeCasts_S1024_S1x1024 : Vec Ideal S1x1024 .f32) (ix2 0 n)) = fun n => b (ix1 n) := funext fun n => by pointwise []
  have hb2 : (fun n => (shapeCast S1x512 b2 shapeCasts_S512_S1x512 : Vec Ideal S1x512 .f32) (ix2 0 n)) = fun n => b2 (ix1 n) := funext fun n => by pointwise []
  have hb3 : (shapeCast S1x1 b3 shapeCasts_S1_S1x1 : Vec Ideal S1x1 .f32) (ix2 0 0) = b3 (ix1 0) := by pointwise []
  have hp : pick (shapeCast S256x1 q shapeCasts_S256_S256x1 : Vec Ideal S256x1 .i32) (styPad t) = styAt q t := funext fun r => funext fun e => pick_sty q hq t r e
  have ho : (fun e => outPad w3 (ix2 e 0)) = fun e => w3 (ix2 e 0) := funext fun e => outPad_apply w3 e
  refine (headOut_apply _ _ _ _ _ _ _ _ _ _ _ (fun (e : Fin 1152) (n : Fin 1024) => w (ix2 e n)) hw hu r).trans ?_
  rw [hb, hb2, hb3, hp, ho]
  rfl

variable (m : (ℓ : Loc nD τ sig) → Buf (Elt Ideal) ℓ) (c : Dev nD)

/-- An argument at the head's host stretch. -/
theorem W5_arg (r : Ref sig .tc) (h1 : r ∉ hostOps0_W) (h2 : r ∉ hostOps0_1_W) (h3 : r ∉ hostOps0_2_W) (h4 : r ∉ ([main_v25_0, main_v25_1] : List (Ref sig .tc))) (h5 : r ∉ ([main_v26_0, main_v26_1] : List (Ref sig .tc))) : W5 m c r = at0 m c r :=
  (W5_of m c r h5).trans ((W4_of m c r h4).trans ((V3_of m c r h3).trans (V2_arg m c r h1 h2)))

/-- The kernel program's result at a row. -/
theorem ker_answer (hq : ∀ i, ((at0 m c main_arg0 : Vec Ideal S256x256 .i32) i).toNat < 32000) (hs : ∀ i, ((at0 m c main_arg1 : Vec Ideal S256 .i32) i).toNat < 10) (r : Fin 256) :
    (W7 m c main_v44 : Vec Ideal S256x1 .f32) (ix2 r 0) = answer (knet m c) (at0 m c main_arg1) (at0 m c main_arg3) (at0 m c main_arg16) (at0 m c main_arg17) (at0 m c main_arg18) (at0 m c main_arg19) (at0 m c main_arg20) (at0 m c main_arg21) r := by
  have a1 := W5_arg m c main_arg1 (by decide) (by decide) (by decide) (by decide) (by decide)
  have a3 := W5_arg m c main_arg3 (by decide) (by decide) (by decide) (by decide) (by decide)
  have a16 := W5_arg m c main_arg16 (by decide) (by decide) (by decide) (by decide) (by decide)
  have a17 := W5_arg m c main_arg17 (by decide) (by decide) (by decide) (by decide) (by decide)
  have a18 := W5_arg m c main_arg18 (by decide) (by decide) (by decide) (by decide) (by decide)
  have a19 := W5_arg m c main_arg19 (by decide) (by decide) (by decide) (by decide) (by decide)
  have a20 := W5_arg m c main_arg20 (by decide) (by decide) (by decide) (by decide) (by decide)
  have a21 := W5_arg m c main_arg21 (by decide) (by decide) (by decide) (by decide) (by decide)
  have x0 : W6 m c main_v26_0 = W5 m c main_v26_0 := after_of_writes_sub hostOps2 _ hostOps2_writes (by decide)
  have x1 : W6 m c main_v26_1 = W5 m c main_v26_1 := after_of_writes_sub hostOps2 _ hostOps2_writes (by decide)
  rw [W7_main_v44]
  refine (arr2_11 (fun c b => W6 m c b) c r).trans ?_
  show headOut (W6 m c main_v26_0) (W6 m c main_v26_1) (W6 m c main_v35) (W6 m c main_v30) (W6 m c main_v37) (W6 m c main_v39) (W6 m c main_v40) (W6 m c main_v41) (W6 m c main_v42) (W6 m c main_v34) (W6 m c main_v43) (ix2 r 0) = _
  rw [x0, x1]
  unfold W6
  rw [read_v35, read_v30, read_v37, read_v39, read_v40, read_v41, read_v42, read_v34, read_v43, a1, a3, a16, a17, a18, a19, a20, a21]
  refine (head_at _ _ (at0 m c main_arg1) hs (at0 m c main_arg3) (at0 m c main_arg16) (at0 m c main_arg17) (at0 m c main_arg18) (at0 m c main_arg19) (at0 m c main_arg20) (at0 m c main_arg21) r).trans ?_
  have hf : (fun (r : Fin 256) (e : Fin 512) => (W5 m c main_v26_0 : Vec Ideal S256x512 .bf16) (ix2 r e)) = (Spec.fw2 (knet m c) 256).1 := funext fun b => funext fun n => (last_two m c hq b n).1
  have hb : (fun (r : Fin 256) (e : Fin 512) => (W5 m c main_v26_1 : Vec Ideal S256x512 .bf16) (ix2 r e)) = (Spec.bw2 (knet m c) 256).1 := funext fun b => funext fun n => (last_two m c hq b n).2
  rw [hf, hb]
  rfl

end Cert.Proof
end
-- ==== Proof.RefOps.lean ====
/-
  The reference program's operations, read off its text: the operation lists of the four loops' bodies and conditions, and
  the program itself as a list of stretches and loops.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunHlo
public import Idealize.ShloMosaic.Lib.StableHlo.RunRead

@[expose] public section

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open Idealize.SL.Sem
open Idealize.ShloMosaic.StableHlo

variable {F : FTy → Type} [FloatOps F]

/-- The programs of the reference. -/
abbrev Pg (F : FTy → Type) [FloatOps F] := Prog (TpuEff nD τ sig (Elt F) (HostLoop.Sig (Pipeline.Sig Λ₀ (Fin 0) fun p => (pcfgs (F := F) p).Adm) 4) .tc) PUnit

/-- One item of the program: a stretch of operations, or one of the four loops. -/
inductive Item (F : FTy → Type) where
  | ops (l : List (HloOp τ sig (Elt F)))
  | loop (j : Fin 4)

/-- An item as a program. -/
def Item.prog : Item F → Pg F
  | .ops l => seq l
  | .loop j => HostLoop.enter j

/-- `p` runs the items in order. -/
def Is (p : Pg F) (items : List (Item F)) : Prop := p = Pipeline.chain (items.map Item.prog)

theorem chain_append : ∀ (a b : List (Pg F)), Pipeline.chain (a ++ b) = (Pipeline.chain a >>= fun _ => Pipeline.chain b)
  | [], _ => rfl
  | p :: a, b => by
    show (p >>= fun _ => Pipeline.chain (a ++ b)) = ((p >>= fun _ => Pipeline.chain a) >>= fun _ => Pipeline.chain b)
    rw [chain_append a b]; exact (Prog.bind_assoc _ _ _).symm

theorem Is.nil : Is (F := F) (pure ⟨⟩) [.ops []] := rfl

theorem Is.last {op : HloOp τ sig (Elt F)} : Is (F := F) (hlo rfl op fun _ => .ret (⟨⟩ : PUnit)) [.ops [op]] := rfl

theorem Is.op {op : HloOp τ sig (Elt F)} {k : Pg F} {l : List (HloOp τ sig (Elt F))} {r : List (Item F)} (h : Is k (.ops l :: r)) :
    Is ((hlo rfl op fun _ => .ret (⟨⟩ : PUnit)) >>= fun _ => k) (.ops (op :: l) :: r) := by
  unfold Is at h ⊢; rw [h]; rfl

theorem Is.enter {j : Fin 4} {k : Pg F} {r : List (Item F)} (h : Is k r) : Is (HostLoop.enter j >>= fun _ => k) (.ops [] :: .loop j :: r) := by
  unfold Is at h ⊢; rw [h]; rfl

theorem seq_append : ∀ (a b : List (HloOp τ sig (Elt F))), (seq (a ++ b) : Pg F) = (seq a >>= fun _ => seq b)
  | [], _ => rfl
  | op :: a, b => by
    show ((hlo rfl op fun _ => .ret (⟨⟩ : PUnit)) >>= fun _ => seq (a ++ b)) = (((hlo rfl op fun _ => .ret (⟨⟩ : PUnit)) >>= fun _ => seq a) >>= fun _ => seq b)
    rw [seq_append a b, bind_assoc]

theorem Is.call {p k : Pg F} {l l' : List (HloOp τ sig (Elt F))} {r : List (Item F)} (hp : IsSeq p l) (h : Is k (.ops l' :: r)) :
    Is (p >>= fun _ => k) (.ops (l ++ l') :: r) := by
  unfold Is at h ⊢; unfold IsSeq at hp; rw [h, hp]
  show _ = (seq (l ++ l') >>= fun _ => _)
  rw [seq_append, bind_assoc]; rfl

theorem Is.append {p q : Pg F} {a b : List (Item F)} (hp : Is p a) (hq : Is q b) : Is (p >>= fun _ => q) (a ++ b) := by
  unfold Is at *; rw [List.map_append, chain_append, ← hp, ← hq]

/-! ## The called functions -/

def indexOps (a b φ) : {l // IsSeq (fn_dynamic_index_in_dim.body (F := F) a b φ) l} := by apply Subtype.mk; unfold fn_dynamic_index_in_dim.body; hlo_seq
def index0Ops (a b φ) : {l // IsSeq (fn_dynamic_index_in_dim_0.body (F := F) a b φ) l} := by apply Subtype.mk; unfold fn_dynamic_index_in_dim_0.body; hlo_seq
def whereOps (a b c φ) : {l // IsSeq (fn_where.body (F := F) a b c φ) l} := by apply Subtype.mk; unfold fn_where.body; hlo_seq
def updateOps (a b c φ) : {l // IsSeq (fn_dynamic_update_index_in_dim.body (F := F) a b c φ) l} := by apply Subtype.mk; unfold fn_dynamic_update_index_in_dim.body; hlo_seq
def reluOps (a φ) : {l // IsSeq (fn_relu.body (F := F) a φ) l} := by apply Subtype.mk; unfold fn_relu.body; hlo_seq
def relu1Ops (a φ) : {l // IsSeq (fn_relu_1.body (F := F) a φ) l} := by apply Subtype.mk; unfold fn_relu_1.body; hlo_seq

/-! ## The loops' bodies -/

set_option maxRecDepth 20000

/-- The body of loop `j`. -/
def bodyP : Fin 4 → Pg F
  | 0 => main_while0_body
  | 1 => main_while1_body
  | 2 => main_while2_body
  | 3 => main_while3_body

def body0 : {l : List (HloOp τ sig (Elt F)) // Is (bodyP 0) [.ops l]} := by
  apply Subtype.mk
  unfold bodyP main_while0_body
  repeat (first | exact Is.nil | apply Is.op | apply Is.call (indexOps _ _ _).2 | apply Is.call (index0Ops _ _ _).2 | apply Is.call (whereOps _ _ _ _).2 | apply Is.call (updateOps _ _ _ _).2)
def body1 : {l : List (HloOp τ sig (Elt F)) // Is (bodyP 1) [.ops l]} := by
  apply Subtype.mk
  unfold bodyP main_while1_body
  repeat (first | exact Is.nil | apply Is.op | apply Is.call (indexOps _ _ _).2 | apply Is.call (index0Ops _ _ _).2 | apply Is.call (whereOps _ _ _ _).2 | apply Is.call (updateOps _ _ _ _).2)
def body2 : {l : List (HloOp τ sig (Elt F)) // Is (bodyP 2) [.ops l]} := by
  apply Subtype.mk
  unfold bodyP main_while2_body
  repeat (first | exact Is.nil | apply Is.op | apply Is.call (indexOps _ _ _).2 | apply Is.call (index0Ops _ _ _).2 | apply Is.call (whereOps _ _ _ _).2 | apply Is.call (updateOps _ _ _ _).2)
def body3 : {l : List (HloOp τ sig (Elt F)) // Is (bodyP 3) [.ops l]} := by
  apply Subtype.mk
  unfold bodyP main_while3_body
  repeat (first | exact Is.nil | apply Is.op | apply Is.call (indexOps _ _ _).2 | apply Is.call (index0Ops _ _ _).2 | apply Is.call (whereOps _ _ _ _).2 | apply Is.call (updateOps _ _ _ _).2)

/-! ## The program -/

def part0 (c : Dev nD) : {l : List (Item F) // Is (main_part0 c) l} := by
  apply Subtype.mk
  unfold main_part0
  repeat (first | exact Is.nil | exact Is.last | apply Is.op | apply Is.enter)
def part1 (c : Dev nD) : {l : List (Item F) // Is (main_part1 c) l} := by
  apply Subtype.mk
  unfold main_part1
  repeat (first | exact Is.nil | exact Is.last | apply Is.op | apply Is.enter | apply Is.call (reluOps _ _).2 | apply Is.call (relu1Ops _ _).2)
def part2 (c : Dev nD) : {l : List (Item F) // Is (main_part2 c) l} := by
  apply Subtype.mk
  unfold main_part2
  repeat (first | exact Is.nil | exact Is.last | apply Is.op)

theorem main_is (c : Dev nD) : Is (main (F := F) c) ((part0 c).1 ++ ((part1 c).1 ++ (part2 c).1)) := by
  unfold main
  exact (part0 c).2.append ((part1 c).2.append (part2 c).2)

/-! ## What the lists write -/

theorem writes_cons {op : HloOp τ sig (Elt F)} {w : Ref sig .tc} {l : List (HloOp τ sig (Elt F))} {W : List (Ref sig .tc)}
    (h : op.writes = {Proc.devRef (τ := τ) .tc w}) (t : l.map HloOp.writes = W.map fun w => {Proc.devRef (τ := τ) .tc w}) :
    (op :: l).map HloOp.writes = (w :: W).map fun w => {Proc.devRef (τ := τ) .tc w} := by
  rw [List.map_cons, List.map_cons, h, t]

theorem writes_nil : ([] : List (HloOp τ sig (Elt F))).map HloOp.writes = ([] : List (Ref sig .tc)).map fun w => {Proc.devRef (τ := τ) .tc w} := rfl

/-- The references the bodies write. -/
def bodyW0 : {W : List (Ref sig .tc) // ∀ (F : FTy → Type) [FloatOps F], (body0 (F := F)).1.map HloOp.writes = W.map fun w => {Proc.devRef (τ := τ) .tc w}} := by
  apply Subtype.mk; intro F _; repeat (first | exact writes_nil | apply writes_cons rfl)
def bodyW1 : {W : List (Ref sig .tc) // ∀ (F : FTy → Type) [FloatOps F], (body1 (F := F)).1.map HloOp.writes = W.map fun w => {Proc.devRef (τ := τ) .tc w}} := by
  apply Subtype.mk; intro F _; repeat (first | exact writes_nil | apply writes_cons rfl)
def bodyW2 : {W : List (Ref sig .tc) // ∀ (F : FTy → Type) [FloatOps F], (body2 (F := F)).1.map HloOp.writes = W.map fun w => {Proc.devRef (τ := τ) .tc w}} := by
  apply Subtype.mk; intro F _; repeat (first | exact writes_nil | apply writes_cons rfl)
def bodyW3 : {W : List (Ref sig .tc) // ∀ (F : FTy → Type) [FloatOps F], (body3 (F := F)).1.map HloOp.writes = W.map fun w => {Proc.devRef (τ := τ) .tc w}} := by
  apply Subtype.mk; intro F _; repeat (first | exact writes_nil | apply writes_cons rfl)

end Cert.RefRun
-- ==== Proof.RefLoops.lean ====
/-
  The four loops of the reference by number: their bodies, conditions, carried buffers, and one round of each.
-/
module

public import proofs.«01_k».proof.Proof.RefOps
public import Idealize.ShloMosaic.Lib.Pipeline.Regions
public import Idealize.ShloMosaic.Lib.Pipeline.Frame
public import Idealize.ShloMosaic.Lib.StableHlo.RunLoop
public import Idealize.ShloMosaic.Lib.StableHlo.RunHlo
public import Idealize.ShloMosaic.Lib.StableHlo.RunRead

@[expose] public section

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open Idealize.SL.Sem
open Idealize.ShloMosaic.StableHlo

variable {F : FTy → Type} [FloatOps F]

/-! ## The loops, by number -/

/-- The operations of the body of loop `j`. -/
def bodyOps : Fin 4 → List (HloOp τ sig (Elt F))
  | 0 => body0.1
  | 1 => body1.1
  | 2 => body2.1
  | 3 => body3.1

/-- What the body of loop `j` writes. -/
def bodyW : Fin 4 → List (Ref sig .tc)
  | 0 => bodyW0.1
  | 1 => bodyW1.1
  | 2 => bodyW2.1
  | 3 => bodyW3.1

theorem body_is : ∀ j : Fin 4, Is (F := F) (bodyP j) [.ops (bodyOps j)]
  | 0 => body0.2
  | 1 => body1.2
  | 2 => body2.2
  | 3 => body3.2

theorem bodyOps_writes : ∀ j : Fin 4, (bodyOps (F := F) j).map HloOp.writes = (bodyW j).map fun w => {Proc.devRef (τ := τ) .tc w}
  | 0 => bodyW0.2 F
  | 1 => bodyW1.2 F
  | 2 => bodyW2.2 F
  | 3 => bodyW3.2 F

/-- The condition of loop `j`, as a program and as its two operations. -/
def condP : Fin 4 → Prog (TpuEff nD τ sig (Elt F) (HostLoop.Sig (Pipeline.Sig Λ₀ (Fin 0) fun p => (pcfgs (F := F) p).Adm) 4) .tc) (Elt F .i1)
  | 0 => main_while0_cond
  | 1 => main_while1_cond
  | 2 => main_while2_cond
  | 3 => main_while3_cond

/-- The carried buffers of a loop, and the two of its condition. -/
structure LoopRefs where
  zx : TRef sig ⟨S256x256x2048, .f32⟩
  msk : TRef sig ⟨S256x256, .i1⟩
  wh : TRef sig ⟨S512x2048, .f32⟩
  ctr : TRef sig ⟨S_, .i32⟩
  h : TRef sig ⟨S256x512, .f32⟩
  c : TRef sig ⟨S256x512, .f32⟩
  ys : TRef sig ⟨S256x256x512, .f32⟩
  bnd : TRef sig ⟨S_, .i32⟩
  ans : TRef sig ⟨S_, .i1⟩
  rz : TRef sig ⟨S256x2048, .f32⟩
  rm : TRef sig ⟨S256, .i1⟩
  hn : TRef sig ⟨S256x512, .f32⟩
  cn : TRef sig ⟨S256x512, .f32⟩

def refs : Fin 4 → LoopRefs
  | 0 => ⟨.of main_v17_0, .of main_v17_1, .of main_v17_2, .of main_v17_3, .of main_v17_4, .of main_v17_5, .of main_v17_6, .of main_while0c_c_23, .of main_while0c_v84, .of main_while0b_v84, .of main_while0b_v85, .of main_while0b_v117, .of main_while0b_v118⟩
  | 1 => ⟨.of main_v29_0, .of main_v29_1, .of main_v29_2, .of main_v29_3, .of main_v29_4, .of main_v29_5, .of main_v29_6, .of main_while1c_c_23, .of main_while1c_v84, .of main_while1b_v84, .of main_while1b_v85, .of main_while1b_v117, .of main_while1b_v118⟩
  | 2 => ⟨.of main_v41_0, .of main_v41_1, .of main_v41_2, .of main_v41_3, .of main_v41_4, .of main_v41_5, .of main_v41_6, .of main_while2c_c_23, .of main_while2c_v84, .of main_while2b_v84, .of main_while2b_v85, .of main_while2b_v117, .of main_while2b_v118⟩
  | 3 => ⟨.of main_v53_0, .of main_v53_1, .of main_v53_2, .of main_v53_3, .of main_v53_4, .of main_v53_5, .of main_v53_6, .of main_while3c_c_23, .of main_while3c_v84, .of main_while3b_v84, .of main_while3b_v85, .of main_while3b_v117, .of main_while3b_v118⟩

/-- The bound put down, then the counter compared with it. -/
abbrev bndOp (r : LoopRefs) : HloOp τ sig (Elt F) := TRef.nullary r.bnd (constantI S_ 32 256#32)
abbrev ansOp (r : LoopRefs) : HloOp τ sig (Elt F) := TRef.binary r.ctr r.bnd r.ans (cmpi .slt)

def condOps (j : Fin 4) : List (HloOp τ sig (Elt F)) := [bndOp (refs j), ansOp (refs j)]

theorem condP_eq : ∀ j : Fin 4, condP (F := F) j = (do
    hlo rfl (bndOp (refs j)) (fun _ => .ret ⟨⟩)
    let x ← hlo rfl (ansOp (refs j)) (HostLoop.elt (refs j).ans.ref (refs j).ans.ty_eq)
    pure x)
  | 0 => rfl
  | 1 => rfl
  | 2 => rfl
  | 3 => rfl

/-! ## One round's values -/

/-- What a buffer holds, at its own type. -/
abbrev rd {T : BufTy} (V : Valuation τ sig (Elt F)) (t : TRef sig T) : T.Contents (Elt F) := t.ofBuf (V (Proc.devRef .tc t.ref))

/-- Row `i` of the projected inputs, and of the mask. -/
def rowZ (x : (⟨S256x256x2048, .f32⟩ : BufTy).Contents (Elt F)) (i : BitVec 32) : (⟨S256x2048, .f32⟩ : BufTy).Contents (Elt F) :=
  shapeCast S256x2048 (Host.dynamicSlice S1x256x2048 x ![i.toInt, 0, 0] sliceFits_S256x256x2048_S1x256x2048) shapeCasts_S1x256x2048_S256x2048
def rowM (x : (⟨S256x256, .i1⟩ : BufTy).Contents (Elt F)) (i : BitVec 32) : (⟨S256, .i1⟩ : BufTy).Contents (Elt F) :=
  shapeCast S256 (Host.dynamicSlice S1x256 x ![i.toInt, 0] sliceFits_S256x256_S1x256) shapeCasts_S1x256_S256

/-- The logistic function as the reference writes it. -/
def lgs (x : (⟨S256x512, .f32⟩ : BufTy).Contents (Elt F)) : (⟨S256x512, .f32⟩ : BufTy).Contents (Elt F) :=
  Host.divf (broadcastInDim S256x512 ![] bcast_S_S256x512 (constant S_ .f32 0x3F800000#32))
    (addf (broadcastInDim S256x512 ![] bcast_S_S256x512 (constant S_ .f32 0x3F800000#32)) (Host.exp (Host.negf x)))

/-- The gates before their nonlinearities. -/
def zOf (x : (⟨S256x2048, .f32⟩ : BufTy).Contents (Elt F)) (w : (⟨S512x2048, .f32⟩ : BufTy).Contents (Elt F)) (h : (⟨S256x512, .f32⟩ : BufTy).Contents (Elt F)) :
    (⟨S256x2048, .f32⟩ : BufTy).Contents (Elt F) :=
  addf x (Host.dotGeneral dot_S256x512_S512x2048_S256x2048_1_0_0_1_n_n none h w)

/-- The new cell state, unmasked. -/
def cRaw (z : (⟨S256x2048, .f32⟩ : BufTy).Contents (Elt F)) (c : (⟨S256x512, .f32⟩ : BufTy).Contents (Elt F)) : (⟨S256x512, .f32⟩ : BufTy).Contents (Elt F) :=
  addf (mulf (lgs (extractStridedSlice S256x512 ![0, 512] z slices_S256x2048_S256x512_0_512)) c)
    (mulf (lgs (extractStridedSlice S256x512 ![0, 0] z slices_S256x2048_S256x512_0_0)) (Host.tanh (extractStridedSlice S256x512 ![0, 1024] z slices_S256x2048_S256x512_0_1024)))

/-- The mask over a state. -/
def mkOf (k : (⟨S256, .i1⟩ : BufTy).Contents (Elt F)) : (⟨S256x512, .i1⟩ : BufTy).Contents (Elt F) :=
  broadcastInDim S256x512 ![0, 1] bcast_S256x1_S256x512_0_1 (broadcastInDim S256x1 ![0] bcast_S256_S256x1_0 k)

/-- One round's cell state and hidden state. -/
def cNew (z : (⟨S256x2048, .f32⟩ : BufTy).Contents (Elt F)) (k : (⟨S256, .i1⟩ : BufTy).Contents (Elt F)) (c : (⟨S256x512, .f32⟩ : BufTy).Contents (Elt F)) :
    (⟨S256x512, .f32⟩ : BufTy).Contents (Elt F) := select (mkOf k) (cRaw z c) c
def hNew (z : (⟨S256x2048, .f32⟩ : BufTy).Contents (Elt F)) (k : (⟨S256, .i1⟩ : BufTy).Contents (Elt F)) (c h : (⟨S256x512, .f32⟩ : BufTy).Contents (Elt F)) :
    (⟨S256x512, .f32⟩ : BufTy).Contents (Elt F) :=
  select (mkOf k) (mulf (lgs (extractStridedSlice S256x512 ![0, 1536] z slices_S256x2048_S256x512_0_1536)) (Host.tanh (cRaw z c))) h

/-- The outputs with row `i` put in. -/
def ysPut (ys : (⟨S256x256x512, .f32⟩ : BufTy).Contents (Elt F)) (h : (⟨S256x512, .f32⟩ : BufTy).Contents (Elt F)) (i : BitVec 32) :
    (⟨S256x256x512, .f32⟩ : BufTy).Contents (Elt F) :=
  Host.dynamicUpdateSlice ys (broadcastInDim S1x256x512 ![1, 2] bcast_S256x512_S1x256x512_1_2 h) ![i.toInt, 0, 0] updateFits_S256x256x512_S1x256x512

variable (V : Valuation τ sig (Elt F))

theorem at0 (x : (⟨S_, .i32⟩ : BufTy).Contents (Elt F)) (q q' : Shape.Idx S_) : BitVec.toInt (x q) = BitVec.toInt (x q') :=
  congrArg (fun q => BitVec.toInt (x q)) (funext fun a => a.elim0)

theorem rowZ_of (x : (⟨S256x256x2048, .f32⟩ : BufTy).Contents (Elt F)) (f : Fin 3 → ℤ) (i : BitVec 32) (h : ∀ k, f k = (![i.toInt, 0, 0] : Fin 3 → ℤ) k) :
    shapeCast S256x2048 (Host.dynamicSlice S1x256x2048 x f sliceFits_S256x256x2048_S1x256x2048) shapeCasts_S1x256x2048_S256x2048 = rowZ x i := by
  rw [funext h]; rfl
theorem rowM_of (x : (⟨S256x256, .i1⟩ : BufTy).Contents (Elt F)) (f : Fin 2 → ℤ) (i : BitVec 32) (h : ∀ k, f k = (![i.toInt, 0] : Fin 2 → ℤ) k) :
    shapeCast S256 (Host.dynamicSlice S1x256 x f sliceFits_S256x256_S1x256) shapeCasts_S1x256_S256 = rowM x i := by
  rw [funext h]; rfl
theorem ysPut_of (ys : (⟨S256x256x512, .f32⟩ : BufTy).Contents (Elt F)) (h : (⟨S256x512, .f32⟩ : BufTy).Contents (Elt F)) (f : Fin 3 → ℤ) (i : BitVec 32)
    (hf : ∀ k, f k = (![i.toInt, 0, 0] : Fin 3 → ℤ) k) :
    Host.dynamicUpdateSlice ys (broadcastInDim S1x256x512 ![1, 2] bcast_S256x512_S1x256x512_1_2 h) f updateFits_S256x256x512_S1x256x512 = ysPut ys h i := by
  rw [funext hf]; rfl

/-- The row reads, then the rest of the body. -/
theorem pre_z : ∀ j, rd (after ((bodyOps j).take 7) V) (refs j).rz = rowZ (rd V (refs j).zx) (rd V (refs j).ctr HostLoop.idx0)
  | 0 | 1 | 2 | 3 => by
    dsimp only [refs, bodyOps, rd]
    after_reads_simp
    refine rowZ_of (F := F) _ _ _ fun k => ?_
    match k with
    | 0 => after_reads_simp; exact at0 (F := F) _ _ _
    | 1 => after_reads_simp; rfl
    | 2 => after_reads_simp; rfl

theorem pre_m : ∀ j, rd (after ((bodyOps j).take 7) V) (refs j).rm = rowM (rd V (refs j).msk) (rd V (refs j).ctr HostLoop.idx0)
  | 0 | 1 | 2 | 3 => by
    dsimp only [refs, bodyOps, rd]
    after_reads_simp
    refine rowM_of (F := F) _ _ _ fun k => ?_
    match k with
    | 0 => after_reads_simp; exact at0 (F := F) _ _ _
    | 1 => after_reads_simp; rfl

theorem pre_keep : ∀ j, rd (after ((bodyOps j).take 7) V) (refs j).wh = rd V (refs j).wh ∧ rd (after ((bodyOps j).take 7) V) (refs j).h = rd V (refs j).h
    ∧ rd (after ((bodyOps j).take 7) V) (refs j).c = rd V (refs j).c ∧ rd (after ((bodyOps j).take 7) V) (refs j).ys = rd V (refs j).ys
    ∧ rd (after ((bodyOps j).take 7) V) (refs j).ctr = rd V (refs j).ctr
  | 0 | 1 | 2 | 3 => by
    dsimp only [refs, bodyOps, rd]
    refine ⟨?_, ?_, ?_, ?_, ?_⟩ <;> after_reads_simp

theorem mid_h : ∀ j, rd (after (((bodyOps j).drop 7).take 41) V) (refs j).hn = hNew (zOf (rd V (refs j).rz) (rd V (refs j).wh) (rd V (refs j).h)) (rd V (refs j).rm) (rd V (refs j).c) (rd V (refs j).h)
  | 0 | 1 | 2 | 3 => by
    dsimp only [refs, bodyOps, rd]
    after_reads_simp
    rfl

theorem mid_c : ∀ j, rd (after (((bodyOps j).drop 7).take 41) V) (refs j).cn = cNew (zOf (rd V (refs j).rz) (rd V (refs j).wh) (rd V (refs j).h)) (rd V (refs j).rm) (rd V (refs j).c)
  | 0 | 1 | 2 | 3 => by
    dsimp only [refs, bodyOps, rd]
    after_reads_simp
    rfl

theorem mid_keep : ∀ j, rd (after (((bodyOps j).drop 7).take 41) V) (refs j).ys = rd V (refs j).ys ∧ rd (after (((bodyOps j).drop 7).take 41) V) (refs j).ctr = rd V (refs j).ctr
  | 0 | 1 | 2 | 3 => by
    dsimp only [refs, bodyOps, rd]
    refine ⟨?_, ?_⟩ <;> after_reads_simp

theorem post_h : ∀ j, rd (after (((bodyOps j).drop 7).drop 41) V) (refs j).h = rd V (refs j).hn
  | 0 | 1 | 2 | 3 => by
    dsimp only [refs, bodyOps, rd]
    after_reads_simp
    rfl

theorem post_c : ∀ j, rd (after (((bodyOps j).drop 7).drop 41) V) (refs j).c = rd V (refs j).cn
  | 0 | 1 | 2 | 3 => by
    dsimp only [refs, bodyOps, rd]
    after_reads_simp
    rfl

theorem post_ys : ∀ j, rd (after (((bodyOps j).drop 7).drop 41) V) (refs j).ys = ysPut (rd V (refs j).ys) (rd V (refs j).hn) (rd V (refs j).ctr HostLoop.idx0)
  | 0 | 1 | 2 | 3 => by
    dsimp only [refs, bodyOps, rd]
    after_reads_simp
    refine ysPut_of (F := F) _ _ _ _ fun k => ?_
    match k with
    | 0 => after_reads_simp; exact at0 (F := F) _ _ _
    | 1 => after_reads_simp; rfl
    | 2 => after_reads_simp; rfl

theorem post_ctr : ∀ j, rd (after (((bodyOps j).drop 7).drop 41) V) (refs j).ctr = addi (rd V (refs j).ctr) (constantI S_ 32 1#32)
  | 0 | 1 | 2 | 3 => by
    dsimp only [refs, bodyOps, rd]
    after_reads_simp
    rfl

theorem body_split (j : Fin 4) : after (bodyOps j) V = after (((bodyOps j).drop 7).drop 41) (after (((bodyOps j).drop 7).take 41) (after ((bodyOps j).take 7) V)) := by
  rw [← StableHlo.after_append, ← StableHlo.after_append, List.take_append_drop, List.take_append_drop]

/-! One round. -/

/-- The gates of the round at counter `i`. -/
abbrev zAt (j : Fin 4) : (⟨S256x2048, .f32⟩ : BufTy).Contents (Elt F) := zOf (rowZ (rd V (refs j).zx) (rd V (refs j).ctr HostLoop.idx0)) (rd V (refs j).wh) (rd V (refs j).h)

theorem body_h (j : Fin 4) : rd (after (bodyOps j) V) (refs j).h = hNew (zAt V j) (rowM (rd V (refs j).msk) (rd V (refs j).ctr HostLoop.idx0)) (rd V (refs j).c) (rd V (refs j).h) := by
  rw [body_split, post_h, mid_h, pre_z, pre_m, (pre_keep V j).1, (pre_keep V j).2.1, (pre_keep V j).2.2.1]
theorem body_c (j : Fin 4) : rd (after (bodyOps j) V) (refs j).c = cNew (zAt V j) (rowM (rd V (refs j).msk) (rd V (refs j).ctr HostLoop.idx0)) (rd V (refs j).c) := by
  rw [body_split, post_c, mid_c, pre_z, pre_m, (pre_keep V j).1, (pre_keep V j).2.1, (pre_keep V j).2.2.1]
theorem body_ys (j : Fin 4) : rd (after (bodyOps j) V) (refs j).ys
    = ysPut (rd V (refs j).ys) (hNew (zAt V j) (rowM (rd V (refs j).msk) (rd V (refs j).ctr HostLoop.idx0)) (rd V (refs j).c) (rd V (refs j).h)) (rd V (refs j).ctr HostLoop.idx0) := by
  rw [body_split, post_ys, mid_h, (mid_keep _ j).1, (mid_keep _ j).2, pre_z, pre_m, (pre_keep V j).1, (pre_keep V j).2.1, (pre_keep V j).2.2.1, (pre_keep V j).2.2.2.1, (pre_keep V j).2.2.2.2]
theorem body_ctr (j : Fin 4) : rd (after (bodyOps j) V) (refs j).ctr = addi (rd V (refs j).ctr) (constantI S_ 32 1#32) := by
  rw [body_split, post_ctr, (mid_keep _ j).2, (pre_keep V j).2.2.2.2]

/-- A reference neither list writes is left alone. -/
theorem body_keep (j : Fin 4) (r : Ref sig .tc) (h : r ∉ bodyW j) : after (bodyOps j) V (Proc.devRef .tc r) = V (Proc.devRef .tc r) :=
  after_unwritten _ (bodyOps_writes j) h V

theorem cond_keep (j : Fin 4) (r : Ref sig .tc) (h : r ∉ [(refs j).bnd.ref, (refs j).ans.ref]) : after (condOps j) V (Proc.devRef .tc r) = V (Proc.devRef .tc r) :=
  after_unwritten [(refs j).bnd.ref, (refs j).ans.ref] rfl h V

end Cert.RefRun
-- ==== Proof.RefRun.lean ====
/-
  The run of the reference: its stretches and loops as segments, what every buffer holds at the end, and that the
  arguments are left alone.
-/
module

public import proofs.«01_k».proof.Proof.RefLoops
public import proofs.«01_k».proof.Defs
public import Idealize.ShloMosaic.Lib.Scf.ExitTest
public import Idealize.ShloMosaic.Lib.Scf.Counter
public import Idealize.ShloMosaic.Lib.Tactic

@[expose] public section

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## Plain lists of operations -/

/-- Every operation touches TensorCore references only and makes no buffer of its own. -/
def PlainOps (l : List (HloOp τ sig (Elt F))) : Prop := (∀ op ∈ l, op.bufs ⊆ tcRefs τ sig) ∧ ∀ op ∈ l, op.fresh = ∅

theorem PlainOps.nil : PlainOps (F := F) [] := ⟨fun _ h => (nomatch h), fun _ h => (nomatch h)⟩
theorem PlainOps.cons {op : HloOp τ sig (Elt F)} {l : List (HloOp τ sig (Elt F))} (h : op.bufs ⊆ tcRefs τ sig) (hf : op.fresh = ∅) (t : PlainOps l) :
    PlainOps (op :: l) := ⟨List.forall_mem_cons.2 ⟨h, t.1⟩, List.forall_mem_cons.2 ⟨hf, t.2⟩⟩
theorem PlainOps.append {a b : List (HloOp τ sig (Elt F))} (ha : PlainOps a) (hb : PlainOps b) : PlainOps (a ++ b) :=
  ⟨fun op h => (List.mem_append.1 h).elim (ha.1 op) (hb.1 op), fun op h => (List.mem_append.1 h).elim (ha.2 op) (hb.2 op)⟩
theorem PlainOps.plain {l : List (HloOp τ sig (Elt F))} (h : PlainOps l) : Plain [l] := fun o ho => by
  rw [List.mem_singleton.1 ho]; exact h

set_option maxHeartbeats 1000000 in
set_option maxRecDepth 20000 in
theorem body_plain : ∀ j : Fin 4, PlainOps (F := F) (bodyOps j)
  | 0 | 1 | 2 | 3 => by
    dsimp only [bodyOps]
    repeat (first | exact PlainOps.nil | refine PlainOps.cons (by simp only [TRef.nullary, TRef.unary, TRef.binary, TRef.ternary, TRef.reshape, TRef.unaryIndexed, TRef.binaryIndexed, nullary_bufs_sub, unary_bufs_sub, binary_bufs_sub, ternary_bufs_sub, reshape_bufs_sub, unaryIndexed_bufs_sub, binaryIndexed_bufs_sub]) rfl ?_)

/-! ## The loops -/

/-- The buffers before round `k` of loop `j`, and after the loop. -/
def trip (j : Fin 4) (V : Valuation τ sig (Elt F)) : ℕ → Valuation τ sig (Elt F)
  | 0 => V
  | k + 1 => after (bodyOps j) (after (condOps j) (trip j V k))

def loopV (j : Fin 4) (V : Valuation τ sig (Elt F)) : Valuation τ sig (Elt F) := after (condOps j) (trip j V 256)

theorem trip_eq (j : Fin 4) (V : Dev nD → Valuation τ sig (Elt F)) (c : Dev nD) : ∀ k, atTrip (condOps j) [bodyOps j] V k c = trip j (V c) k
  | 0 => rfl
  | k + 1 => by rw [atTrip_succ, afterL_cons, afterL_nil, trip_eq j V c k, trip]

/-- A buffer reads the same where it holds the same. -/
theorem rd_congr {T : BufTy} {V V' : Valuation τ sig (Elt F)} (t : TRef sig T) (h : V (Proc.devRef .tc t.ref) = V' (Proc.devRef .tc t.ref)) : rd V t = rd V' t :=
  congrArg t.ofBuf h

/-- The counter is written by the body alone. -/
theorem cond_ctr : ∀ (j : Fin 4) (V : Valuation τ sig (Elt F)), rd (after (condOps j) V) (refs j).ctr = rd V (refs j).ctr
  | 0, V => rd_congr _ (cond_keep V 0 main_v17_3 (by decide))
  | 1, V => rd_congr _ (cond_keep V 1 main_v29_3 (by decide))
  | 2, V => rd_congr _ (cond_keep V 2 main_v41_3 (by decide))
  | 3, V => rd_congr _ (cond_keep V 3 main_v53_3 (by decide))

theorem trip_ctr (j : Fin 4) (V : Valuation τ sig (Elt F)) (h : rd V (refs j).ctr = fun _ => (0#32 : BitVec 32)) :
    ∀ k, rd (trip j V k) (refs j).ctr = fun _ => Scf.iv 0#32 1#32 k
  | 0 => by rw [trip, h, Scf.iv_zero]
  | k + 1 => by
    rw [trip, body_ctr, cond_ctr, trip_ctr j V h k, Scf.iv_succ]; rfl

/-- What the condition answers. -/
theorem cond_ans : ∀ (j : Fin 4) (V : Valuation τ sig (Elt F)) (x : BitVec 32), (rd V (refs j).ctr = fun _ => x) →
    rd (after (condOps j) V) (refs j).ans = fun _ => IntOp.cmpi .slt x 256#32
  | 0, V, x, h | 1, V, x, h | 2, V, x, h | 3, V, x, h => by
    revert h
    dsimp only [condOps, refs, rd]
    after_reads_simp
    intro h
    exact congrArg (fun y => cmpi .slt y (constantI S_ 32 256#32)) h

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev noL : GSem nD τ sig → Finset Unit := fun _ => ∅
abbrev noLv : GSem nD τ sig → Unit → ℕ := fun _ _ => 0
abbrev Rw (c : Dev nD) : sProp 𝕄 := iprop(∃ W, owes (c : Thread nD τ) (0 : CellTallies nD τ sig Unit) W)
abbrev Seg (F : FTy → Type) [FloatOps F] := CSeg (Ix := Unit) (Name := ℕ) (U := Option PUnit) (Lvl := ℕ) (pcfgs (F := F)) adm (defs₀ (F := F)) Variants.none noL noLv loops tk

theorem step_eq : ∀ j : Fin 4, loops (F := F) j = HostLoop.step j (condP j) (bodyP j)
  | 0 => rfl
  | 1 => rfl
  | 2 => rfl
  | 3 => rfl

set_option backward.isDefEq.respectTransparency.types false in
/-- The condition's run: the answer is one exactly in the first 256 rounds. -/
theorem cond_run (j : Fin 4) (V : Dev nD → Valuation τ sig (Elt F)) (h : ∀ c, rd (V c) (refs j).ctr = fun _ => (0#32 : BitVec 32)) :
    LoopCond (pcfgs (F := F)) defs₀ Variants.none loops (Rw (F := F)) (condP j) (condOps j) [bodyOps j] V 256 := by
  intro k hk c bd
  rw [trip_eq, condP_eq, wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    have e := cond_ans j (trip j (V c) k) _ (trip_ctr j (V c) (h c) k)
    have e' := congrFun e HostLoop.idx0
    replace e' : rd (HloOp.result (ansOp (refs j)) (HloOp.result (bndOp (refs j)) (trip j (V c) k))) (refs j).ans HostLoop.idx0 = _ := e'
    refine Iff.trans ?_ (Scf.cmpi_slt_iv_ub_iff (lb := 0#32) (ub := 256#32) (st := 1#32) (by decide) (show k ≤ Scf.trips 0#32 256#32 1#32 from hk))
    rw [← e']
    rw [rd, HloOp.result_of_mem _ _ (show Proc.devRef .tc (refs j).ans.ref ∈ (ansOp (F := F) (refs j)).writes from Finset.mem_singleton_self _)]
    exact Iff.rfl
  isplitl [Hb]; · iexact Hb
  isplitl [Hh]
  · iexact Hh
  · iexact HR

theorem body_eq (j : Fin 4) : bodyP (F := F) j = Pipeline.chain ([bodyOps j].map fun ops => (seq ops : Pg F)) := body_is j

/-- The loop as a segment. -/
def lseg (j : Fin 4) (V : Dev nD → Valuation τ sig (Elt F)) (h : ∀ c, rd (V c) (refs j).ctr = fun _ => (0#32 : BitVec 32)) : Seg F :=
  loopSeg (pcfgs (F := F)) adm defs₀ Variants.none noL noLv loops tk j (condP j) (bodyP j) (step_eq j) (condOps j) [bodyOps j] (body_plain j).plain
    (body_eq j) 256 V Rw (cond_run j V h)

theorem lseg_post (j : Fin 4) (V : Dev nD → Valuation τ sig (Elt F)) (h) (c : Dev nD) :
    (lseg j V h).post c = iprop(held (c : Thread nD τ) (ucRefs τ sig) (loopV j (V c)) ∗ Rw c) := by
  rw [loopV, ← trip_eq]
  exact loopSeg_post (pcfgs (F := F)) adm defs₀ Variants.none noL noLv loops tk (hbody := body_eq j) _ c

/-! ## The stretches -/

/-- The `k`-th stretch of a list of items. -/
def stOf : ℕ → List (Item F) → List (HloOp τ sig (Elt F))
  | _, [] => []
  | 0, .ops l :: _ => l
  | k + 1, .ops _ :: r => stOf k r
  | k, .loop _ :: r => stOf k r

abbrev d0 : Dev nD := (0 : Fin 1)

/-- The program's five stretches. -/
def st0 : List (HloOp τ sig (Elt F)) := stOf 0 (part0 d0).1
def st1 : List (HloOp τ sig (Elt F)) := stOf 1 (part0 d0).1
def st2 : List (HloOp τ sig (Elt F)) := stOf 2 (part0 d0).1 ++ stOf 0 (part1 d0).1
def st3 : List (HloOp τ sig (Elt F)) := stOf 1 (part1 d0).1
def st4 : List (HloOp τ sig (Elt F)) := stOf 2 (part1 d0).1 ++ stOf 0 (part2 d0).1

theorem part0_eq : (part0 (F := F) d0).1 = [.ops st0, .loop 0, .ops st1, .loop 1, .ops (stOf 2 (part0 d0).1)] := rfl
theorem part1_eq : (part1 (F := F) d0).1 = [.ops (stOf 0 (part1 d0).1), .loop 2, .ops st3, .loop 3, .ops (stOf 2 (part1 d0).1)] := rfl
theorem part2_eq : (part2 (F := F) d0).1 = [.ops (stOf 0 (part2 d0).1)] := rfl

theorem chain_cons' (p : Pg F) (r : List (Pg F)) : Pipeline.chain (p :: r) = (p >>= fun _ => Pipeline.chain r) := rfl

/-- The program is its stretches and loops in order. -/
theorem main_chain (c : Dev nD) : main (F := F) c = Pipeline.chain [seq st0, HostLoop.enter 0, seq st1, HostLoop.enter 1, seq st2, HostLoop.enter 2, seq st3, HostLoop.enter 3, seq st4] := by
  have h := main_is (F := F) d0
  rw [part0_eq, part1_eq, part2_eq] at h
  unfold Is at h
  refine (show main c = main d0 from rfl).trans (h.trans ?_)
  rw [st2, st4, seq_append, seq_append]
  simp only [List.map_cons, List.map_append, List.map_nil, List.cons_append, List.nil_append, Item.prog, chain_cons', bind_assoc]

/-- What the stretches write. -/
def stW0 : {W : List (Ref sig .tc) // ∀ (F : FTy → Type) [FloatOps F], (st0 (F := F)).map HloOp.writes = W.map fun w => {Proc.devRef (τ := τ) .tc w}} := by
  apply Subtype.mk; intro F _; repeat (first | exact writes_nil | apply writes_cons rfl)
def stW1 : {W : List (Ref sig .tc) // ∀ (F : FTy → Type) [FloatOps F], (st1 (F := F)).map HloOp.writes = W.map fun w => {Proc.devRef (τ := τ) .tc w}} := by
  apply Subtype.mk; intro F _; repeat (first | exact writes_nil | apply writes_cons rfl)
def stW2 : {W : List (Ref sig .tc) // ∀ (F : FTy → Type) [FloatOps F], (st2 (F := F)).map HloOp.writes = W.map fun w => {Proc.devRef (τ := τ) .tc w}} := by
  apply Subtype.mk; intro F _; repeat (first | exact writes_nil | apply writes_cons rfl)
def stW3 : {W : List (Ref sig .tc) // ∀ (F : FTy → Type) [FloatOps F], (st3 (F := F)).map HloOp.writes = W.map fun w => {Proc.devRef (τ := τ) .tc w}} := by
  apply Subtype.mk; intro F _; repeat (first | exact writes_nil | apply writes_cons rfl)
def stW4 : {W : List (Ref sig .tc) // ∀ (F : FTy → Type) [FloatOps F], (st4 (F := F)).map HloOp.writes = W.map fun w => {Proc.devRef (τ := τ) .tc w}} := by
  apply Subtype.mk; intro F _; repeat (first | exact writes_nil | apply writes_cons rfl)

def st : Fin 5 → List (HloOp τ sig (Elt F))
  | 0 => st0
  | 1 => st1
  | 2 => st2
  | 3 => st3
  | 4 => st4
def stW : Fin 5 → List (Ref sig .tc)
  | 0 => stW0.1
  | 1 => stW1.1
  | 2 => stW2.1
  | 3 => stW3.1
  | 4 => stW4.1
theorem st_writes : ∀ i : Fin 5, (st (F := F) i).map HloOp.writes = (stW i).map fun w => {Proc.devRef (τ := τ) .tc w}
  | 0 => stW0.2 F
  | 1 => stW1.2 F
  | 2 => stW2.2 F
  | 3 => stW3.2 F
  | 4 => stW4.2 F

set_option maxHeartbeats 1000000 in
set_option maxRecDepth 20000 in
theorem st_plain : ∀ i : Fin 5, PlainOps (F := F) (st i)
  | 0 | 1 | 2 | 3 | 4 => by
    dsimp only [st]
    repeat (first | exact PlainOps.nil | refine PlainOps.cons (by simp only [TRef.nullary, TRef.unary, TRef.binary, TRef.ternary, TRef.reshape, TRef.unaryIndexed, TRef.binaryIndexed, nullary_bufs_sub, unary_bufs_sub, binary_bufs_sub, ternary_bufs_sub, reshape_bufs_sub, unaryIndexed_bufs_sub, binaryIndexed_bufs_sub]) rfl ?_)

/-! ## The buffers along the program -/

variable (m : (ℓ : Loc nD τ sig) → Buf (Elt F) ℓ)

def E0 (c : Dev nD) : Valuation τ sig (Elt F) := after (st 0) (launchContents m c)
def E1 (c : Dev nD) : Valuation τ sig (Elt F) := after (st 1) (loopV 0 (E0 m c))
def E2 (c : Dev nD) : Valuation τ sig (Elt F) := after (st 2) (loopV 1 (E1 m c))
def E3 (c : Dev nD) : Valuation τ sig (Elt F) := after (st 3) (loopV 2 (E2 m c))
def E4 (c : Dev nD) : Valuation τ sig (Elt F) := after (st 4) (loopV 3 (E3 m c))

/-- Each stretch before a loop sets the loop's counter to zero. -/
theorem st_ctr (V : Valuation τ sig (Elt F)) :
    (rd (after (st 0) V) (refs 0).ctr = fun _ => (0#32 : BitVec 32)) ∧ (rd (after (st 1) V) (refs 1).ctr = fun _ => (0#32 : BitVec 32))
    ∧ (rd (after (st 2) V) (refs 2).ctr = fun _ => (0#32 : BitVec 32)) ∧ rd (after (st 3) V) (refs 3).ctr = fun _ => (0#32 : BitVec 32) := by
  refine ⟨?_, ?_, ?_, ?_⟩ <;> (dsimp only [st, refs, rd]; after_reads_simp; rfl)

theorem ctr0 (c : Dev nD) : rd (E0 m c) (refs 0).ctr = fun _ => (0#32 : BitVec 32) := (st_ctr _).1
theorem ctr1 (c : Dev nD) : rd (E1 m c) (refs 1).ctr = fun _ => (0#32 : BitVec 32) := (st_ctr _).2.1
theorem ctr2 (c : Dev nD) : rd (E2 m c) (refs 2).ctr = fun _ => (0#32 : BitVec 32) := (st_ctr _).2.2.1
theorem ctr3 (c : Dev nD) : rd (E3 m c) (refs 3).ctr = fun _ => (0#32 : BitVec 32) := (st_ctr _).2.2.2

/-- A stretch as a segment. -/
def oseg (i : Fin 5) (V : Dev nD → Valuation τ sig (Elt F)) : Seg F :=
  CSeg.ofOps _ _ _ _ _ _ _ _ (ucRefs τ sig) (st i) (fun op hop => sub_ucRefs op ((st_plain i).1 op hop)) (st_plain i).2 V Rw

def allSegs : List (Seg F) :=
  [oseg 0 (launchContents m), lseg 0 (E0 m) (ctr0 m), oseg 1 (fun c => loopV 0 (E0 m c)), lseg 1 (E1 m) (ctr1 m),
   oseg 2 (fun c => loopV 1 (E1 m c)), lseg 2 (E2 m) (ctr2 m), oseg 3 (fun c => loopV 2 (E2 m c)), lseg 3 (E3 m) (ctr3 m),
   oseg 4 (fun c => loopV 3 (E3 m c))]

theorem allSegs_prog : (allSegs m).map CSeg.prog = [seq (st 0), HostLoop.enter 0, seq (st 1), HostLoop.enter 1, seq (st 2), HostLoop.enter 2, seq (st 3), HostLoop.enter 3, seq (st 4)] := rfl

theorem allSegs_chains : CSeg.Chains (fun c => iprop(held (c : Thread nD τ) (ucRefs τ sig) (launchContents m c) ∗ Rw c)) (allSegs m)
    (fun c => iprop(iprop(held (c : Thread nD τ) (ucRefs τ sig) (E4 m c)) ∗ ∃ W, owes (c : Thread nD τ) (0 : CellTallies nD τ sig Unit) W)) :=
  ⟨fun _ => .rfl, fun _ => .rfl, fun c => by rw [lseg_post]; exact .rfl, fun _ => .rfl, fun c => by rw [lseg_post]; exact .rfl, fun _ => .rfl,
    fun c => by rw [lseg_post]; exact .rfl, fun _ => .rfl, fun c => by rw [lseg_post]; exact .rfl, fun _ => .rfl⟩

theorem cellOf_injective : Function.Injective (Pipeline.cellOf (nD := nD) (τ := τ) (Pipeline.pin (pcfgs (F := F)) adm)) := fun k => k.1.elim0

theorem no_unscoped : ∀ sm : SemLoc sig, sm.isScoped .tc = true := by decide

set_option maxRecDepth 100000 in
/-- Every execution of the reference ends with every unscoped buffer at `E4` and every counter at zero. -/
theorem ref_run (ρ : Dev nD → PrngReg) :
    θ_run (defs (F := F)) (onTc (τ := τ) (main (F := F))) ⟨m, fun _ => 0, ρ⟩ (fun r =>
      (∀ c : Dev nD, ∀ b ∈ ucRefs τ sig, r.2.mem (c, b) = E4 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_injective defs₀ Variants.none noL noLv loops tk m ρ main (allSegs m)
    (fun c Q => by
      rw [main_chain c]
      show wp _ _ _ (Pipeline.chain ((allSegs m).map CSeg.prog)) Q ⊢ _
      rw [allSegs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (E4 m c)))
    (hch := allSegs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = E4 m c b)
    (hfin := fun c s' => by
      unfold held
      iintro ⟨Hh, HSI⟩
      ihave Hr := (pointsTo_read_all (ucRefs τ sig) (fun b => ((c : Dev nD), b)) (fun b => E4 m c b) s') $$ [Hh HSI]
      · isplitl [Hh] <;> iassumption
      icases Hr with ⟨%h, HSI⟩
      imodintro
      isplitr; · ipureintro; exact h
      iexact HSI)
    (hQ := fun _ h hz => ⟨h, funext fun g => hz g (.inr (no_unscoped g.2))⟩)

/-! ## The arguments are left alone -/

theorem trip_keep (j : Fin 4) (V : Valuation τ sig (Elt F)) (r : Ref sig .tc) (h : r ∉ bodyW j) (h' : r ∉ [(refs j).bnd.ref, (refs j).ans.ref]) :
    ∀ k, trip j V k (Proc.devRef .tc r) = V (Proc.devRef .tc r)
  | 0 => rfl
  | k + 1 => by rw [trip, body_keep _ j r h, cond_keep _ j r h', trip_keep j V r h h' k]

/-- A reference neither the body nor the condition writes is left alone by the loop. -/
theorem loop_keep (j : Fin 4) (V : Valuation τ sig (Elt F)) (r : Ref sig .tc) (h : r ∉ bodyW j) (h' : r ∉ [(refs j).bnd.ref, (refs j).ans.ref]) :
    loopV j V (Proc.devRef .tc r) = V (Proc.devRef .tc r) := by
  rw [loopV, cond_keep _ j r h', trip_keep j V r h h']

theorem st_keep (i : Fin 5) (V : Valuation τ sig (Elt F)) (r : Ref sig .tc) (h : r ∉ stW i) : after (st i) V (Proc.devRef .tc r) = V (Proc.devRef .tc r) :=
  after_unwritten _ (st_writes i) h V

/-- What the program writes up to the end. -/
def allW : List (Ref sig .tc) := stW 0 ++ (stW 1 ++ (stW 2 ++ (stW 3 ++ (stW 4 ++ (bodyW 0 ++ (bodyW 1 ++ (bodyW 2 ++ (bodyW 3
  ++ [(refs 0).bnd.ref, (refs 0).ans.ref, (refs 1).bnd.ref, (refs 1).ans.ref, (refs 2).bnd.ref, (refs 2).ans.ref, (refs 3).bnd.ref, (refs 3).ans.ref]))))))))

theorem E4_keep (c : Dev nD) (r : Ref sig .tc) (h : r ∉ allW) : E4 m c (Proc.devRef .tc r) = m ((c.tc : Thread nD τ).loc r) := by
  simp only [allW, List.mem_append, List.mem_cons, List.not_mem_nil, or_false, not_or] at h
  obtain ⟨s0, s1, s2, s3, s4, b0, b1, b2, b3, h0, h0', h1, h1', h2, h2', h3, h3'⟩ := h
  have k : ∀ {a b : Ref sig .tc}, ¬ r = a → ¬ r = b → r ∉ [a, b] := fun x y => by
    simp only [List.mem_cons, List.not_mem_nil, or_false, not_or]; exact ⟨x, y⟩
  rw [E4, st_keep _ _ _ s4, loop_keep _ _ _ b3 (k h3 h3'), E3, st_keep _ _ _ s3, loop_keep _ _ _ b2 (k h2 h2'), E2, st_keep _ _ _ s2,
    loop_keep _ _ _ b1 (k h1 h1'), E1, st_keep _ _ _ s1, loop_keep _ _ _ b0 (k h0 h0'), E0, st_keep _ _ _ s0]

/-- The program's arguments. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

set_option maxRecDepth 100000 in
theorem args_unwritten : ∀ r ∈ argRefs, r ∉ allW := by decide +kernel

def RunsQuiet (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0)

theorem mem_ucRefs (r : Ref sig .tc) (h : r.isScoped = false) : (Proc.devRef .tc r : DevRef τ sig) ∈ ucRefs τ sig :=
  Finset.mem_filter.mpr ⟨devRef_mem_tcRefs r, by simpa using h⟩

theorem runsQuiet : RunsQuiet F := fun m g _ => by
  refine (θ_run defs _ _).mono (fun r h => ?_) (ref_run m g)
  refine ⟨fun c => ?_, h.2⟩
  have k : ∀ a : Ref sig .tc, a.isScoped = false → a ∈ argRefs → r.2.mem ((c.tc : Thread nD τ).loc a) = m ((c.tc : Thread nD τ).loc a) := fun a hs ha =>
    (h.1 c _ (mem_ucRefs a hs)).trans (E4_keep m c a (args_unwritten a ha))
  exact ⟨k main_arg0 rfl (by decide), k main_arg1 rfl (by decide), k main_arg2 rfl (by decide), k main_arg3 rfl (by decide), k main_arg4 rfl (by decide), k main_arg5 rfl (by decide), k main_arg6 rfl (by decide), k main_arg7 rfl (by decide), k main_arg8 rfl (by decide), k main_arg9 rfl (by decide), k main_arg10 rfl (by decide), k main_arg11 rfl (by decide), k main_arg12 rfl (by decide), k main_arg13 rfl (by decide), k main_arg14 rfl (by decide), k main_arg15 rfl (by decide), k main_arg16 rfl (by decide), k main_arg17 rfl (by decide), k main_arg18 rfl (by decide), k main_arg19 rfl (by decide), k main_arg20 rfl (by decide), k main_arg21 rfl (by decide)⟩

/-- The ideal reference leaves its arguments alone. -/
theorem quiet_ref : Cert.quiescent_ReferenceIdeal := by
  have e : Cert.quiescent_ReferenceIdeal = RunsQuiet Ideal := by sl_kernel_rfl
  exact e ▸ runsQuiet

end Cert.RefRun
-- ==== Proof.RefReads.lean ====
/-
  What the reference's straight stretches compute, as functions of the buffers they start from.
-/
module

public import proofs.«01_k».proof.Proof.RefRun

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- A tensor of shape `s` and element `e`. -/
abbrev Tn (F : FTy → Type) [FloatOps F] (s : Shape) (e : EltTy) : Type := BufTy.Contents (Elt F) ⟨s, e⟩

/-- The padding mask. -/
def maskOf (q : Tn F S256x256 .i32) : Tn F S256x256 .i1 := cmpi .ne q (broadcastInDim S256x256 ![] bcast_S_S256x256 (constantI S_ 32 0#32))

/-- The tokens' embeddings. -/
def tokOf (q : Tn F S256x256 .i32) (t : Tn F S32000x512 .f32) : Tn F S256x256x512 .f32 :=
  Host.gather gather_S32000x512_S256x256x1_S256x256x512_2_0_n_n_0_2_1512 t (broadcastInDim S256x256x1 ![0, 1] bcast_S256x256_S256x256x1_0_1
    (select (cmpi .slt q (broadcastInDim S256x256 ![] bcast_S_S256x256 (constantI S_ 32 0#32))) (addi q (broadcastInDim S256x256 ![] bcast_S_S256x256 (constantI S_ 32 32000#32))) q))

/-- A bias over time and batch. -/
def biasOf (b : Tn F S2048 .f32) : Tn F S256x256x2048 .f32 :=
  broadcastInDim S256x256x2048 ![0, 1, 2] bcast_S1x1x2048_S256x256x2048_0_1_2 (broadcastInDim S1x1x2048 ![2] bcast_S2048_S1x1x2048_2 b)

/-- A layer's projected inputs, time first. -/
def projOne (x : Tn F S256x256x512 .f32) (w : Tn F S512x2048 .f32) (b : Tn F S2048 .f32) : Tn F S256x256x2048 .f32 :=
  transpose S256x256x2048 [1, 0, 2] (addf (Host.dotGeneral dot_S256x256x512_S512x2048_S256x256x2048_2_0_01_1_n_n none x w) (biasOf b)) transposes_S256x256x2048_S256x256x2048_1_0_2
@[inherit_doc projOne] def projTwo (x : Tn F S256x256x1024 .f32) (w : Tn F S1024x2048 .f32) (b : Tn F S2048 .f32) : Tn F S256x256x2048 .f32 :=
  transpose S256x256x2048 [1, 0, 2] (addf (Host.dotGeneral dot_S256x256x1024_S1024x2048_S256x256x2048_2_0_01_1_n_n none x w) (biasOf b)) transposes_S256x256x2048_S256x256x2048_1_0_2

/-- A mask, time first. -/
def maskT (k : Tn F S256x256 .i1) : Tn F S256x256 .i1 := transpose S256x256 [1, 0] k transposes_S256x256_S256x256_1_0
/-- A loop's outputs, batch first. -/
def rowsT (y : Tn F S256x256x512 .f32) : Tn F S256x256x512 .f32 := transpose S256x256x512 [1, 0, 2] y transposes_S256x256x512_S256x256x512_1_0_2
/-- The two directions' outputs side by side. -/
def bothOf (a b : Tn F S256x256x512 .f32) : Tn F S256x256x1024 .f32 :=
  concatenate S256x256x1024 2 [⟨S256x256x512, a⟩, ⟨S256x256x512, b⟩] concatenates_S256x256x512_S256x256x512_S256x256x1024_d2

/-- The styles' embeddings. -/
def styOf (q : Tn F S256 .i32) (t : Tn F S10x128 .f32) : Tn F S256x128 .f32 :=
  Host.gather gather_S10x128_S256x1_S256x128_1_0_n_n_0_1_1128 t (broadcastInDim S256x1 ![0] bcast_S256_S256x1_0
    (select (cmpi .slt q (broadcastInDim S256 ![] bcast_S_S256 (constantI S_ 32 0#32))) (addi q (broadcastInDim S256 ![] bcast_S_S256 (constantI S_ 32 10#32))) q))

/-- The head: two rectified layers and one output, from the two last hidden states and the styles' embeddings. -/
def hidOne (hf hb : Tn F S256x512 .f32) (s : Tn F S256x128 .f32) (w : Tn F S1152x1024 .f32) (b : Tn F S1024 .f32) : Tn F S256x1024 .f32 :=
  maximumf (addf (Host.dotGeneral dot_S256x1152_S1152x1024_S256x1024_1_0_0_1_n_n none
      (concatenate S256x1152 1 [⟨S256x1024, concatenate S256x1024 1 [⟨S256x512, hf⟩, ⟨S256x512, hb⟩] concatenates_S256x512_S256x512_S256x1024_d1⟩, ⟨S256x128, s⟩] concatenates_S256x1024_S256x128_S256x1152_d1) w)
      (broadcastInDim S256x1024 ![0, 1] bcast_S1x1024_S256x1024_0_1 (broadcastInDim S1x1024 ![1] bcast_S1024_S1x1024_1 b)))
    (broadcastInDim S256x1024 ![] bcast_S_S256x1024 (constant S_ .f32 0x00000000#32))
@[inherit_doc hidOne] def hidTwo (x : Tn F S256x1024 .f32) (w : Tn F S1024x512 .f32) (b : Tn F S512 .f32) : Tn F S256x512 .f32 :=
  maximumf (addf (Host.dotGeneral dot_S256x1024_S1024x512_S256x512_1_0_0_1_n_n none x w)
      (broadcastInDim S256x512 ![0, 1] bcast_S1x512_S256x512_0_1 (broadcastInDim S1x512 ![1] bcast_S512_S1x512_1 b)))
    (broadcastInDim S256x512 ![] bcast_S_S256x512 (constant S_ .f32 0x00000000#32))
@[inherit_doc hidOne] def probOf (x : Tn F S256x512 .f32) (w : Tn F S512x1 .f32) (b : Tn F S1 .f32) : Tn F S256x1 .f32 :=
  Host.divf (broadcastInDim S256x1 ![] bcast_S_S256x1 (constant S_ .f32 0x3F800000#32))
    (addf (broadcastInDim S256x1 ![] bcast_S_S256x1 (constant S_ .f32 0x3F800000#32)) (Host.exp (Host.negf
      (addf (Host.dotGeneral dot_S256x512_S512x1_S256x1_1_0_0_1_n_n none x w) (broadcastInDim S256x1 ![0, 1] bcast_S1x1_S256x1_0_1 (broadcastInDim S1x1 ![1] bcast_S1_S1x1_1 b))))))

/-! ## The stretches -/

/-! The arguments and the buffers that outlive a stretch, with their types. -/
abbrev p0 : TRef sig ⟨S256x256, .i32⟩ := .of main_arg0
abbrev p1 : TRef sig ⟨S256, .i32⟩ := .of main_arg1
abbrev p2 : TRef sig ⟨S32000x512, .f32⟩ := .of main_arg2
abbrev p3 : TRef sig ⟨S10x128, .f32⟩ := .of main_arg3
abbrev p4 : TRef sig ⟨S512x2048, .f32⟩ := .of main_arg4
abbrev p5 : TRef sig ⟨S512x2048, .f32⟩ := .of main_arg5
abbrev p6 : TRef sig ⟨S2048, .f32⟩ := .of main_arg6
abbrev p7 : TRef sig ⟨S512x2048, .f32⟩ := .of main_arg7
abbrev p8 : TRef sig ⟨S512x2048, .f32⟩ := .of main_arg8
abbrev p9 : TRef sig ⟨S2048, .f32⟩ := .of main_arg9
abbrev p10 : TRef sig ⟨S1024x2048, .f32⟩ := .of main_arg10
abbrev p11 : TRef sig ⟨S512x2048, .f32⟩ := .of main_arg11
abbrev p12 : TRef sig ⟨S2048, .f32⟩ := .of main_arg12
abbrev p13 : TRef sig ⟨S1024x2048, .f32⟩ := .of main_arg13
abbrev p14 : TRef sig ⟨S512x2048, .f32⟩ := .of main_arg14
abbrev p15 : TRef sig ⟨S2048, .f32⟩ := .of main_arg15
abbrev p16 : TRef sig ⟨S1152x1024, .f32⟩ := .of main_arg16
abbrev p17 : TRef sig ⟨S1024, .f32⟩ := .of main_arg17
abbrev p18 : TRef sig ⟨S1024x512, .f32⟩ := .of main_arg18
abbrev p19 : TRef sig ⟨S512, .f32⟩ := .of main_arg19
abbrev p20 : TRef sig ⟨S512x1, .f32⟩ := .of main_arg20
abbrev p21 : TRef sig ⟨S1, .f32⟩ := .of main_arg21
abbrev tokR : TRef sig ⟨S256x256x512, .f32⟩ := .of main_v8
abbrev mskR : TRef sig ⟨S256x256, .i1⟩ := .of main_v1
abbrev fwR : TRef sig ⟨S256x256x512, .f32⟩ := .of main_v18
abbrev bothR : TRef sig ⟨S256x256x1024, .f32⟩ := .of main_v32
abbrev resR : TRef sig ⟨S256x1, .f32⟩ := .of main_v83

variable (V : Valuation τ sig (Elt F))

theorem st0_tok : rd (after (st 0) V) tokR = tokOf (rd V p0) (rd V p2) := by
  dsimp only [st, rd]; after_reads_simp; rfl
theorem st0_msk : rd (after (st 0) V) mskR = maskOf (rd V p0) := by
  dsimp only [st, rd]; after_reads_simp; rfl
theorem st0_loop : rd (after (st 0) V) (refs 0).zx = projOne (tokOf (rd V p0) (rd V p2)) (rd V p4) (rd V p6)
    ∧ rd (after (st 0) V) (refs 0).msk = maskT (maskOf (rd V p0)) ∧ rd (after (st 0) V) (refs 0).wh = rd V p5 := by
  refine ⟨?_, ?_, ?_⟩ <;> (dsimp only [st, refs, rd]; after_reads_simp; rfl)

theorem st1_fw : rd (after (st 1) V) fwR = rowsT (rd V (refs 0).ys) := by
  dsimp only [st, refs, rd]; after_reads_simp; rfl
theorem st1_loop : rd (after (st 1) V) (refs 1).zx = projOne (Host.reverse [1] (rd V tokR)) (rd V p7) (rd V p9)
    ∧ rd (after (st 1) V) (refs 1).msk = maskT (Host.reverse [1] (rd V mskR)) ∧ rd (after (st 1) V) (refs 1).wh = rd V p8 := by
  refine ⟨?_, ?_, ?_⟩ <;> (dsimp only [st, refs, rd]; after_reads_simp; rfl)

theorem st2_both : rd (after (st 2) V) bothR = bothOf (rd V fwR) (Host.reverse [1] (rowsT (rd V (refs 1).ys))) := by
  dsimp only [st, refs, rd]; after_reads_simp; rfl
theorem st2_loop : rd (after (st 2) V) (refs 2).zx = projTwo (bothOf (rd V fwR) (Host.reverse [1] (rowsT (rd V (refs 1).ys)))) (rd V p10) (rd V p12)
    ∧ rd (after (st 2) V) (refs 2).msk = maskT (rd V mskR) ∧ rd (after (st 2) V) (refs 2).wh = rd V p11 := by
  refine ⟨?_, ?_, ?_⟩ <;> (dsimp only [st, refs, rd]; after_reads_simp; rfl)

theorem st3_loop : rd (after (st 3) V) (refs 3).zx = projTwo (Host.reverse [1] (rd V bothR)) (rd V p13) (rd V p15)
    ∧ rd (after (st 3) V) (refs 3).msk = maskT (Host.reverse [1] (rd V mskR)) ∧ rd (after (st 3) V) (refs 3).wh = rd V p14 := by
  refine ⟨?_, ?_, ?_⟩ <;> (dsimp only [st, refs, rd]; after_reads_simp; rfl)

theorem st4_res : rd (after (st 4) V) resR = probOf (hidTwo (hidOne (rd V (refs 2).h) (rd V (refs 3).h) (styOf (rd V p1) (rd V p3)) (rd V p16) (rd V p17)) (rd V p18) (rd V p19)) (rd V p20) (rd V p21) := by
  dsimp only [st, refs, rd]; after_reads_simp; rfl

/-- The states a loop starts from. -/
def zeroSt : Tn F S256x512 .f32 := broadcastInDim S256x512 ![] bcast_S_S256x512 (constant S_ .f32 0x00000000#32)

theorem st_zero : (rd (after (st 0) V) (refs 0).h = zeroSt ∧ rd (after (st 0) V) (refs 0).c = zeroSt) ∧ (rd (after (st 1) V) (refs 1).h = zeroSt ∧ rd (after (st 1) V) (refs 1).c = zeroSt)
    ∧ (rd (after (st 2) V) (refs 2).h = zeroSt ∧ rd (after (st 2) V) (refs 2).c = zeroSt) ∧ (rd (after (st 3) V) (refs 3).h = zeroSt ∧ rd (after (st 3) V) (refs 3).c = zeroSt) := by
  refine ⟨⟨?_, ?_⟩, ⟨?_, ?_⟩, ⟨?_, ?_⟩, ⟨?_, ?_⟩⟩ <;> (dsimp only [st, refs, rd]; after_reads_simp; rfl)

/-! ## The buffers that outlive a loop -/

variable (m : (ℓ : Loc nD τ sig) → Buf (Elt F) ℓ) (c : Dev nD)

/-- A buffer no stretch and no loop before writes holds what it held at launch. -/
theorem keep1 {T : BufTy} (t : TRef sig T) (h0 : t.ref ∉ stW 0) (l0 : t.ref ∉ bodyW 0) (l0' : t.ref ∉ [(refs 0).bnd.ref, (refs 0).ans.ref]) :
    rd (loopV 0 (E0 m c)) t = rd (launchContents m c) t :=
  rd_congr _ (by rw [loop_keep 0 _ _ l0 l0', E0, st_keep 0 _ _ h0])

end Cert.RefRun
end
-- ==== Proof.RefScan.lean ====
/-
  The reference's loops over the extended reals: round by round they are the scan.
-/
module

public import proofs.«01_k».proof.Proof.RefRun
public import proofs.«01_k».proof.Proof.Spec
public import Idealize.ShloMosaic.Lib.Pointwise

@[expose] public section

set_option maxRecDepth 16384

noncomputable section

namespace Cert.RefRun

open Cert.ReferenceIdeal Cert.ReferenceIdeal.Gen
open Idealize.ShloMosaic
open Idealize.ShloMosaic.StableHlo
open Cert.Spec (Mat col fresh cell args scan)

/-- A state buffer by its coordinates. -/
def matR (v : (⟨S256x512, .f32⟩ : BufTy).Contents (Elt Ideal)) : Mat := fun b n => v (ix2 b n)

theorem lgs_apply (x : (⟨S256x512, .f32⟩ : BufTy).Contents (Elt Ideal)) (j : S256x512.Idx) : lgs x j = Ideal.logistic (x j) := by
  unfold lgs Ideal.logistic
  pointwise []

theorem iv_toInt (k : Fin 256) : (Scf.iv 0#32 1#32 k.val).toInt = (k.val : ℤ) := by
  have h : Scf.iv 0#32 1#32 k.val = BitVec.ofNat 32 k.val := by simp [Scf.iv]
  rw [h, BitVec.toInt_eq_toNat_of_lt (by rw [BitVec.toNat_ofNat]; omega), BitVec.toNat_ofNat, Nat.mod_eq_of_lt (by omega)]

theorem rowZ_apply (x : (⟨S256x256x2048, .f32⟩ : BufTy).Contents (Elt Ideal)) (k : Fin 256) (b : Fin 256) (m : Fin 2048) :
    rowZ x (Scf.iv 0#32 1#32 k.val) (ix2 b m) = x (ix3 k b m) := by
  unfold rowZ
  rw [iv_toInt]
  pointwise []
  refine congrArg x (congr (congr (congrArg ix3 (Fin.ext ?_)) (Fin.ext ?_)) (Fin.ext ?_))
  · exact Host.clampedStart_of_le (s := S256x256x2048) (t := S1x256x2048) rfl ![(k.val : ℤ), 0, 0] 0 k.val rfl (Nat.succ_le_of_lt k.isLt)
  · exact (congrArg (· + b.val) (Host.clampedStart_of_le _ _ _ 0 rfl (by decide))).trans (Nat.zero_add _)
  · exact (congrArg (· + m.val) (Host.clampedStart_of_le _ _ _ 0 rfl (by decide))).trans (Nat.zero_add _)

theorem rowM_apply (x : (⟨S256x256, .i1⟩ : BufTy).Contents (Elt Ideal)) (k : Fin 256) (b : Fin 256) :
    rowM (F := Ideal) x (Scf.iv 0#32 1#32 k.val) (ix1 b) = x (ix2 k b) := by
  unfold rowM
  rw [iv_toInt]
  pointwise []
  refine congrArg x (congr (congrArg ix2 (Fin.ext ?_)) (Fin.ext ?_))
  · exact Host.clampedStart_of_le (s := S256x256) (t := S1x256) rfl ![(k.val : ℤ), 0] 0 k.val rfl (Nat.succ_le_of_lt k.isLt)
  · exact (congrArg (· + b.val) (Host.clampedStart_of_le _ _ _ 0 rfl (by decide))).trans (Nat.zero_add _)

theorem ysPut_apply (ys : (⟨S256x256x512, .f32⟩ : BufTy).Contents (Elt Ideal)) (h : (⟨S256x512, .f32⟩ : BufTy).Contents (Elt Ideal)) (k t : Fin 256) (b : Fin 256) (n : Fin 512) :
    ysPut ys h (Scf.iv 0#32 1#32 k.val) (ix3 t b n) = if t = k then matR h b n else ys (ix3 t b n) := by
  unfold ysPut matR
  rw [iv_toInt]
  have e0 : Host.clampedStart S256x256x512 S1x256x512 rfl ![(k.val : ℤ), 0, 0] 0 = k.val := Host.clampedStart_of_le _ _ _ _ rfl (Nat.succ_le_of_lt k.isLt)
  have e1 : Host.clampedStart S256x256x512 S1x256x512 rfl ![(k.val : ℤ), 0, 0] 1 = 0 := Host.clampedStart_of_le _ _ _ 0 rfl (by decide)
  have e2 : Host.clampedStart S256x256x512 S1x256x512 rfl ![(k.val : ℤ), 0, 0] 2 = 0 := Host.clampedStart_of_le _ _ _ 0 rfl (by decide)
  pointwise []
  simp only [e0, e1, e2]
  by_cases ht : t = k
  · subst ht
    rw [dif_pos ⟨⟨le_refl _, Nat.lt_succ_self _⟩, Nat.zero_le _, Nat.zero_le _⟩, if_pos rfl]
    rfl
  · rw [dif_neg (fun h => ht (Fin.ext (by omega))), if_neg ht]

theorem col_0 (n : Fin 512) (h : n.val < 2048) : (⟨n.val, h⟩ : Fin 2048) = col 0 n := Fin.ext (by simp [col])
theorem col_1 (n : Fin 512) (h : 512 + n.val < 2048) : (⟨512 + n.val, h⟩ : Fin 2048) = col 1 n := Fin.ext (by simp [col])
theorem col_2 (n : Fin 512) (h : 1024 + n.val < 2048) : (⟨1024 + n.val, h⟩ : Fin 2048) = col 2 n := Fin.ext (by simp [col])
theorem col_3 (n : Fin 512) (h : 1536 + n.val < 2048) : (⟨1536 + n.val, h⟩ : Fin 2048) = col 3 n := Fin.ext (by simp [col])

theorem cRaw_apply (x : (⟨S256x2048, .f32⟩ : BufTy).Contents (Elt Ideal)) (w : (⟨S512x2048, .f32⟩ : BufTy).Contents (Elt Ideal)) (h c : (⟨S256x512, .f32⟩ : BufTy).Contents (Elt Ideal)) (b : Fin 256) (n : Fin 512) :
    cRaw (zOf x w h) c (ix2 b n) = fresh (args (fun b m => x (ix2 b m)) (fun e m => w (ix2 e m)) (matR h)) (matR c) b n := by
  unfold cRaw zOf fresh args matR
  pointwise [lgs_apply, col_0, col_1, col_2]

theorem gate3_apply (x : (⟨S256x2048, .f32⟩ : BufTy).Contents (Elt Ideal)) (w : (⟨S512x2048, .f32⟩ : BufTy).Contents (Elt Ideal)) (h : (⟨S256x512, .f32⟩ : BufTy).Contents (Elt Ideal)) (b : Fin 256) (n : Fin 512) :
    zOf x w h (ix2 b (col 3 n)) = args (fun b m => x (ix2 b m)) (fun e m => w (ix2 e m)) (matR h) 3 b n := by
  unfold zOf args matR
  pointwise []

/-- One round of a loop is a step of the scan. -/
theorem round_eq (x : (⟨S256x2048, .f32⟩ : BufTy).Contents (Elt Ideal)) (k : (⟨S256, .i1⟩ : BufTy).Contents (Elt Ideal)) (w : (⟨S512x2048, .f32⟩ : BufTy).Contents (Elt Ideal)) (h c : (⟨S256x512, .f32⟩ : BufTy).Contents (Elt Ideal)) :
    (matR (hNew (zOf x w h) k c h), matR (cNew (zOf x w h) k c))
      = cell (args (fun b m => x (ix2 b m)) (fun e m => w (ix2 e m)) (matR h)) (fun b => k (ix1 b)) (matR h, matR c) := by
  refine Prod.ext ?_ ?_
  · funext b n
    simp only [matR, cell, hNew, mkOf]
    pointwise [lgs_apply, cRaw_apply, col_3, gate3_apply]
  · funext b n
    simp only [matR, cell, cNew, mkOf]
    pointwise [lgs_apply, cRaw_apply]

variable (V : Valuation τ sig (Elt Ideal))

theorem cond_all : ∀ (j : Fin 4) (V : Valuation τ sig (Elt Ideal)), rd (after (condOps j) V) (refs j).zx = rd V (refs j).zx ∧ rd (after (condOps j) V) (refs j).msk = rd V (refs j).msk
    ∧ rd (after (condOps j) V) (refs j).wh = rd V (refs j).wh ∧ rd (after (condOps j) V) (refs j).h = rd V (refs j).h
    ∧ rd (after (condOps j) V) (refs j).c = rd V (refs j).c ∧ rd (after (condOps j) V) (refs j).ys = rd V (refs j).ys
  | 0, V | 1, V | 2, V | 3, V =>
    ⟨rd_congr _ (cond_keep V _ _ (by decide)), rd_congr _ (cond_keep V _ _ (by decide)), rd_congr _ (cond_keep V _ _ (by decide)),
      rd_congr _ (cond_keep V _ _ (by decide)), rd_congr _ (cond_keep V _ _ (by decide)), rd_congr _ (cond_keep V _ _ (by decide))⟩

theorem trip_const : ∀ (j : Fin 4) (V : Valuation τ sig (Elt Ideal)) (k : ℕ), rd (trip j V k) (refs j).zx = rd V (refs j).zx ∧ rd (trip j V k) (refs j).msk = rd V (refs j).msk
    ∧ rd (trip j V k) (refs j).wh = rd V (refs j).wh
  | 0, V, k | 1, V, k | 2, V, k | 3, V, k =>
    ⟨rd_congr _ (trip_keep _ V _ (by decide) (by decide) k), rd_congr _ (trip_keep _ V _ (by decide) (by decide) k), rd_congr _ (trip_keep _ V _ (by decide) (by decide) k)⟩

/-- The scan a loop runs, from the buffers it starts with. -/
def scanOf (j : Fin 4) (V : Valuation τ sig (Elt Ideal)) : ℕ → Mat × Mat :=
  scan (fun n b m => rd V (refs j).zx (ix3 (Spec.step n) b m)) (fun n b => rd V (refs j).msk (ix2 (Spec.step n) b)) (fun e m => rd V (refs j).wh (ix2 e m))

/-- What a loop may be entered with: the counter and the states at zero. -/
structure Fresh (j : Fin 4) (V : Valuation τ sig (Elt Ideal)) : Prop where
  ctr : rd V (refs j).ctr = fun _ => (0#32 : BitVec 32)
  h : matR (rd V (refs j).h) = fun _ _ => 0
  c : matR (rd V (refs j).c) = fun _ _ => 0

theorem trip_zAt (j : Fin 4) (hV : Fresh j V) (k : ℕ) :
    zAt (after (condOps j) (trip j V k)) j = zOf (rowZ (rd V (refs j).zx) (Scf.iv 0#32 1#32 k)) (rd V (refs j).wh) (rd (trip j V k) (refs j).h) := by
  unfold zAt
  rw [(cond_all j _).1, (cond_all j _).2.2.1, (cond_all j _).2.2.2.1, cond_ctr, trip_ctr j V hV.ctr k, (trip_const j V k).1, (trip_const j V k).2.2]

theorem trip_h (j : Fin 4) (hV : Fresh j V) (k : ℕ) : rd (trip j V (k + 1)) (refs j).h
    = hNew (zOf (rowZ (rd V (refs j).zx) (Scf.iv 0#32 1#32 k)) (rd V (refs j).wh) (rd (trip j V k) (refs j).h)) (rowM (rd V (refs j).msk) (Scf.iv 0#32 1#32 k)) (rd (trip j V k) (refs j).c) (rd (trip j V k) (refs j).h) := by
  rw [trip, body_h, trip_zAt V j hV, (cond_all j _).2.1, (cond_all j _).2.2.2.1, (cond_all j _).2.2.2.2.1, cond_ctr, trip_ctr j V hV.ctr k, (trip_const j V k).2.1]

theorem trip_c (j : Fin 4) (hV : Fresh j V) (k : ℕ) : rd (trip j V (k + 1)) (refs j).c
    = cNew (zOf (rowZ (rd V (refs j).zx) (Scf.iv 0#32 1#32 k)) (rd V (refs j).wh) (rd (trip j V k) (refs j).h)) (rowM (rd V (refs j).msk) (Scf.iv 0#32 1#32 k)) (rd (trip j V k) (refs j).c) := by
  rw [trip, body_c, trip_zAt V j hV, (cond_all j _).2.1, (cond_all j _).2.2.2.2.1, cond_ctr, trip_ctr j V hV.ctr k, (trip_const j V k).2.1]

theorem trip_ys (j : Fin 4) (hV : Fresh j V) (k : ℕ) : rd (trip j V (k + 1)) (refs j).ys = ysPut (rd (trip j V k) (refs j).ys) (rd (trip j V (k + 1)) (refs j).h) (Scf.iv 0#32 1#32 k) := by
  rw [trip_h V j hV, trip, body_ys, trip_zAt V j hV, (cond_all j _).2.1, (cond_all j _).2.2.2.1, (cond_all j _).2.2.2.2.1, (cond_all j _).2.2.2.2.2, cond_ctr, trip_ctr j V hV.ctr k, (trip_const j V k).2.1]

/-- After `k` rounds the states are the scan's. -/
theorem trip_scan (j : Fin 4) (hV : Fresh j V) : ∀ k ≤ 256, (matR (rd (trip j V k) (refs j).h), matR (rd (trip j V k) (refs j).c)) = scanOf j V k
  | 0, _ => Prod.ext hV.h hV.c
  | k + 1, hk => by
    have ih := trip_scan j hV k (by omega)
    have e : k = (⟨k, hk⟩ : Fin 256).val := rfl
    have es : Spec.step k = ⟨k, hk⟩ := Spec.step_val ⟨k, hk⟩
    rw [trip_h V j hV, trip_c V j hV, round_eq, ih, show matR (rd (trip j V k) (refs j).h) = (scanOf j V k).1 from congrArg Prod.fst ih]
    have h1 : (fun b m => rowZ (rd V (refs j).zx) (Scf.iv 0#32 1#32 k) (ix2 b m)) = fun b m => rd V (refs j).zx (ix3 (Spec.step k) b m) := by
      funext b m; rw [es]; exact rowZ_apply _ ⟨k, hk⟩ b m
    have h2 : (fun b => rowM (F := Ideal) (rd V (refs j).msk) (Scf.iv 0#32 1#32 k) (ix1 b)) = fun b => rd V (refs j).msk (ix2 (Spec.step k) b) := by
      funext b; rw [es]; exact rowM_apply _ ⟨k, hk⟩ b
    rw [h1, h2]
    rfl

/-- After `k` rounds the first `k` output rows are the scan's hidden states. -/
theorem trip_rows (j : Fin 4) (hV : Fresh j V) : ∀ k ≤ 256, ∀ t : Fin 256, t.val < k → ∀ b n, rd (trip j V k) (refs j).ys (ix3 t b n) = (scanOf j V (t.val + 1)).1 b n
  | 0, _, t, ht, _, _ => absurd ht (Nat.not_lt_zero _)
  | k + 1, hk, t, ht, b, n => by
    rw [trip_ys V j hV, show k = (⟨k, hk⟩ : Fin 256).val from rfl, ysPut_apply]
    split
    · next h => subst h; exact congrFun (congrFun (congrArg Prod.fst (trip_scan V j hV (k + 1) hk)) b) n
    · next h => exact trip_rows j hV k (by omega) t (by have : t.val ≠ k := fun e => h (Fin.ext e); omega) b n

/-- What a loop leaves: the last states, and all the output rows. -/
theorem loop_h (j : Fin 4) (hV : Fresh j V) : matR (rd (loopV j V) (refs j).h) = (scanOf j V 256).1 := by
  rw [loopV, (cond_all j _).2.2.2.1]
  exact congrArg Prod.fst (trip_scan V j hV 256 le_rfl)

theorem loop_ys (j : Fin 4) (hV : Fresh j V) (t b : Fin 256) (n : Fin 512) : rd (loopV j V) (refs j).ys (ix3 t b n) = (scanOf j V (t.val + 1)).1 b n := by
  rw [loopV, (cond_all j _).2.2.2.2.2]
  exact trip_rows V j hV 256 le_rfl t t.isLt b n

end Cert.RefRun
end
-- ==== Proof.RefModel.lean ====
/-
  The reference's two layers as scans of the arguments.
-/
module

public import proofs.«01_k».proof.Proof.RefReads
public import proofs.«01_k».proof.Proof.RefScan
public import proofs.«01_k».proof.Proof.Model

@[expose] public section

set_option maxRecDepth 16384

noncomputable section

namespace Cert.RefRun

open Cert.ReferenceIdeal Cert.ReferenceIdeal.Gen
open Idealize.ShloMosaic
open Idealize.ShloMosaic.StableHlo
open Cert.Spec

theorem projOne_apply (x : Tn Ideal S256x256x512 .f32) (w : Tn Ideal S512x2048 .f32) (b : Tn Ideal S2048 .f32) (hb : ∀ i, b i = 0) (t r : Fin 256) (m : Fin 2048) :
    projOne x w b (ix3 t r m) = ∑ e : Fin 512, x (ix3 r t e) * w (ix2 e m) := by
  unfold projOne biasOf
  pointwise [hb]

theorem projTwo_apply (x y : Tn Ideal S256x256x512 .f32) (w : Tn Ideal S1024x2048 .f32) (b : Tn Ideal S2048 .f32) (hb : ∀ i, b i = 0) (t r : Fin 256) (m : Fin 2048) :
    projTwo (bothOf x y) w b (ix3 t r m) = (∑ e : Fin 512, x (ix3 r t e) * w (ix2 ⟨e.val, by omega⟩ m)) + ∑ e : Fin 512, y (ix3 r t e) * w (ix2 ⟨512 + e.val, by omega⟩ m) := by
  unfold projTwo biasOf bothOf
  pointwise [hb]

theorem projTwoRev_apply (x y : Tn Ideal S256x256x512 .f32) (w : Tn Ideal S1024x2048 .f32) (b : Tn Ideal S2048 .f32) (hb : ∀ i, b i = 0) (t r : Fin 256) (m : Fin 2048) :
    projTwo (Host.reverse [1] (bothOf x y)) w b (ix3 t r m) = (∑ e : Fin 512, x (ix3 r t.rev e) * w (ix2 ⟨e.val, by omega⟩ m)) + ∑ e : Fin 512, y (ix3 r t.rev e) * w (ix2 ⟨512 + e.val, by omega⟩ m) := by
  unfold projTwo biasOf bothOf
  pointwise [hb]
  rw [Fin.sum_univ_two_halves 512 512 rfl]
  congr 1 <;> refine Finset.sum_congr rfl fun e _ => ?_ <;> simp

theorem rev_apply (x : Tn Ideal S256x256x512 .f32) (t r : Fin 256) (e : Fin 512) : Host.reverse (s := S256x256x512) [1] x (ix3 r t e) = x (ix3 r t.rev e) := by
  pointwise []
  simp
theorem maskT_apply (k : Tn Ideal S256x256 .i1) (t r : Fin 256) : maskT (F := Ideal) k (ix2 t r) = k (ix2 r t) := by
  unfold maskT
  pointwise []
theorem maskRev_apply (k : Tn Ideal S256x256 .i1) (t r : Fin 256) : maskT (F := Ideal) (Host.reverse [1] k) (ix2 t r) = k (ix2 r t.rev) := by
  unfold maskT
  pointwise []
  simp
theorem rowsT_apply (k : Tn Ideal S256x256x512 .f32) (t r : Fin 256) (e : Fin 512) : rowsT k (ix3 r t e) = k (ix3 t r e) := by
  unfold rowsT
  pointwise []
theorem zeroSt_apply : matR (zeroSt (F := Ideal)) = fun _ _ => 0 := by
  funext b n
  unfold matR zeroSt
  pointwise []

end Cert.RefRun
end
-- ==== Proof.RefValue.lean ====
/-
  What the reference leaves in its result, the two layers as scans of the arguments.
-/
module

public import proofs.«01_k».proof.Proof.RefModel

@[expose] public section

set_option maxRecDepth 16384

noncomputable section

namespace Cert.RefRun

open Cert.ReferenceIdeal Cert.ReferenceIdeal.Gen
open Idealize.ShloMosaic
open Idealize.ShloMosaic.StableHlo
open Cert.Spec

section
variable {F : FTy → Type} [FloatOps F]
variable (m : (ℓ : Loc nD τ sig) → Buf (Elt F) ℓ) (c : Dev nD)

/-- A buffer nothing writes holds at every stage what it held at launch. -/
theorem kept {T : BufTy} (t : TRef sig T) (h : t.ref ∉ allW) :
    rd (loopV 0 (E0 m c)) t = rd (launchContents m c) t ∧ rd (loopV 1 (E1 m c)) t = rd (launchContents m c) t
      ∧ rd (loopV 2 (E2 m c)) t = rd (launchContents m c) t ∧ rd (loopV 3 (E3 m c)) t = rd (launchContents m c) t := by
  simp only [allW, List.mem_append, List.mem_cons, List.not_mem_nil, or_false, not_or] at h
  obtain ⟨s0, s1, s2, s3, s4, b0, b1, b2, b3, h0, h0', h1, h1', h2, h2', h3, h3'⟩ := h
  have k : ∀ {a b : Ref sig .tc}, ¬ t.ref = a → ¬ t.ref = b → t.ref ∉ [a, b] := fun x y => by
    simp only [List.mem_cons, List.not_mem_nil, or_false, not_or]; exact ⟨x, y⟩
  have e0 := (loop_keep 0 (E0 m c) _ b0 (k h0 h0')).trans (st_keep 0 _ _ s0)
  have e1 := ((loop_keep 1 (E1 m c) _ b1 (k h1 h1')).trans (st_keep 1 _ _ s1)).trans e0
  have e2 := ((loop_keep 2 (E2 m c) _ b2 (k h2 h2')).trans (st_keep 2 _ _ s2)).trans e1
  have e3 := ((loop_keep 3 (E3 m c) _ b3 (k h3 h3')).trans (st_keep 3 _ _ s3)).trans e2
  exact ⟨rd_congr t e0, rd_congr t e1, rd_congr t e2, rd_congr t e3⟩

theorem keptArg {T : BufTy} (t : TRef sig T) (h : t.ref ∈ argRefs) :
    rd (loopV 0 (E0 m c)) t = rd (launchContents m c) t ∧ rd (loopV 1 (E1 m c)) t = rd (launchContents m c) t
      ∧ rd (loopV 2 (E2 m c)) t = rd (launchContents m c) t ∧ rd (loopV 3 (E3 m c)) t = rd (launchContents m c) t :=
  kept m c t (args_unwritten _ h)

/-- An argument's launch contents. -/
abbrev arg {T : BufTy} (t : TRef sig T) : T.Contents (Elt F) := rd (launchContents m c) t

theorem tok_L0 : rd (loopV 0 (E0 m c)) tokR = tokOf (arg m c p0) (arg m c p2) :=
  (rd_congr _ (loop_keep 0 (E0 m c) _ (by decide) (by decide))).trans (st0_tok _)
theorem msk_L0 : rd (loopV 0 (E0 m c)) mskR = maskOf (arg m c p0) :=
  (rd_congr _ (loop_keep 0 (E0 m c) _ (by decide) (by decide))).trans (st0_msk _)
theorem msk_L1 : rd (loopV 1 (E1 m c)) mskR = maskOf (arg m c p0) :=
  (rd_congr _ ((loop_keep 1 (E1 m c) _ (by decide) (by decide)).trans (st_keep 1 _ _ (by decide)))).trans (msk_L0 m c)
theorem msk_L2 : rd (loopV 2 (E2 m c)) mskR = maskOf (arg m c p0) :=
  (rd_congr _ ((loop_keep 2 (E2 m c) _ (by decide) (by decide)).trans (st_keep 2 _ _ (by decide)))).trans (msk_L1 m c)
theorem fw_L1 : rd (loopV 1 (E1 m c)) fwR = rowsT (rd (loopV 0 (E0 m c)) (refs 0).ys) :=
  (rd_congr _ (loop_keep 1 (E1 m c) _ (by decide) (by decide))).trans (st1_fw _)
theorem both_L2 : rd (loopV 2 (E2 m c)) bothR = bothOf (rowsT (rd (loopV 0 (E0 m c)) (refs 0).ys)) (Host.reverse [1] (rowsT (rd (loopV 1 (E1 m c)) (refs 1).ys))) :=
  (rd_congr _ (loop_keep 2 (E2 m c) _ (by decide) (by decide))).trans ((st2_both _).trans (by rw [fw_L1]))
theorem h2_L3 : rd (loopV 3 (E3 m c)) (refs 2).h = rd (loopV 2 (E2 m c)) (refs 2).h :=
  rd_congr (refs 2).h ((loop_keep 3 (E3 m c) _ (by decide) (by decide)).trans (st_keep 3 _ _ (by decide)))

theorem res_E4 : rd (E4 m c) resR = probOf (hidTwo (hidOne (rd (loopV 2 (E2 m c)) (refs 2).h) (rd (loopV 3 (E3 m c)) (refs 3).h)
    (styOf (arg m c p1) (arg m c p3)) (arg m c p16) (arg m c p17)) (arg m c p18) (arg m c p19)) (arg m c p20) (arg m c p21) := by
  rw [E4, st4_res, h2_L3, (keptArg m c p1 (by decide)).2.2.2, (keptArg m c p3 (by decide)).2.2.2, (keptArg m c p16 (by decide)).2.2.2, (keptArg m c p17 (by decide)).2.2.2,
    (keptArg m c p18 (by decide)).2.2.2, (keptArg m c p19 (by decide)).2.2.2, (keptArg m c p20 (by decide)).2.2.2, (keptArg m c p21 (by decide)).2.2.2]
end

variable (m : (ℓ : Loc nD τ sig) → Buf (Elt Ideal) ℓ) (c : Dev nD)

theorem scan_congr {x x' : ℕ → Fin 256 → Fin 2048 → EReal} {k k' : ℕ → Fin 256 → BitVec 1} {w w' : Fin 512 → Fin 2048 → EReal}
    (hx : ∀ n b j, x n b j = x' n b j) (hk : ∀ n b, k n b = k' n b) (hw : ∀ e n, w e n = w' e n) : scan x k w = scan x' k' w' := by
  rw [show x = x' from funext fun n => funext fun b => funext fun j => hx n b j, show k = k' from funext fun n => funext fun b => hk n b,
    show w = w' from funext fun e => funext fun n => hw e n]

/-- What the layers read, of the reference's arguments. -/
def net : Net where
  tok t b e := tokOf (arg m c p0) (arg m c p2) (ix3 b t e)
  msk t b := maskOf (F := Ideal) (arg m c p0) (ix2 b t)
  wi1f e n := arg m c p4 (ix2 e n)
  wh1f e n := arg m c p5 (ix2 e n)
  wi1b e n := arg m c p7 (ix2 e n)
  wh1b e n := arg m c p8 (ix2 e n)
  wi2f e n := arg m c p10 (ix2 e n)
  wh2f e n := arg m c p11 (ix2 e n)
  wi2b e n := arg m c p13 (ix2 e n)
  wh2b e n := arg m c p14 (ix2 e n)

theorem fresh_all : Fresh 0 (E0 m c) ∧ Fresh 1 (E1 m c) ∧ Fresh 2 (E2 m c) ∧ Fresh 3 (E3 m c) := by
  have z0 := (st_zero (launchContents m c)).1
  have z1 := (st_zero (loopV 0 (E0 m c))).2.1
  have z2 := (st_zero (loopV 1 (E1 m c))).2.2.1
  have z3 := (st_zero (loopV 2 (E2 m c))).2.2.2
  exact ⟨⟨ctr0 m c, (congrArg matR z0.1).trans zeroSt_apply, (congrArg matR z0.2).trans zeroSt_apply⟩,
    ⟨ctr1 m c, (congrArg matR z1.1).trans zeroSt_apply, (congrArg matR z1.2).trans zeroSt_apply⟩,
    ⟨ctr2 m c, (congrArg matR z2.1).trans zeroSt_apply, (congrArg matR z2.2).trans zeroSt_apply⟩,
    ⟨ctr3 m c, (congrArg matR z3.1).trans zeroSt_apply, (congrArg matR z3.2).trans zeroSt_apply⟩⟩

variable (z6 : ∀ i, arg m c p6 i = 0) (z9 : ∀ i, arg m c p9 i = 0) (z12 : ∀ i, arg m c p12 i = 0) (z15 : ∀ i, arg m c p15 i = 0)

include z6 in
theorem scan0 : scanOf 0 (E0 m c) = fw (net m c) := by
  unfold scanOf fw
  have h := st0_loop (launchContents m c)
  rw [E0, h.1, h.2.1, h.2.2]
  refine scan_congr ?_ ?_ fun e n => rfl
  · intro n b k; exact projOne_apply _ _ _ z6 _ _ _
  · intro n b; exact maskT_apply _ _ _

include z9 in
theorem scan1 : scanOf 1 (E1 m c) = bw (net m c) := by
  unfold scanOf bw
  have h := st1_loop (loopV 0 (E0 m c))
  rw [E1, h.1, h.2.1, h.2.2, tok_L0, msk_L0, (keptArg m c p7 (by decide)).1, (keptArg m c p8 (by decide)).1, (keptArg m c p9 (by decide)).1]
  refine scan_congr ?_ ?_ fun e n => rfl
  · intro n b k
    rw [projOne_apply _ _ _ z9]
    exact Finset.sum_congr rfl fun e _ => by rw [rev_apply]; rfl
  · intro n b; exact maskRev_apply _ _ _

include z6 in
theorem ys0 (b t : Fin 256) (n : Fin 512) : rowsT (rd (loopV 0 (E0 m c)) (refs 0).ys) (ix3 b t n) = outF (net m c) t b n := by
  rw [rowsT_apply, loop_ys _ _ (fresh_all m c).1, scan0 m c z6]; rfl

include z9 in
theorem ys1 (b t : Fin 256) (n : Fin 512) : Host.reverse (s := S256x256x512) [1] (rowsT (rd (loopV 1 (E1 m c)) (refs 1).ys)) (ix3 b t n) = outB (net m c) t b n := by
  rw [rev_apply, rowsT_apply, loop_ys _ _ (fresh_all m c).2.1, scan1 m c z9]; rfl

include z6 z9 z12 in
theorem scan2 : scanOf 2 (E2 m c) = fw2 (net m c) := by
  unfold scanOf fw2
  have h := st2_loop (loopV 1 (E1 m c))
  rw [E2, h.1, h.2.1, h.2.2, fw_L1, msk_L1, (keptArg m c p10 (by decide)).2.1, (keptArg m c p11 (by decide)).2.1, (keptArg m c p12 (by decide)).2.1]
  refine scan_congr ?_ ?_ fun e n => rfl
  · intro n b k
    rw [projTwo_apply _ _ _ _ z12]
    simp only [ys0 m c z6, ys1 m c z9]
    unfold projB net
    rfl
  · intro n b; exact maskT_apply _ _ _

include z6 z9 z15 in
theorem scan3 : scanOf 3 (E3 m c) = bw2 (net m c) := by
  unfold scanOf bw2
  have h := st3_loop (loopV 2 (E2 m c))
  rw [E3, h.1, h.2.1, h.2.2, both_L2, msk_L2, (keptArg m c p13 (by decide)).2.2.1, (keptArg m c p14 (by decide)).2.2.1, (keptArg m c p15 (by decide)).2.2.1]
  refine scan_congr ?_ ?_ fun e n => rfl
  · intro n b k
    rw [projTwoRev_apply _ _ _ _ z15]
    simp only [ys0 m c z6, ys1 m c z9]
    unfold projB net
    rfl
  · intro n b; exact maskRev_apply _ _ _

include z6 z9 z12 in
theorem last_fw : matR (rd (loopV 2 (E2 m c)) (refs 2).h) = (fw2 (net m c) 256).1 := by
  rw [loop_h _ _ (fresh_all m c).2.2.1, scan2 m c z6 z9 z12]
include z6 z9 z15 in
theorem last_bw : matR (rd (loopV 3 (E3 m c)) (refs 3).h) = (bw2 (net m c) 256).1 := by
  rw [loop_h _ _ (fresh_all m c).2.2.2, scan3 m c z6 z9 z15]

end Cert.RefRun
end
-- ==== Proof.RefHead.lean ====
/-
  The reference's head, read at a row.
-/
module

public import proofs.«01_k».proof.Proof.RefModel
public import proofs.«01_k».proof.Proof.HeadModel
public import Idealize.ShloMosaic.Lib.Pointwise

@[expose] public section

set_option maxRecDepth 16384

noncomputable section

namespace Cert.RefRun

open Cert.ReferenceIdeal Cert.ReferenceIdeal.Gen
open Idealize.ShloMosaic Idealize.ShloMosaic.TcCoe
open Cert.Spec

theorem hidOne_apply (x y : Tn Ideal S256x512 .f32) (s : Tn Ideal S256x128 .f32) (w : Tn Ideal S1152x1024 .f32) (b : Tn Ideal S1024 .f32) (r : Fin 256) (n : Fin 1024) :
    hidOne x y s w b (ix2 r n) = relOne (fun r e => x (ix2 r e)) (fun r e => y (ix2 r e)) (fun r e => s (ix2 r e)) (fun e n => w (ix2 e n)) (fun n => b (ix1 n)) r n := by
  unfold relOne
  pointwise [hidOne]
theorem hidTwo_apply (x : Tn Ideal S256x1024 .f32) (w : Tn Ideal S1024x512 .f32) (b : Tn Ideal S512 .f32) (r : Fin 256) (n : Fin 512) :
    hidTwo x w b (ix2 r n) = relTwo (fun r e => x (ix2 r e)) (fun e n => w (ix2 e n)) (fun n => b (ix1 n)) r n := by
  unfold relTwo
  pointwise [hidTwo]
theorem probOf_apply (x : Tn Ideal S256x512 .f32) (w : Tn Ideal S512x1 .f32) (b : Tn Ideal S1 .f32) (r : Fin 256) :
    probOf x w b (ix2 r 0) = prob (fun r e => x (ix2 r e)) (fun e => w (ix2 e 0)) (b (ix1 0)) r := by
  unfold prob Ideal.logistic
  pointwise [probOf]

end Cert.RefRun
end
-- ==== Proof.RefAnswer.lean ====
/-
  The reference's result as a function of the arguments.
-/
module

public import proofs.«01_k».proof.Proof.RefValue
public import proofs.«01_k».proof.Proof.RefHead
public import proofs.«01_k».proof.Proof.NetOf
public import proofs.«01_k».proof.Proof.Reorder
public import Idealize.ShloMosaic.Lib.Routing.Ops

@[expose] public section

set_option maxRecDepth 16384

noncomputable section

namespace Cert.RefRun

open Cert.ReferenceIdeal Cert.ReferenceIdeal.Gen
open Idealize.ShloMosaic
open Idealize.ShloMosaic.StableHlo
open Cert.Spec

/-- The token rows at an index. -/
theorem tokOf_apply (q : Tn Ideal S256x256 .i32) (hq : ∀ i, (q i).toNat < 32000) (t : Tn Ideal S32000x512 .f32) (i j : Fin 256) (e : Fin 512) :
    tokOf q t (ix3 i j e) = t (ix2 ⟨min (q (ix2 i j)).toInt.toNat 31999, by omega⟩ e) := by
  have hw : ∀ i j : Fin 256, (broadcastInDim S256x256x1 ![0, 1] bcast_S256x256_S256x256x1_0_1
      (select (cmpi .slt q (broadcastInDim S256x256 ![] bcast_S_S256x256 (constantI S_ 32 0#32))) (addi q (broadcastInDim S256x256 ![] bcast_S_S256x256 (constantI S_ 32 32000#32))) q) : IVec S256x256x1 32) (ix3 i j 0) = q (ix2 i j) := fun i j => by
    have h : (broadcastInDim S256x256x1 ![0, 1] bcast_S256x256_S256x256x1_0_1
      (select (cmpi .slt q (broadcastInDim S256x256 ![] bcast_S_S256x256 (constantI S_ 32 0#32))) (addi q (broadcastInDim S256x256 ![] bcast_S_S256x256 (constantI S_ 32 32000#32))) q) : IVec S256x256x1 32) (ix3 i j 0)
      = Scalar.select (IntOp.cmpi .slt (q (ix2 i j)) 0#32) (IntOp.addi (q (ix2 i j)) 32000#32) (q (ix2 i j)) := by
      pointwise []
    exact h.trans (wrap_word ((hq _).trans (by decide)) _)
  unfold tokOf
  refine (Cert.Proof.rows_at (N := 32000) (by decide) gather_S32000x512_S256x256x1_S256x256x512_2_0_n_n_0_2_1512.wf t _ i j e).trans ?_
  simp only [hw]

/-- The style rows at an index. -/
theorem styOf_apply (q : Tn Ideal S256 .i32) (hq : ∀ i, (q i).toNat < 10) (t : Tn Ideal S10x128 .f32) (r : Fin 256) (e : Fin 128) : styOf q t (ix2 r e) = styAt q t r e := by
  have h := hq (ix1 r)
  have hw : (broadcastInDim S256x1 ![0] bcast_S256_S256x1_0
      (select (cmpi .slt q (broadcastInDim S256 ![] bcast_S_S256 (constantI S_ 32 0#32))) (addi q (broadcastInDim S256 ![] bcast_S_S256 (constantI S_ 32 10#32))) q) : IVec S256x1 32) (ix2 r 0) = q (ix1 r) := by
    have h : (broadcastInDim S256x1 ![0] bcast_S256_S256x1_0
      (select (cmpi .slt q (broadcastInDim S256 ![] bcast_S_S256 (constantI S_ 32 0#32))) (addi q (broadcastInDim S256 ![] bcast_S_S256 (constantI S_ 32 10#32))) q) : IVec S256x1 32) (ix2 r 0)
      = Scalar.select (IntOp.cmpi .slt (q (ix1 r)) 0#32) (IntOp.addi (q (ix1 r)) 10#32) (q (ix1 r)) := by
      pointwise []
    exact h.trans (wrap_word ((hq _).trans (by decide)) _)
  unfold styOf
  refine (Routing.gather_row gather_S10x128_S256x1_S256x128_1_0_n_n_0_1_1128 rfl rfl rfl rfl rfl t _ r e ⟨min (q (ix1 r)).toNat 9, by omega⟩ ?_ (by decide)).trans rfl
  refine hw.trans (BitVec.eq_of_toNat_eq ?_)
  rw [BitVec.toNat_ofNat]
  show _ = min (q (ix1 r)).toNat 9 % 2 ^ 32
  omega

variable (m : (ℓ : Loc nD τ sig) → Buf (Elt Ideal) ℓ) (c : Dev nD)

/-- The reference's data are the arguments'. -/
theorem net_eq (hq : ∀ i, (arg m c p0 i).toNat < 32000) : net m c = netOf (arg m c p0) (arg m c p2) (arg m c p4) (arg m c p5) (arg m c p7) (arg m c p8) (arg m c p10) (arg m c p11) (arg m c p13) (arg m c p14) := by
  have ht : (fun t b e => tokOf (arg m c p0) (arg m c p2) (ix3 b t e)) = fun (t b : Fin 256) (e : Fin 512) => arg m c p2 (ix2 ⟨min (arg m c p0 (ix2 b t)).toInt.toNat 31999, by omega⟩ e) :=
    funext fun t => funext fun b => funext fun e => tokOf_apply (arg m c p0) hq (arg m c p2) b t e
  unfold net netOf
  rw [ht]
  rfl

/-- The reference's result at a row. -/
theorem ref_answer (hq : ∀ i, (arg m c p0 i).toNat < 32000) (hs : ∀ i, (arg m c p1 i).toNat < 10) (z6 : ∀ i, arg m c p6 i = 0) (z9 : ∀ i, arg m c p9 i = 0) (z12 : ∀ i, arg m c p12 i = 0) (z15 : ∀ i, arg m c p15 i = 0) (r : Fin 256) :
    rd (E4 m c) resR (ix2 r 0) = answer (netOf (arg m c p0) (arg m c p2) (arg m c p4) (arg m c p5) (arg m c p7) (arg m c p8) (arg m c p10) (arg m c p11) (arg m c p13) (arg m c p14))
      (arg m c p1) (arg m c p3) (arg m c p16) (arg m c p17) (arg m c p18) (arg m c p19) (arg m c p20) (arg m c p21) r := by
  have hst : (fun (r : Fin 256) (e : Fin 128) => styOf (arg m c p1) (arg m c p3) (ix2 r e)) = styAt (arg m c p1) (arg m c p3) := funext fun r => funext fun e => styOf_apply _ hs _ r e
  have hf := last_fw m c z6 z9 z12
  have hb := last_bw m c z6 z9 z15
  unfold matR at hf hb
  rw [res_E4, probOf_apply]
  simp only [hidTwo_apply, hidOne_apply]
  rw [hf, hb, hst, net_eq m c hq]
  rfl

end Cert.RefRun
end
-- ==== Proof.SameAnswer.lean ====
/-
  The two ideal programs leave equal results, from arguments in range.
-/
module

public import proofs.«01_k».proof.Defs
public import proofs.«01_k».proof.Proof.KerAnswer
public import proofs.«01_k».proof.Proof.RefAnswer

@[expose] public section

set_option maxRecDepth 16384

noncomputable section

namespace Cert.Same

open Idealize.ShloMosaic Idealize.ShloMosaic.TcCoe
open Idealize.SL.Sem
open Cert.Spec

theorem range_facts : Cert.Pre_in_range.Facts := ⟨by decide, by decide, by decide⟩

/-- An ordered comparison for equality with zero that holds is an equality. -/
theorem zero_of_oeq (x : EReal) (h : FloatOps.cmpf (F := Ideal) (φ := .f32) .oeq x (FloatOps.ofBits (F := Ideal) .f32 0x00000000#32) = 1#1) : x = 0 := by
  have h1 : x = Ideal.ofBits .f32 0x00000000#32 := of_decide_eq_true ((StableHlo.Predicate.ofBool_eq_one_iff _).1 h)
  rw [h1]
  exact Ideal.ofBits_zero_f32

section
variable (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)

/-- The two programs' arguments are the same. -/
def Agree : Prop := ∀ c : Dev KernelIdeal.nD,
  m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)
      ∧ m' ((c.tc : Thread ReferenceIdeal.nD ReferenceIdeal.τ).loc ReferenceIdeal.main_arg14) = m ((c.tc : Thread KernelIdeal.nD KernelIdeal.τ).loc KernelIdeal.main_arg14)
      ∧ m' ((c.tc : Thread ReferenceIdeal.nD ReferenceIdeal.τ).loc ReferenceIdeal.main_arg15) = m ((c.tc : Thread KernelIdeal.nD KernelIdeal.τ).loc KernelIdeal.main_arg15)
      ∧ m' ((c.tc : Thread ReferenceIdeal.nD ReferenceIdeal.τ).loc ReferenceIdeal.main_arg16) = m ((c.tc : Thread KernelIdeal.nD KernelIdeal.τ).loc KernelIdeal.main_arg16)
      ∧ m' ((c.tc : Thread ReferenceIdeal.nD ReferenceIdeal.τ).loc ReferenceIdeal.main_arg17) = m ((c.tc : Thread KernelIdeal.nD KernelIdeal.τ).loc KernelIdeal.main_arg17)
      ∧ m' ((c.tc : Thread ReferenceIdeal.nD ReferenceIdeal.τ).loc ReferenceIdeal.main_arg18) = m ((c.tc : Thread KernelIdeal.nD KernelIdeal.τ).loc KernelIdeal.main_arg18)
      ∧ m' ((c.tc : Thread ReferenceIdeal.nD ReferenceIdeal.τ).loc ReferenceIdeal.main_arg19) = m ((c.tc : Thread KernelIdeal.nD KernelIdeal.τ).loc KernelIdeal.main_arg19)
      ∧ m' ((c.tc : Thread ReferenceIdeal.nD ReferenceIdeal.τ).loc ReferenceIdeal.main_arg20) = m ((c.tc : Thread KernelIdeal.nD KernelIdeal.τ).loc KernelIdeal.main_arg20)
      ∧ m' ((c.tc : Thread ReferenceIdeal.nD ReferenceIdeal.τ).loc ReferenceIdeal.main_arg21) = m ((c.tc : Thread KernelIdeal.nD KernelIdeal.τ).loc KernelIdeal.main_arg21)

/-- What the precondition says of the kernel's arguments. -/
structure InRange (c : Dev KernelIdeal.nD) : Prop where
  seq : ∀ i, ((Proof.at0 m c KernelIdeal.main_arg0 : Vec Ideal KernelIdeal.S256x256 .i32) i).toNat < 32000
  sty : ∀ i, ((Proof.at0 m c KernelIdeal.main_arg1 : Vec Ideal KernelIdeal.S256 .i32) i).toNat < 10
  z6 : ∀ i, (Proof.at0 m c KernelIdeal.main_arg6 : Vec Ideal KernelIdeal.S2048 .f32) i = (0 : EReal)
  z9 : ∀ i, (Proof.at0 m c KernelIdeal.main_arg9 : Vec Ideal KernelIdeal.S2048 .f32) i = (0 : EReal)
  z12 : ∀ i, (Proof.at0 m c KernelIdeal.main_arg12 : Vec Ideal KernelIdeal.S2048 .f32) i = (0 : EReal)
  z15 : ∀ i, (Proof.at0 m c KernelIdeal.main_arg15 : Vec Ideal KernelIdeal.S2048 .f32) i = (0 : EReal)

theorem inRange (hp : Cert.Pre_KernelIdeal_in_range (hPre_in_range := range_facts) m) (c : Dev KernelIdeal.nD) : InRange m c := by
  obtain ⟨h0, h1, h6, h9, h12, h15⟩ := hp c
  exact ⟨fun i => lt_of_range (b := 32000#32) (by decide) (congrFun h0 i), fun i => lt_of_range (b := 10#32) (by decide) (congrFun h1 i),
    fun i => zero_of_oeq _ (congrFun h6 i), fun i => zero_of_oeq _ (congrFun h9 i), fun i => zero_of_oeq _ (congrFun h12 i), fun i => zero_of_oeq _ (congrFun h15 i)⟩

/-- The two results, an element at a time. -/
theorem same_answer (hR : ∀ c, InRange m c) (hA : Agree m m') (c : Dev KernelIdeal.nD) :
    (RefRun.E4 m' c (Proc.devRef .tc ReferenceIdeal.main_v83) : Vec Ideal KernelIdeal.S256x1 .f32) = (Proof.W7 m c KernelIdeal.main_v44 : Vec Ideal KernelIdeal.S256x1 .f32) := by
  funext i
  obtain ⟨e0, e1, e2, e3, e4, e5, e6, e7, e8, e9, e10, e11, e12, e13, e14, e15, e16, e17, e18, e19, e20, e21⟩ := hA c
  obtain ⟨s0, s1, z6, z9, z12, z15⟩ := hR c
  have hi : i = ix2 (i 0) 0 := funext fun a => by
    match a with
    | ⟨0, _⟩ => rfl
    | ⟨1, _⟩ => exact Subsingleton.elim (α := Fin 1) _ _
  have key : ∀ r : Fin 256, (RefRun.E4 m' c (Proc.devRef .tc ReferenceIdeal.main_v83) : Vec Ideal KernelIdeal.S256x1 .f32) (ix2 r 0) = (Proof.W7 m c KernelIdeal.main_v44 : Vec Ideal KernelIdeal.S256x1 .f32) (ix2 r 0) := fun r => by
    have A0 : RefRun.arg m' c RefRun.p0 = Proof.at0 m c KernelIdeal.main_arg0 := e0
    have A1 : RefRun.arg m' c RefRun.p1 = Proof.at0 m c KernelIdeal.main_arg1 := e1
    have A2 : RefRun.arg m' c RefRun.p2 = Proof.at0 m c KernelIdeal.main_arg2 := e2
    have A3 : RefRun.arg m' c RefRun.p3 = Proof.at0 m c KernelIdeal.main_arg3 := e3
    have A4 : RefRun.arg m' c RefRun.p4 = Proof.at0 m c KernelIdeal.main_arg4 := e4
    have A5 : RefRun.arg m' c RefRun.p5 = Proof.at0 m c KernelIdeal.main_arg5 := e5
    have A7 : RefRun.arg m' c RefRun.p7 = Proof.at0 m c KernelIdeal.main_arg7 := e7
    have A8 : RefRun.arg m' c RefRun.p8 = Proof.at0 m c KernelIdeal.main_arg8 := e8
    have A10 : RefRun.arg m' c RefRun.p10 = Proof.at0 m c KernelIdeal.main_arg10 := e10
    have A11 : RefRun.arg m' c RefRun.p11 = Proof.at0 m c KernelIdeal.main_arg11 := e11
    have A13 : RefRun.arg m' c RefRun.p13 = Proof.at0 m c KernelIdeal.main_arg13 := e13
    have A14 : RefRun.arg m' c RefRun.p14 = Proof.at0 m c KernelIdeal.main_arg14 := e14
    have A16 : RefRun.arg m' c RefRun.p16 = Proof.at0 m c KernelIdeal.main_arg16 := e16
    have A17 : RefRun.arg m' c RefRun.p17 = Proof.at0 m c KernelIdeal.main_arg17 := e17
    have A18 : RefRun.arg m' c RefRun.p18 = Proof.at0 m c KernelIdeal.main_arg18 := e18
    have A19 : RefRun.arg m' c RefRun.p19 = Proof.at0 m c KernelIdeal.main_arg19 := e19
    have A20 : RefRun.arg m' c RefRun.p20 = Proof.at0 m c KernelIdeal.main_arg20 := e20
    have A21 : RefRun.arg m' c RefRun.p21 = Proof.at0 m c KernelIdeal.main_arg21 := e21
    have A6 : RefRun.arg m' c RefRun.p6 = Proof.at0 m c KernelIdeal.main_arg6 := e6
    have A9 : RefRun.arg m' c RefRun.p9 = Proof.at0 m c KernelIdeal.main_arg9 := e9
    have A12 : RefRun.arg m' c RefRun.p12 = Proof.at0 m c KernelIdeal.main_arg12 := e12
    have A15 : RefRun.arg m' c RefRun.p15 = Proof.at0 m c KernelIdeal.main_arg15 := e15
    refine (RefRun.ref_answer m' c (fun i => ?_) (fun i => ?_) (fun i => ?_) (fun i => ?_) (fun i => ?_) (fun i => ?_) r).trans ((?_ : _ = _).trans (Proof.ker_answer m c s0 s1 r).symm)
    · rw [A0]; exact s0 i
    · rw [A1]; exact s1 i
    · rw [A6]; exact z6 i
    · rw [A9]; exact z9 i
    · rw [A12]; exact z12 i
    · rw [A15]; exact z15 i
    · rw [A0, A1, A2, A3, A4, A5, A7, A8, A10, A11, A13, A14, A16, A17, A18, A19, A20, A21]
      rfl
  rw [hi]
  exact key (i 0)

end

end Cert.Same
end
-- ==== Proof.SameResults.lean ====
/-
  The value claim: from arguments in range, both ideal programs run and leave equal results and unchanged arguments.
-/
module

public import proofs.«01_k».proof.Proof.SameAnswer

@[expose] public section

set_option maxRecDepth 16384

noncomputable section

namespace Cert.Same

open Idealize.ShloMosaic Idealize.ShloMosaic.TcCoe
open Idealize.SL.Sem

/-- The kernel program's run: its result and its arguments. -/
theorem kernel_end (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r =>
      (∀ c : Dev KernelIdeal.nD, r.2.mem ((c.tc : Thread KernelIdeal.nD KernelIdeal.τ).loc KernelIdeal.main_v44) = Proof.W7 m c KernelIdeal.main_v44)
      ∧ ∀ (c : Dev KernelIdeal.nD) (a : Ref KernelIdeal.sig .tc), a.isScoped = false → KernelIdeal.Gen.V7 m (Proof.outs m) c a = m ((c.tc : Thread KernelIdeal.nD KernelIdeal.τ).loc a) →
        r.2.mem ((c.tc : Thread KernelIdeal.nD KernelIdeal.τ).loc a) = m ((c.tc : Thread KernelIdeal.nD KernelIdeal.τ).loc a)) := by
  refine (θ_run _ _ _).mono (fun r h => ?_) (Proof.kernel_run m g)
  refine ⟨fun c => h.1 c _ (Proof.mem_ucRefs KernelIdeal.main_v44 rfl), fun c a hs hV => ?_⟩
  rw [Proof.V7_eq] at hV
  exact (h.1 c _ (Proof.mem_ucRefs a hs)).trans hV

/-- The reference's run: its result and its arguments. -/
theorem ref_end (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD, r.2.mem ((c.tc : Thread ReferenceIdeal.nD ReferenceIdeal.τ).loc ReferenceIdeal.main_v83) = RefRun.E4 m c (Proc.devRef .tc ReferenceIdeal.main_v83))
      ∧ ∀ (c : Dev ReferenceIdeal.nD) (a : Ref ReferenceIdeal.sig .tc), a.isScoped = false → a ∈ RefRun.argRefs →
        r.2.mem ((c.tc : Thread ReferenceIdeal.nD ReferenceIdeal.τ).loc a) = m ((c.tc : Thread ReferenceIdeal.nD ReferenceIdeal.τ).loc a)) := by
  refine (θ_run _ _ _).mono (fun r h => ?_) (RefRun.ref_run m g)
  exact ⟨fun c => h.1 c _ (RefRun.mem_ucRefs ReferenceIdeal.main_v83 rfl), fun c a hs ha => (h.1 c _ (RefRun.mem_ucRefs a hs)).trans (RefRun.E4_keep m c a (RefRun.args_unwritten a ha))⟩

theorem same_results : Cert.algebraic_KernelIdeal_ReferenceIdeal_pre_in_range (hPre_in_range := range_facts) := by
  intro m g m' g' hp hA
  refine ⟨fun c => Proof.W7 m c KernelIdeal.main_v44, (θ_run _ _ _).mono (fun r h c => ?_) (kernel_end m g), (θ_run _ _ _).mono (fun r h c => ?_) (ref_end m' g')⟩
  · have k := h.2 c
    exact ⟨h.1 c, k KernelIdeal.main_arg0 rfl (KernelIdeal.Gen.V7_main_arg0 m (Proof.outs m) c), k KernelIdeal.main_arg1 rfl (KernelIdeal.Gen.V7_main_arg1 m (Proof.outs m) c), k KernelIdeal.main_arg2 rfl (KernelIdeal.Gen.V7_main_arg2 m (Proof.outs m) c), k KernelIdeal.main_arg3 rfl (KernelIdeal.Gen.V7_main_arg3 m (Proof.outs m) c), k KernelIdeal.main_arg4 rfl (KernelIdeal.Gen.V7_main_arg4 m (Proof.outs m) c), k KernelIdeal.main_arg5 rfl (KernelIdeal.Gen.V7_main_arg5 m (Proof.outs m) c), k KernelIdeal.main_arg6 rfl (KernelIdeal.Gen.V7_main_arg6 m (Proof.outs m) c), k KernelIdeal.main_arg7 rfl (KernelIdeal.Gen.V7_main_arg7 m (Proof.outs m) c), k KernelIdeal.main_arg8 rfl (KernelIdeal.Gen.V7_main_arg8 m (Proof.outs m) c), k KernelIdeal.main_arg9 rfl (KernelIdeal.Gen.V7_main_arg9 m (Proof.outs m) c), k KernelIdeal.main_arg10 rfl (KernelIdeal.Gen.V7_main_arg10 m (Proof.outs m) c), k KernelIdeal.main_arg11 rfl (KernelIdeal.Gen.V7_main_arg11 m (Proof.outs m) c), k KernelIdeal.main_arg12 rfl (KernelIdeal.Gen.V7_main_arg12 m (Proof.outs m) c), k KernelIdeal.main_arg13 rfl (KernelIdeal.Gen.V7_main_arg13 m (Proof.outs m) c), k KernelIdeal.main_arg14 rfl (KernelIdeal.Gen.V7_main_arg14 m (Proof.outs m) c), k KernelIdeal.main_arg15 rfl (KernelIdeal.Gen.V7_main_arg15 m (Proof.outs m) c), k KernelIdeal.main_arg16 rfl (KernelIdeal.Gen.V7_main_arg16 m (Proof.outs m) c), k KernelIdeal.main_arg17 rfl (KernelIdeal.Gen.V7_main_arg17 m (Proof.outs m) c), k KernelIdeal.main_arg18 rfl (KernelIdeal.Gen.V7_main_arg18 m (Proof.outs m) c), k KernelIdeal.main_arg19 rfl (KernelIdeal.Gen.V7_main_arg19 m (Proof.outs m) c), k KernelIdeal.main_arg20 rfl (KernelIdeal.Gen.V7_main_arg20 m (Proof.outs m) c), k KernelIdeal.main_arg21 rfl (KernelIdeal.Gen.V7_main_arg21 m (Proof.outs m) c)⟩
  · have k := h.2 c
    exact ⟨(h.1 c).trans (same_answer m m' (inRange m hp) hA c), k ReferenceIdeal.main_arg0 rfl (by decide), k ReferenceIdeal.main_arg1 rfl (by decide), k ReferenceIdeal.main_arg2 rfl (by decide), k ReferenceIdeal.main_arg3 rfl (by decide), k ReferenceIdeal.main_arg4 rfl (by decide), k ReferenceIdeal.main_arg5 rfl (by decide), k ReferenceIdeal.main_arg6 rfl (by decide), k ReferenceIdeal.main_arg7 rfl (by decide), k ReferenceIdeal.main_arg8 rfl (by decide), k ReferenceIdeal.main_arg9 rfl (by decide), k ReferenceIdeal.main_arg10 rfl (by decide), k ReferenceIdeal.main_arg11 rfl (by decide), k ReferenceIdeal.main_arg12 rfl (by decide), k ReferenceIdeal.main_arg13 rfl (by decide), k ReferenceIdeal.main_arg14 rfl (by decide), k ReferenceIdeal.main_arg15 rfl (by decide), k ReferenceIdeal.main_arg16 rfl (by decide), k ReferenceIdeal.main_arg17 rfl (by decide), k ReferenceIdeal.main_arg18 rfl (by decide), k ReferenceIdeal.main_arg19 rfl (by decide), k ReferenceIdeal.main_arg20 rfl (by decide), k ReferenceIdeal.main_arg21 rfl (by decide)⟩

end Cert.Same
end
-- ==== Proof.lean ====
/-
  The proof of this certificate's claims: each program frames its arguments, the kernel's ideal program is the kernel,
  and the two ideal programs leave equal results.
-/
module

public import proofs.«01_k».proof.Defs
public import proofs.«01_k».proof.Proof.SameResults

@[expose] public section

noncomputable section

namespace Cert.Proof

theorem claim : Cert.Claim :=
  ⟨Cert.Kernel.Gen.facts, Cert.KernelIdeal.Gen.facts, Cert.ReferenceIdeal.Gen.facts, Cert.Same.range_facts,
    quiet_bits, quiet_ideal, fun m g _ => quiet_ideal m g trivial, Cert.RefRun.quiet_ref, fun m g _ => Cert.RefRun.quiet_ref m g trivial, trivial,
    Cert.Same.same_results⟩

end Cert.Proof

end
